-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v18_0)) (v1 : (c : Dev Cert.Kernel2Ideal.nD) → Buf (Elt Ideal) ((c.tc : Thread Cert.Kernel2Ideal.nD Cert.Kernel2Ideal.τ).loc Cert.Kernel2Ideal.main_v18_1)) (v2 : (c : Dev Cert.Kernel2Ideal.nD) → Buf (Elt Ideal) ((c.tc : Thread Cert.Kernel2Ideal.nD Cert.Kernel2Ideal.τ).loc Cert.Kernel2Ideal.main_v18_2)) (v3 : (c : Dev Cert.Kernel2Ideal.nD) → Buf (Elt Ideal) ((c.tc : Thread Cert.Kernel2Ideal.nD Cert.Kernel2Ideal.τ).loc Cert.Kernel2Ideal.main_v18_3)) (v4 : (c : Dev Cert.Kernel2Ideal.nD) → Buf (Elt Ideal) ((c.tc : Thread Cert.Kernel2Ideal.nD Cert.Kernel2Ideal.τ).loc Cert.Kernel2Ideal.main_v18_4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v18_0) = v0 c
          ∧ r.2.mem ((c.tc : Thread Cert.Kernel2Ideal.nD Cert.Kernel2Ideal.τ).loc Cert.Kernel2Ideal.main_v18_1) = v1 c
          ∧ r.2.mem ((c.tc : Thread Cert.Kernel2Ideal.nD Cert.Kernel2Ideal.τ).loc Cert.Kernel2Ideal.main_v18_2) = v2 c
          ∧ r.2.mem ((c.tc : Thread Cert.Kernel2Ideal.nD Cert.Kernel2Ideal.τ).loc Cert.Kernel2Ideal.main_v18_3) = v3 c
          ∧ r.2.mem ((c.tc : Thread Cert.Kernel2Ideal.nD Cert.Kernel2Ideal.τ).loc Cert.Kernel2Ideal.main_v18_4) = v4 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v27) = v0 c
          ∧ r.2.mem ((c.tc : Thread Cert.Reference2Ideal.nD Cert.Reference2Ideal.τ).loc Cert.Reference2Ideal.main_v15) = v1 c
          ∧ r.2.mem ((c.tc : Thread Cert.Reference2Ideal.nD Cert.Reference2Ideal.τ).loc Cert.Reference2Ideal.main_v28) = v2 c
          ∧ r.2.mem ((c.tc : Thread Cert.Reference2Ideal.nD Cert.Reference2Ideal.τ).loc Cert.Reference2Ideal.main_v18) = v3 c
          ∧ r.2.mem ((c.tc : Thread Cert.Reference2Ideal.nD Cert.Reference2Ideal.τ).loc Cert.Reference2Ideal.main_v25) = v4 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v10_0)) (v1 : (c : Dev Cert.Kernel3Ideal.nD) → Buf (Elt Ideal) ((c.tc : Thread Cert.Kernel3Ideal.nD Cert.Kernel3Ideal.τ).loc Cert.Kernel3Ideal.main_v10_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10_0) = v0 c
          ∧ r.2.mem ((c.tc : Thread Cert.Kernel3Ideal.nD Cert.Kernel3Ideal.τ).loc Cert.Kernel3Ideal.main_v10_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_v16) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v47_0)) (v1 : (c : Dev Cert.Kernel5Ideal.nD) → Buf (Elt Ideal) ((c.tc : Thread Cert.Kernel5Ideal.nD Cert.Kernel5Ideal.τ).loc Cert.Kernel5Ideal.main_v47_1)) (v2 : (c : Dev Cert.Kernel5Ideal.nD) → Buf (Elt Ideal) ((c.tc : Thread Cert.Kernel5Ideal.nD Cert.Kernel5Ideal.τ).loc Cert.Kernel5Ideal.main_v47_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v47_0) = v0 c
          ∧ r.2.mem ((c.tc : Thread Cert.Kernel5Ideal.nD Cert.Kernel5Ideal.τ).loc Cert.Kernel5Ideal.main_v47_1) = v1 c
          ∧ r.2.mem ((c.tc : Thread Cert.Kernel5Ideal.nD Cert.Kernel5Ideal.τ).loc Cert.Kernel5Ideal.main_v47_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v103) = v0 c
          ∧ r.2.mem ((c.tc : Thread Cert.Reference5Ideal.nD Cert.Reference5Ideal.τ).loc Cert.Reference5Ideal.main_v104) = v1 c
          ∧ r.2.mem ((c.tc : Thread Cert.Reference5Ideal.nD Cert.Reference5Ideal.τ).loc Cert.Reference5Ideal.main_v105) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel5 : Cert.Kernel5.Facts) (hKernel5Ideal : Cert.Kernel5Ideal.Facts) (hReference5Ideal : Cert.Reference5Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel5_Kernel5Ideal
    ∧ algebraic_Kernel5Ideal_Reference5Ideal (hKernel5Ideal := hKernel5Ideal) (hReference5Ideal := hReference5Ideal)
-- ==== Pre_finite.lean ====
abbrev S8x8192x8x128 : Shape := ⟨4, ![8, 8192, 8, 128]⟩
abbrev S8x8192x8x64 : Shape := ⟨4, ![8, 8192, 8, 64]⟩
abbrev S8x8192x128 : Shape := ⟨3, ![8, 8192, 128]⟩
abbrev S8x8192x64 : Shape := ⟨3, ![8, 8192, 64]⟩
abbrev S128x8x128 : Shape := ⟨3, ![128, 8, 128]⟩
abbrev S_ : Shape := ⟨0, ![]⟩

class Facts : Prop where
  bcast_S_S8x8192x8x128 : S_.BroadcastsInDim S8x8192x8x128 (![] : Fin 0 → Fin S8x8192x8x128.rank)
  bcast_S_S8x8192x8x64 : S_.BroadcastsInDim S8x8192x8x64 (![] : Fin 0 → Fin S8x8192x8x64.rank)
  bcast_S_S8x8192x128 : S_.BroadcastsInDim S8x8192x128 (![] : Fin 0 → Fin S8x8192x128.rank)
  bcast_S_S8x8192x64 : S_.BroadcastsInDim S8x8192x64 (![] : Fin 0 → Fin S8x8192x64.rank)

variable [Facts]

def fn {F : FTy → Type} [FloatOps F] (main_arg0 : FVec F S8x8192x8x128 .f32) (main_arg1 : FVec F S8x8192x8x64 .f32) (main_arg2 : FVec F S8x8192x128 .f32) (main_arg3 : FVec F S8x8192x64 .f32) (main_arg4 : FVec F S128x8x128 .f32) : IVec S8x8192x8x128 1 × IVec S8x8192x8x64 1 × IVec S8x8192x128 1 × IVec S8x8192x64 1 :=
  let main_v0 : FVec F S8x8192x8x128 .f32 := Host.absf main_arg0
  let main_cst : FVec F S_ .f32 := constant S_ .f32 0x7F800000#32
  let main_v1 : FVec F S8x8192x8x128 .f32 := broadcastInDim S8x8192x8x128 ![] bcast_S_S8x8192x8x128 main_cst
  let main_v2 : IVec S8x8192x8x128 1 := cmpf .olt main_v0 main_v1
  let main_v3 : FVec F S8x8192x8x64 .f32 := Host.absf main_arg1
  let main_cst_0 : FVec F S_ .f32 := constant S_ .f32 0x7F800000#32
  let main_v4 : FVec F S8x8192x8x64 .f32 := broadcastInDim S8x8192x8x64 ![] bcast_S_S8x8192x8x64 main_cst_0
  let main_v5 : IVec S8x8192x8x64 1 := cmpf .olt main_v3 main_v4
  let main_v6 : FVec F S8x8192x128 .f32 := Host.absf main_arg2
  let main_cst_1 : FVec F S_ .f32 := constant S_ .f32 0x7F800000#32
  let main_v7 : FVec F S8x8192x128 .f32 := broadcastInDim S8x8192x128 ![] bcast_S_S8x8192x128 main_cst_1
  let main_v8 : IVec S8x8192x128 1 := cmpf .olt main_v6 main_v7
  let main_v9 : FVec F S8x8192x64 .f32 := Host.absf main_arg3
  let main_cst_2 : FVec F S_ .f32 := constant S_ .f32 0x7F800000#32
  let main_v10 : FVec F S8x8192x64 .f32 := broadcastInDim S8x8192x64 ![] bcast_S_S8x8192x64 main_cst_2
  let main_v11 : IVec S8x8192x64 1 := cmpf .olt main_v9 main_v10
  (main_v2, main_v5, main_v8, main_v11)
-- ==== Pre_finite2.lean ====
abbrev S65536x1024 : Shape := ⟨2, ![65536, 1024]⟩
abbrev S1024 : Shape := ⟨1, ![1024]⟩
abbrev S1024x3088 : Shape := ⟨2, ![1024, 3088]⟩
abbrev S16x512 : Shape := ⟨2, ![16, 512]⟩
abbrev S512 : Shape := ⟨1, ![512]⟩
abbrev S_ : Shape := ⟨0, ![]⟩
abbrev S1024x16 : Shape := ⟨2, ![1024, 16]⟩

class Facts : Prop where
  bcast_S_S1024 : S_.BroadcastsInDim S1024 (![] : Fin 0 → Fin S1024.rank)
  slices_S1024x3088_S1024x16_0_2048 : S1024x3088.Slices ![0, 2048] S1024x16
  bcast_S_S1024x16 : S_.BroadcastsInDim S1024x16 (![] : Fin 0 → Fin S1024x16.rank)
  bcast_S_S16x512 : S_.BroadcastsInDim S16x512 (![] : Fin 0 → Fin S16x512.rank)

variable [Facts]

def fn {F : FTy → Type} [FloatOps F] (main_arg0 : FVec F S65536x1024 .f32) (main_arg1 : FVec F S1024 .f32) (main_arg2 : FVec F S1024x3088 .f32) (main_arg3 : FVec F S16x512 .f32) (main_arg4 : FVec F S512 .f32) : IVec S1024 1 × IVec S1024x16 1 × IVec S16x512 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1024x16 .f32 := (extractStridedSlice S1024x16 ![0, 2048] · slices_S1024x3088_S1024x16_0_2048) main_arg2
  let main_v4 : FVec F S1024x16 .f32 := Host.absf main_v3
  let main_cst_0 : FVec F S_ .f32 := constant S_ .f32 0x7F800000#32
  let main_v5 : FVec F S1024x16 .f32 := broadcastInDim S1024x16 ![] bcast_S_S1024x16 main_cst_0
  let main_v6 : IVec S1024x16 1 := cmpf .olt main_v4 main_v5
  let main_v7 : FVec F S16x512 .f32 := Host.absf main_arg3
  let main_cst_1 : FVec F S_ .f32 := constant S_ .f32 0x7F800000#32
  let main_v8 : FVec F S16x512 .f32 := broadcastInDim S16x512 ![] bcast_S_S16x512 main_cst_1
  let main_v9 : IVec S16x512 1 := cmpf .olt main_v7 main_v8
  (main_v2, main_v6, main_v9)
-- ==== Kernel.lean ====
abbrev S8x8192x8x128 : Shape := ⟨4, ![8, 8192, 8, 128]⟩
abbrev S8x8192x8x64 : Shape := ⟨4, ![8, 8192, 8, 64]⟩
abbrev S8x8192x128 : Shape := ⟨3, ![8, 8192, 128]⟩
abbrev S8x8192x64 : Shape := ⟨3, ![8, 8192, 64]⟩
abbrev S128x8x128 : Shape := ⟨3, ![128, 8, 128]⟩
abbrev S_ : Shape := ⟨0, ![]⟩
abbrev S8x8192x8x256 : Shape := ⟨4, ![8, 8192, 8, 256]⟩
abbrev S128x512x2048 : Shape := ⟨3, ![128, 512, 2048]⟩
abbrev S128x2048x512 : Shape := ⟨3, ![128, 2048, 512]⟩
abbrev S8x8192x256 : Shape := ⟨3, ![8, 8192, 256]⟩
abbrev S65536x256 : Shape := ⟨2, ![65536, 256]⟩
abbrev S8x8192x16 : Shape := ⟨3, ![8, 8192, 16]⟩
abbrev S8x8192x144 : Shape := ⟨3, ![8, 8192, 144]⟩
abbrev S128x512x144 : Shape := ⟨3, ![128, 512, 144]⟩
abbrev S128x144x512 : Shape := ⟨3, ![128, 144, 512]⟩
abbrev S8x128x128 : Shape := ⟨3, ![8, 128, 128]⟩
abbrev S65536x1024 : Shape := ⟨2, ![65536, 1024]⟩
abbrev S1x2048x512 : Shape := ⟨3, ![1, 2048, 512]⟩
abbrev S8192x256 : Shape := ⟨2, ![8192, 256]⟩
abbrev S16x144x512 : Shape := ⟨3, ![16, 144, 512]⟩
abbrev S512x1024 : Shape := ⟨2, ![512, 1024]⟩
abbrev S512x512 : Shape := ⟨2, ![512, 512]⟩
abbrev S1x512 : Shape := ⟨2, ![1, 512]⟩
abbrev S144x512 : Shape := ⟨2, ![144, 512]⟩
abbrev S512x256 : Shape := ⟨2, ![512, 256]⟩
abbrev S1x256x512 : Shape := ⟨3, ![1, 256, 512]⟩
abbrev S256x512 : Shape := ⟨2, ![256, 512]⟩
abbrev S512 : Shape := ⟨1, ![512]⟩
abbrev S1x144x512 : Shape := ⟨3, ![1, 144, 512]⟩
abbrev S128x512 : Shape := ⟨2, ![128, 512]⟩
abbrev S1x128x128 : Shape := ⟨3, ![1, 128, 128]⟩
abbrev S128x128 : Shape := ⟨2, ![128, 128]⟩
abbrev S512x128 : Shape := ⟨2, ![512, 128]⟩

abbrev nBuf : Space → Nat
  | .hbm => 34
  | .vmem => 41
  | .smem => 0
  | _ => 0

abbrev bufTy : (tb : Table) → Fin (tcTables nBuf tb) → BufTy
  | .hbm, ⟨0, _⟩ => ⟨S8x8192x8x128, .f32⟩
  | .hbm, ⟨1, _⟩ => ⟨S8x8192x8x64, .f32⟩
  | .hbm, ⟨2, _⟩ => ⟨S8x8192x128, .f32⟩
  | .hbm, ⟨3, _⟩ => ⟨S8x8192x64, .f32⟩
  | .hbm, ⟨4, _⟩ => ⟨S128x8x128, .f32⟩
  | .hbm, ⟨5, _⟩ => ⟨S_, .i32⟩
  | .hbm, ⟨6, _⟩ => ⟨S_, .f32⟩
  | .hbm, ⟨7, _⟩ => ⟨S8x8192x8x128, .f32⟩
  | .hbm, ⟨8, _⟩ => ⟨S8x8192x8x256, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S8x8192x8x256, .f32⟩
  | .hbm, ⟨15, _⟩ => ⟨S8x8192x8x256, .f32⟩
  | .hbm, ⟨16, _⟩ => ⟨S128x512x2048, .f32⟩
  | .hbm, ⟨17, _⟩ => ⟨S128x2048x512, .f32⟩
  | .hbm, ⟨18, _⟩ => ⟨S128x2048x512, .bf16⟩
  | .hbm, ⟨19, _⟩ => ⟨S_, .i32⟩
  | .hbm, ⟨20, _⟩ => ⟨S_, .f32⟩
  | .hbm, ⟨21, _⟩ => ⟨S8x8192x128, .f32⟩
  | .hbm, ⟨22, _⟩ => ⟨S8x8192x256, .f32⟩
  | .hbm, ⟨23, _⟩ => ⟨S65536x256, .f32⟩
  | .hbm, ⟨24, _⟩ => ⟨S65536x256, .bf16⟩
  | .hbm, ⟨25, _⟩ => ⟨S_, .f32⟩
  | .hbm, ⟨26, _⟩ => ⟨S8x8192x16, .f32⟩
  | .hbm, ⟨27, _⟩ => ⟨S8x8192x144, .f32⟩
  | .hbm, ⟨28, _⟩ => ⟨S128x512x144, .f32⟩
  | .hbm, ⟨29, _⟩ => ⟨S128x144x512, .f32⟩
  | .hbm, ⟨30, _⟩ => ⟨S128x144x512, .bf16⟩
  | .hbm, ⟨31, _⟩ => ⟨S8x128x128, .f32⟩
  | .hbm, ⟨32, _⟩ => ⟨S8x128x128, .bf16⟩
  | .hbm, ⟨33, _⟩ => ⟨S65536x1024, .bf16⟩
  | .local _ .vmem, ⟨0, _⟩ => ⟨S1x2048x512, .bf16⟩
  | .local _ .vmem, ⟨1, _⟩ => ⟨S1x2048x512, .bf16⟩
  | .local _ .vmem, ⟨2, _⟩ => ⟨S8192x256, .bf16⟩
  | .local _ .vmem, ⟨3, _⟩ => ⟨S8192x256, .bf16⟩
  | .local _ .vmem, ⟨4, _⟩ => ⟨S16x144x512, .bf16⟩
  | .local _ .vmem, ⟨5, _⟩ => ⟨S16x144x512, .bf16⟩
  | .local _ .vmem, ⟨6, _⟩ => ⟨S8x128x128, .bf16⟩
  | .local _ .vmem, ⟨7, _⟩ => ⟨S512x1024, .bf16⟩
  | .local _ .vmem, ⟨8, _⟩ => ⟨S512x1024, .bf16⟩
  | .local _ .vmem, ⟨9, _⟩ => ⟨S512x512, .f32⟩
  | .local _ .vmem, ⟨10, _⟩ => ⟨S1x512, .f32⟩
  | .local _ .vmem, ⟨11, _⟩ => ⟨S1x512, .f32⟩
  | .local _ .vmem, ⟨12, _⟩ => ⟨S144x512, .f32⟩
  | .local _ .vmem, ⟨13, _⟩ => ⟨S512x512, .f32⟩
  | .local _ .vmem, ⟨14, _⟩ => ⟨S1x512, .f32⟩
  | .local _ .vmem, ⟨15, _⟩ => ⟨S1x512, .f32⟩
  | .local _ .vmem, ⟨16, _⟩ => ⟨S144x512, .f32⟩
  | .local _ .vmem, ⟨17, _⟩ => ⟨S512x512, .f32⟩
  | .local _ .vmem, ⟨18, _⟩ => ⟨S1x512, .f32⟩
  | .local _ .vmem, ⟨19, _⟩ => ⟨S1x512, .f32⟩
  | .local _ .vmem, ⟨20, _⟩ => ⟨S144x512, .f32⟩
  | .local _ .vmem, ⟨21, _⟩ => ⟨S512x512, .f32⟩
  | .local _ .vmem, ⟨22, _⟩ => ⟨S1x512, .f32⟩
  | .local _ .vmem, ⟨23, _⟩ => ⟨S1x512, .f32⟩
  | .local _ .vmem, ⟨24, _⟩ => ⟨S144x512, .f32⟩
  | .local _ .vmem, ⟨25, _⟩ => ⟨S512x512, .f32⟩
  | .local _ .vmem, ⟨26, _⟩ => ⟨S1x512, .f32⟩
  | .local _ .vmem, ⟨27, _⟩ => ⟨S1x512, .f32⟩
  | .local _ .vmem, ⟨28, _⟩ => ⟨S144x512, .f32⟩
  | .local _ .vmem, ⟨29, _⟩ => ⟨S512x512, .f32⟩
  | .local _ .vmem, ⟨30, _⟩ => ⟨S1x512, .f32⟩
  | .local _ .vmem, ⟨31, _⟩ => ⟨S1x512, .f32⟩
  | .local _ .vmem, ⟨32, _⟩ => ⟨S144x512, .f32⟩
  | .local _ .vmem, ⟨33, _⟩ => ⟨S512x512, .f32⟩
  | .local _ .vmem, ⟨34, _⟩ => ⟨S1x512, .f32⟩
  | .local _ .vmem, ⟨35, _⟩ => ⟨S1x512, .f32⟩
  | .local _ .vmem, ⟨36, _⟩ => ⟨S144x512, .f32⟩
  | .local _ .vmem, ⟨37, _⟩ => ⟨S512x512, .f32⟩
  | .local _ .vmem, ⟨38, _⟩ => ⟨S1x512, .f32⟩
  | .local _ .vmem, ⟨39, _⟩ => ⟨S1x512, .f32⟩
  | .local _ .vmem, ⟨40, _⟩ => ⟨S144x512, .f32⟩
  | _, _ => ⟨S8x8192x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_call1_v0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_scratch5 : Ref sig .tc := ⟨.vmem, 14, rfl⟩
abbrev cc0_scratch6 : Ref sig .tc := ⟨.vmem, 15, rfl⟩
abbrev cc0_scratch7 : Ref sig .tc := ⟨.vmem, 16, rfl⟩
abbrev cc0_scratch8 : Ref sig .tc := ⟨.vmem, 17, rfl⟩
abbrev cc0_scratch9 : Ref sig .tc := ⟨.vmem, 18, rfl⟩
abbrev cc0_scratch10 : Ref sig .tc := ⟨.vmem, 19, rfl⟩
abbrev cc0_scratch11 : Ref sig .tc := ⟨.vmem, 20, rfl⟩
abbrev cc0_scratch12 : Ref sig .tc := ⟨.vmem, 21, rfl⟩
abbrev cc0_scratch13 : Ref sig .tc := ⟨.vmem, 22, rfl⟩
abbrev cc0_scratch14 : Ref sig .tc := ⟨.vmem, 23, rfl⟩
abbrev cc0_scratch15 : Ref sig .tc := ⟨.vmem, 24, rfl⟩
abbrev cc0_scratch16 : Ref sig .tc := ⟨.vmem, 25, rfl⟩
abbrev cc0_scratch17 : Ref sig .tc := ⟨.vmem, 26, rfl⟩
abbrev cc0_scratch18 : Ref sig .tc := ⟨.vmem, 27, rfl⟩
abbrev cc0_scratch19 : Ref sig .tc := ⟨.vmem, 28, rfl⟩
abbrev cc0_scratch20 : Ref sig .tc := ⟨.vmem, 29, rfl⟩
abbrev cc0_scratch21 : Ref sig .tc := ⟨.vmem, 30, rfl⟩
abbrev cc0_scratch22 : Ref sig .tc := ⟨.vmem, 31, rfl⟩
abbrev cc0_scratch23 : Ref sig .tc := ⟨.vmem, 32, rfl⟩
abbrev cc0_scratch24 : Ref sig .tc := ⟨.vmem, 33, rfl⟩
abbrev cc0_scratch25 : Ref sig .tc := ⟨.vmem, 34, rfl⟩
abbrev cc0_scratch26 : Ref sig .tc := ⟨.vmem, 35, rfl⟩
abbrev cc0_scratch27 : Ref sig .tc := ⟨.vmem, 36, rfl⟩
abbrev cc0_scratch28 : Ref sig .tc := ⟨.vmem, 37, rfl⟩
abbrev cc0_scratch29 : Ref sig .tc := ⟨.vmem, 38, rfl⟩
abbrev cc0_scratch30 : Ref sig .tc := ⟨.vmem, 39, rfl⟩
abbrev cc0_scratch31 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 16], ![false, false]⟩

def k0_mult1 : BitVec 32 :=
  let c0_i32_9 : BitVec 32 := 0#32
  c0_i32_9
def k0_mult2 : BitVec 32 :=
  let c0_i32_26 : BitVec 32 := 0#32
  c0_i32_26
def k0_mult3 : BitVec 32 :=
  let c0_i32_42 : BitVec 32 := 0#32
  c0_i32_42
def k0_mult4 : BitVec 32 :=
  let c0_i32_58 : BitVec 32 := 0#32
  c0_i32_58
def k0_mult5 : BitVec 32 :=
  let c0_i32_74 : BitVec 32 := 0#32
  c0_i32_74
def k0_mult6 : BitVec 32 :=
  let c0_i32_90 : BitVec 32 := 0#32
  c0_i32_90
def k0_mult7 : BitVec 32 :=
  let c0_i32_106 : BitVec 32 := 0#32
  c0_i32_106
def k0_mult8 : BitVec 32 :=
  let c0_i32_122 : BitVec 32 := 0#32
  c0_i32_122
@[reducible] def k0_t1_loop (i : grid0.Coords) : Scf.Loop 32 :=
  let c0_i32_133 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let v202 : BitVec 32 := Scalar.subi v17 c0_i32_133
  let c1_i32_134 : BitVec 32 := 1#32
  let v204 : BitVec 32 := Scalar.divsi v202 c1_i32_134
  let v205 : BitVec 32 := Scalar.muli v204 c1_i32_134
  let v206 : BitVec 32 := Scalar.addi c0_i32_133 v205
  let c1_i32_135 : BitVec 32 := 1#32
  ⟨c0_i32_133, v206, c1_i32_135⟩
def k0_mult9 (i : grid0.Coords) (k0_t1 : Fin (k0_t1_loop i).trips) : BitVec 32 :=
  let c0_i32_133 : BitVec 32 := 0#32
  let c1_i32_135 : BitVec 32 := 1#32
  let arg39 : BitVec 32 := Scf.iv c0_i32_133 c1_i32_135 k0_t1
  let c1_i32_316 : BitVec 32 := 1#32
  let v529 : BitVec 32 := Scalar.addi arg39 c1_i32_316
  let c512_i32_317 : BitVec 32 := 512#32
  let v530 : BitVec 32 := Scalar.muli v529 c512_i32_317
  v530
def k0_off1 (i : grid0.Coords) (k0_t1 : Fin (k0_t1_loop i).trips) : Fin 2 → Nat :=
  let c0_i32_133 : BitVec 32 := 0#32
  let c1_i32_135 : BitVec 32 := 1#32
  let arg39 : BitVec 32 := Scf.iv c0_i32_133 c1_i32_135 k0_t1
  let c1_i32_316 : BitVec 32 := 1#32
  let v529 : BitVec 32 := Scalar.addi arg39 c1_i32_316
  let c512_i32_317 : BitVec 32 := 512#32
  let v530 : BitVec 32 := Scalar.muli v529 c512_i32_317
  let v531 : BitVec 32 := v530
  let v532 : Index := Scalar.indexCast v531
  let c0_318 : Index := 0#32
  ![v532.toNat, 0]
def k0_off2 (i : grid0.Coords) (k0_t1 : Fin (k0_t1_loop i).trips) : Fin 3 → Nat :=
  let c0_i32_133 : BitVec 32 := 0#32
  let c1_i32_135 : BitVec 32 := 1#32
  let arg39 : BitVec 32 := Scf.iv c0_i32_133 c1_i32_135 k0_t1
  let v551 : Index := Scalar.indexCast arg39
  let c0_328 : Index := 0#32
  let c0_329 : Index := 0#32
  ![v551.toNat, 0, 0]
def k0_mult10 (i : grid0.Coords) (k0_t1 : Fin (k0_t1_loop i).trips) : BitVec 32 :=
  let c0_i32_133 : BitVec 32 := 0#32
  let c1_i32_135 : BitVec 32 := 1#32
  let arg39 : BitVec 32 := Scf.iv c0_i32_133 c1_i32_135 k0_t1
  let c1_i32_343 : BitVec 32 := 1#32
  let v570 : BitVec 32 := Scalar.addi arg39 c1_i32_343
  let c512_i32_344 : BitVec 32 := 512#32
  let v571 : BitVec 32 := Scalar.muli v570 c512_i32_344
  v571
def k0_mult11 (i : grid0.Coords) (k0_t1 : Fin (k0_t1_loop i).trips) : BitVec 32 :=
  let c0_i32_133 : BitVec 32 := 0#32
  let c1_i32_135 : BitVec 32 := 1#32
  let arg39 : BitVec 32 := Scf.iv c0_i32_133 c1_i32_135 k0_t1
  let c1_i32_370 : BitVec 32 := 1#32
  let v611 : BitVec 32 := Scalar.addi arg39 c1_i32_370
  let c512_i32_371 : BitVec 32 := 512#32
  let v612 : BitVec 32 := Scalar.muli v611 c512_i32_371
  v612
def k0_mult12 (i : grid0.Coords) (k0_t1 : Fin (k0_t1_loop i).trips) : BitVec 32 :=
  let c0_i32_133 : BitVec 32 := 0#32
  let c1_i32_135 : BitVec 32 := 1#32
  let arg39 : BitVec 32 := Scf.iv c0_i32_133 c1_i32_135 k0_t1
  let c1_i32_397 : BitVec 32 := 1#32
  let v652 : BitVec 32 := Scalar.addi arg39 c1_i32_397
  let c512_i32_398 : BitVec 32 := 512#32
  let v653 : BitVec 32 := Scalar.muli v652 c512_i32_398
  v653
def k0_mult13 (i : grid0.Coords) (k0_t1 : Fin (k0_t1_loop i).trips) : BitVec 32 :=
  let c0_i32_133 : BitVec 32 := 0#32
  let c1_i32_135 : BitVec 32 := 1#32
  let arg39 : BitVec 32 := Scf.iv c0_i32_133 c1_i32_135 k0_t1
  let c1_i32_424 : BitVec 32 := 1#32
  let v693 : BitVec 32 := Scalar.addi arg39 c1_i32_424
  let c512_i32_425 : BitVec 32 := 512#32
  let v694 : BitVec 32 := Scalar.muli v693 c512_i32_425
  v694
def k0_mult14 (i : grid0.Coords) (k0_t1 : Fin (k0_t1_loop i).trips) : BitVec 32 :=
  let c0_i32_133 : BitVec 32 := 0#32
  let c1_i32_135 : BitVec 32 := 1#32
  let arg39 : BitVec 32 := Scf.iv c0_i32_133 c1_i32_135 k0_t1
  let c1_i32_451 : BitVec 32 := 1#32
  let v734 : BitVec 32 := Scalar.addi arg39 c1_i32_451
  let c512_i32_452 : BitVec 32 := 512#32
  let v735 : BitVec 32 := Scalar.muli v734 c512_i32_452
  v735
def k0_mult15 (i : grid0.Coords) (k0_t1 : Fin (k0_t1_loop i).trips) : BitVec 32 :=
  let c0_i32_133 : BitVec 32 := 0#32
  let c1_i32_135 : BitVec 32 := 1#32
  let arg39 : BitVec 32 := Scf.iv c0_i32_133 c1_i32_135 k0_t1
  let c1_i32_478 : BitVec 32 := 1#32
  let v775 : BitVec 32 := Scalar.addi arg39 c1_i32_478
  let c512_i32_479 : BitVec 32 := 512#32
  let v776 : BitVec 32 := Scalar.muli v775 c512_i32_479
  v776
def k0_mult16 (i : grid0.Coords) (k0_t1 : Fin (k0_t1_loop i).trips) : BitVec 32 :=
  let c0_i32_133 : BitVec 32 := 0#32
  let c1_i32_135 : BitVec 32 := 1#32
  let arg39 : BitVec 32 := Scf.iv c0_i32_133 c1_i32_135 k0_t1
  let c1_i32_505 : BitVec 32 := 1#32
  let v816 : BitVec 32 := Scalar.addi arg39 c1_i32_505
  let c512_i32_506 : BitVec 32 := 512#32
  let v817 : BitVec 32 := Scalar.muli v816 c512_i32_506
  v817
@[reducible] def k0_t2_loop (i : grid0.Coords) : Scf.Loop 32 :=
  let c0_i32_133 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let v202 : BitVec 32 := Scalar.subi v17 c0_i32_133
  let c1_i32_134 : BitVec 32 := 1#32
  let v204 : BitVec 32 := Scalar.divsi v202 c1_i32_134
  let v205 : BitVec 32 := Scalar.muli v204 c1_i32_134
  let v206 : BitVec 32 := Scalar.addi c0_i32_133 v205
  let v203 : BitVec 32 := Scalar.addi c0_i32_133 v202
  let c1_i32_136 : BitVec 32 := 1#32
  ⟨v206, v203, c1_i32_136⟩
def k0_mult17 (i : grid0.Coords) (k0_t2 : Fin (k0_t2_loop i).trips) : BitVec 32 :=
  let c0_i32_133 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let v202 : BitVec 32 := Scalar.subi v17 c0_i32_133
  let c1_i32_134 : BitVec 32 := 1#32
  let v204 : BitVec 32 := Scalar.divsi v202 c1_i32_134
  let v205 : BitVec 32 := Scalar.muli v204 c1_i32_134
  let v206 : BitVec 32 := Scalar.addi c0_i32_133 v205
  let c1_i32_136 : BitVec 32 := 1#32
  let arg39 : BitVec 32 := Scf.iv v206 c1_i32_136 k0_t2
  let c1_i32_316 : BitVec 32 := 1#32
  let v529 : BitVec 32 := Scalar.addi arg39 c1_i32_316
  let c512_i32_317 : BitVec 32 := 512#32
  let v530 : BitVec 32 := Scalar.muli v529 c512_i32_317
  v530
def k0_off3 (i : grid0.Coords) (k0_t2 : Fin (k0_t2_loop i).trips) : Fin 2 → Nat :=
  let c0_i32_133 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let v202 : BitVec 32 := Scalar.subi v17 c0_i32_133
  let c1_i32_134 : BitVec 32 := 1#32
  let v204 : BitVec 32 := Scalar.divsi v202 c1_i32_134
  let v205 : BitVec 32 := Scalar.muli v204 c1_i32_134
  let v206 : BitVec 32 := Scalar.addi c0_i32_133 v205
  let c1_i32_136 : BitVec 32 := 1#32
  let arg39 : BitVec 32 := Scf.iv v206 c1_i32_136 k0_t2
  let c1_i32_316 : BitVec 32 := 1#32
  let v529 : BitVec 32 := Scalar.addi arg39 c1_i32_316
  let c512_i32_317 : BitVec 32 := 512#32
  let v530 : BitVec 32 := Scalar.muli v529 c512_i32_317
  let v531 : BitVec 32 := v530
  let v532 : Index := Scalar.indexCast v531
  let c0_318 : Index := 0#32
  ![v532.toNat, 0]
def k0_off4 (i : grid0.Coords) (k0_t2 : Fin (k0_t2_loop i).trips) : Fin 3 → Nat :=
  let c0_i32_133 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let v202 : BitVec 32 := Scalar.subi v17 c0_i32_133
  let c1_i32_134 : BitVec 32 := 1#32
  let v204 : BitVec 32 := Scalar.divsi v202 c1_i32_134
  let v205 : BitVec 32 := Scalar.muli v204 c1_i32_134
  let v206 : BitVec 32 := Scalar.addi c0_i32_133 v205
  let c1_i32_136 : BitVec 32 := 1#32
  let arg39 : BitVec 32 := Scf.iv v206 c1_i32_136 k0_t2
  let v551 : Index := Scalar.indexCast arg39
  let c0_328 : Index := 0#32
  let c0_329 : Index := 0#32
  ![v551.toNat, 0, 0]
def k0_mult18 (i : grid0.Coords) (k0_t2 : Fin (k0_t2_loop i).trips) : BitVec 32 :=
  let c0_i32_133 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let v202 : BitVec 32 := Scalar.subi v17 c0_i32_133
  let c1_i32_134 : BitVec 32 := 1#32
  let v204 : BitVec 32 := Scalar.divsi v202 c1_i32_134
  let v205 : BitVec 32 := Scalar.muli v204 c1_i32_134
  let v206 : BitVec 32 := Scalar.addi c0_i32_133 v205
  let c1_i32_136 : BitVec 32 := 1#32
  let arg39 : BitVec 32 := Scf.iv v206 c1_i32_136 k0_t2
  let c1_i32_343 : BitVec 32 := 1#32
  let v570 : BitVec 32 := Scalar.addi arg39 c1_i32_343
  let c512_i32_344 : BitVec 32 := 512#32
  let v571 : BitVec 32 := Scalar.muli v570 c512_i32_344
  v571
def k0_mult19 (i : grid0.Coords) (k0_t2 : Fin (k0_t2_loop i).trips) : BitVec 32 :=
  let c0_i32_133 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let v202 : BitVec 32 := Scalar.subi v17 c0_i32_133
  let c1_i32_134 : BitVec 32 := 1#32
  let v204 : BitVec 32 := Scalar.divsi v202 c1_i32_134
  let v205 : BitVec 32 := Scalar.muli v204 c1_i32_134
  let v206 : BitVec 32 := Scalar.addi c0_i32_133 v205
  let c1_i32_136 : BitVec 32 := 1#32
  let arg39 : BitVec 32 := Scf.iv v206 c1_i32_136 k0_t2
  let c1_i32_370 : BitVec 32 := 1#32
  let v611 : BitVec 32 := Scalar.addi arg39 c1_i32_370
  let c512_i32_371 : BitVec 32 := 512#32
  let v612 : BitVec 32 := Scalar.muli v611 c512_i32_371
  v612
def k0_mult20 (i : grid0.Coords) (k0_t2 : Fin (k0_t2_loop i).trips) : BitVec 32 :=
  let c0_i32_133 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let v202 : BitVec 32 := Scalar.subi v17 c0_i32_133
  let c1_i32_134 : BitVec 32 := 1#32
  let v204 : BitVec 32 := Scalar.divsi v202 c1_i32_134
  let v205 : BitVec 32 := Scalar.muli v204 c1_i32_134
  let v206 : BitVec 32 := Scalar.addi c0_i32_133 v205
  let c1_i32_136 : BitVec 32 := 1#32
  let arg39 : BitVec 32 := Scf.iv v206 c1_i32_136 k0_t2
  let c1_i32_397 : BitVec 32 := 1#32
  let v652 : BitVec 32 := Scalar.addi arg39 c1_i32_397
  let c512_i32_398 : BitVec 32 := 512#32
  let v653 : BitVec 32 := Scalar.muli v652 c512_i32_398
  v653
def k0_mult21 (i : grid0.Coords) (k0_t2 : Fin (k0_t2_loop i).trips) : BitVec 32 :=
  let c0_i32_133 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let v202 : BitVec 32 := Scalar.subi v17 c0_i32_133
  let c1_i32_134 : BitVec 32 := 1#32
  let v204 : BitVec 32 := Scalar.divsi v202 c1_i32_134
  let v205 : BitVec 32 := Scalar.muli v204 c1_i32_134
  let v206 : BitVec 32 := Scalar.addi c0_i32_133 v205
  let c1_i32_136 : BitVec 32 := 1#32
  let arg39 : BitVec 32 := Scf.iv v206 c1_i32_136 k0_t2
  let c1_i32_424 : BitVec 32 := 1#32
  let v693 : BitVec 32 := Scalar.addi arg39 c1_i32_424
  let c512_i32_425 : BitVec 32 := 512#32
  let v694 : BitVec 32 := Scalar.muli v693 c512_i32_425
  v694
def k0_mult22 (i : grid0.Coords) (k0_t2 : Fin (k0_t2_loop i).trips) : BitVec 32 :=
  let c0_i32_133 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let v202 : BitVec 32 := Scalar.subi v17 c0_i32_133
  let c1_i32_134 : BitVec 32 := 1#32
  let v204 : BitVec 32 := Scalar.divsi v202 c1_i32_134
  let v205 : BitVec 32 := Scalar.muli v204 c1_i32_134
  let v206 : BitVec 32 := Scalar.addi c0_i32_133 v205
  let c1_i32_136 : BitVec 32 := 1#32
  let arg39 : BitVec 32 := Scf.iv v206 c1_i32_136 k0_t2
  let c1_i32_451 : BitVec 32 := 1#32
  let v734 : BitVec 32 := Scalar.addi arg39 c1_i32_451
  let c512_i32_452 : BitVec 32 := 512#32
  let v735 : BitVec 32 := Scalar.muli v734 c512_i32_452
  v735
def k0_mult23 (i : grid0.Coords) (k0_t2 : Fin (k0_t2_loop i).trips) : BitVec 32 :=
  let c0_i32_133 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let v202 : BitVec 32 := Scalar.subi v17 c0_i32_133
  let c1_i32_134 : BitVec 32 := 1#32
  let v204 : BitVec 32 := Scalar.divsi v202 c1_i32_134
  let v205 : BitVec 32 := Scalar.muli v204 c1_i32_134
  let v206 : BitVec 32 := Scalar.addi c0_i32_133 v205
  let c1_i32_136 : BitVec 32 := 1#32
  let arg39 : BitVec 32 := Scf.iv v206 c1_i32_136 k0_t2
  let c1_i32_478 : BitVec 32 := 1#32
  let v775 : BitVec 32 := Scalar.addi arg39 c1_i32_478
  let c512_i32_479 : BitVec 32 := 512#32
  let v776 : BitVec 32 := Scalar.muli v775 c512_i32_479
  v776
def k0_mult24 (i : grid0.Coords) (k0_t2 : Fin (k0_t2_loop i).trips) : BitVec 32 :=
  let c0_i32_133 : BitVec 32 := 0#32
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let v202 : BitVec 32 := Scalar.subi v17 c0_i32_133
  let c1_i32_134 : BitVec 32 := 1#32
  let v204 : BitVec 32 := Scalar.divsi v202 c1_i32_134
  let v205 : BitVec 32 := Scalar.muli v204 c1_i32_134
  let v206 : BitVec 32 := Scalar.addi c0_i32_133 v205
  let c1_i32_136 : BitVec 32 := 1#32
  let arg39 : BitVec 32 := Scf.iv v206 c1_i32_136 k0_t2
  let c1_i32_505 : BitVec 32 := 1#32
  let v816 : BitVec 32 := Scalar.addi arg39 c1_i32_505
  let c512_i32_506 : BitVec 32 := 512#32
  let v817 : BitVec 32 := Scalar.muli v816 c512_i32_506
  v817
def k0_off5 (i : grid0.Coords) : Fin 3 → Nat :=
  let arg1 : BitVec 32 := BitVec.ofNat 32 (i 1).val
  let c512_i32 : BitVec 32 := 512#32
  let v0 : BitVec 32 := Scalar.muli arg1 c512_i32
  let c0_i32 : BitVec 32 := 0#32
  let v2 : BitVec 1 := Scalar.cmpi .sgt v0 c0_i32
  let v3 : BitVec 32 := Scalar.extui v2
  let c0_i32_1 : BitVec 32 := 0#32
  let v4 : BitVec 1 := Scalar.cmpi .slt v0 c0_i32_1
  let v5 : BitVec 32 := Scalar.extui v4
  let v6 : BitVec 32 := Scalar.subi v3 v5
  let c512_i32_0 : BitVec 32 := 512#32
  let c0_i32_2 : BitVec 32 := 0#32
  let v7 : BitVec 1 := Scalar.cmpi .sgt c512_i32_0 c0_i32_2
  let v8 : BitVec 32 := Scalar.extui v7
  let c0_i32_3 : BitVec 32 := 0#32
  let v9 : BitVec 1 := Scalar.cmpi .slt c512_i32_0 c0_i32_3
  let v10 : BitVec 32 := Scalar.extui v9
  let v11 : BitVec 32 := Scalar.subi v8 v10
  let v12 : BitVec 1 := Scalar.cmpi .ne v6 v11
  let v13 : BitVec 32 := Scalar.remsi v0 c512_i32_0
  let c0_i32_4 : BitVec 32 := 0#32
  let v14 : BitVec 1 := Scalar.cmpi .ne v13 c0_i32_4
  let v15 : BitVec 1 := Scalar.andi v12 v14
  let v1 : BitVec 32 := Scalar.divsi v0 c512_i32_0
  let c1_i32 : BitVec 32 := 1#32
  let v16 : BitVec 32 := Scalar.subi v1 c1_i32
  let v17 : BitVec 32 := Scalar.select v15 v16 v1
  let v232 : Index := Scalar.indexCast v17
  let c0_147 : Index := 0#32
  let c0_148 : Index := 0#32
  ![v232.toNat, 0, 0]
def cc0_transform_0 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x144x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S8x128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S8x8192x8x128 : Shape := ⟨4, ![8, 8192, 8, 128]⟩
abbrev S8x8192x8x64 : Shape := ⟨4, ![8, 8192, 8, 64]⟩
abbrev S8x8192x128 : Shape := ⟨3, ![8, 8192, 128]⟩
abbrev S8x8192x64 : Shape := ⟨3, ![8, 8192, 64]⟩
abbrev S128x8x128 : Shape := ⟨3, ![128, 8, 128]⟩
abbrev S8x8192x8x192 : Shape := ⟨4, ![8, 8192, 8, 192]⟩
abbrev S_ : Shape := ⟨0, ![]⟩
abbrev S8x8192x192 : Shape := ⟨3, ![8, 8192, 192]⟩
abbrev S8x8192x8192x8 : Shape := ⟨4, ![8, 8192, 8192, 8]⟩
abbrev S8x8x8192x8192 : Shape := ⟨4, ![8, 8, 8192, 8192]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x8x8192 : Shape := ⟨3, ![8, 8, 8192]⟩
abbrev S8x8x8192x1 : Shape := ⟨4, ![8, 8, 8192, 1]⟩
abbrev S8x128x8x8192 : Shape := ⟨4, ![8, 128, 8, 8192]⟩
abbrev S65536x1024 : Shape := ⟨2, ![65536, 1024]⟩

abbrev nBuf : Space → Nat
  | .hbm => 44
  | .vmem => 0
  | .smem => 0
  | _ => 0

abbrev bufTy : (tb : Table) → Fin (tcTables nBuf tb) → BufTy
  | .hbm, ⟨0, _⟩ => ⟨S8x8192x8x128, .f32⟩
  | .hbm, ⟨1, _⟩ => ⟨S8x8192x8x64, .f32⟩
  | .hbm, ⟨2, _⟩ => ⟨S8x8192x128, .f32⟩
  | .hbm, ⟨3, _⟩ => ⟨S8x8192x64, .f32⟩
  | .hbm, ⟨4, _⟩ => ⟨S128x8x128, .f32⟩
  | .hbm, ⟨5, _⟩ => ⟨S8x8192x8x192, .f32⟩
  | .hbm, ⟨6, _⟩ => ⟨S_, .f32⟩
  | .hbm, ⟨7, _⟩ => ⟨S_, .f32⟩
  | .hbm, ⟨8, _⟩ => ⟨S8x8192x8x192, .f32⟩
  | .hbm, ⟨9, _⟩ => ⟨S8x8192x8x192, .f32⟩
  | .hbm, ⟨10, _⟩ => ⟨S8x8192x192, .f32⟩
  | .hbm, ⟨11, _⟩ => ⟨S8x8192x8192x8, .f32⟩
  | .hbm, ⟨12, _⟩ => ⟨S8x8x8192x8192, .f32⟩
  | .hbm, ⟨13, _⟩ => ⟨S8192, .i32⟩
  | .hbm, ⟨14, _⟩ => ⟨S1x8192, .i32⟩
  | .hbm, ⟨15, _⟩ => ⟨S8192x1, .i32⟩
  | .hbm, ⟨16, _⟩ => ⟨S8192x8192, .i32⟩
  | .hbm, ⟨17, _⟩ => ⟨S8192x8192, .i32⟩
  | .hbm, ⟨18, _⟩ => ⟨S8192x8192, .i1⟩
  | .hbm, ⟨19, _⟩ => ⟨S_, .f32⟩
  | .hbm, ⟨20, _⟩ => ⟨S_, .f32⟩
  | .hbm, ⟨21, _⟩ => ⟨S8x8x8192x8192, .i1⟩
  | .hbm, ⟨22, _⟩ => ⟨S8x8x8192x8192, .f32⟩
  | .hbm, ⟨23, _⟩ => ⟨S8x8x8192x8192, .f32⟩
  | .hbm, ⟨24, _⟩ => ⟨S_, .f32⟩
  | .hbm, ⟨25, _⟩ => ⟨S8x8x8192, .f32⟩
  | .hbm, ⟨26, _⟩ => ⟨S_, .f32⟩
  | .hbm, ⟨27, _⟩ => ⟨S8x8x8192, .f32⟩
  | .hbm, ⟨28, _⟩ => ⟨S8x8x8192, .f32⟩
  | .hbm, ⟨29, _⟩ => ⟨S8x8x8192x1, .f32⟩
  | .hbm, ⟨30, _⟩ => ⟨S8x8x8192x8192, .f32⟩
  | .hbm, ⟨31, _⟩ => ⟨S8x8x8192x8192, .f32⟩
  | .hbm, ⟨32, _⟩ => ⟨S8x8x8192x8192, .f32⟩
  | .hbm, ⟨33, _⟩ => ⟨S_, .f32⟩
  | .hbm, ⟨34, _⟩ => ⟨S8x8x8192, .f32⟩
  | .hbm, ⟨35, _⟩ => ⟨S8x8x8192x1, .f32⟩
  | .hbm, ⟨36, _⟩ => ⟨S8x8x8192x8192, .f32⟩
  | .hbm, ⟨37, _⟩ => ⟨S8x8x8192x8192, .f32⟩
  | .hbm, ⟨38, _⟩ => ⟨S8x128x8x8192, .f32⟩
  | .hbm, ⟨39, _⟩ => ⟨S8x8192x8x128, .f32⟩
  | .hbm, ⟨40, _⟩ => ⟨S8x128x8x8192, .f32⟩
  | .hbm, ⟨41, _⟩ => ⟨S8x8192x8x128, .f32⟩
  | .hbm, ⟨42, _⟩ => ⟨S65536x1024, .f32⟩
  | .hbm, ⟨43, _⟩ => ⟨S65536x1024, .bf16⟩
  | _, _ => ⟨S8x8192x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]
-- ==== Kernel2.lean ====
abbrev S65536x1024 : Shape := ⟨2, ![65536, 1024]⟩
abbrev S1024 : Shape := ⟨1, ![1024]⟩
abbrev S1024x3088 : Shape := ⟨2, ![1024, 3088]⟩
abbrev S16x512 : Shape := ⟨2, ![16, 512]⟩
abbrev S512 : Shape := ⟨1, ![512]⟩
abbrev S1024x512 : Shape := ⟨2, ![1024, 512]⟩
abbrev S1024x1024 : Shape := ⟨2, ![1024, 1024]⟩
abbrev S1024x16 : Shape := ⟨2, ![1024, 16]⟩
abbrev S_ : Shape := ⟨0, ![]⟩
abbrev S1024x128 : Shape := ⟨2, ![1024, 128]⟩
abbrev S128x512 : Shape := ⟨2, ![128, 512]⟩
abbrev S1x1024 : Shape := ⟨2, ![1, 1024]⟩
abbrev S1x512 : Shape := ⟨2, ![1, 512]⟩
abbrev S65536x512 : Shape := ⟨2, ![65536, 512]⟩
abbrev S512x1024 : Shape := ⟨2, ![512, 1024]⟩
abbrev S512x512 : Shape := ⟨2, ![512, 512]⟩
abbrev S512x1 : Shape := ⟨2, ![512, 1]⟩
abbrev S512x128 : Shape := ⟨2, ![512, 128]⟩

abbrev nBuf : Space → Nat
  | .hbm => 32
  | .vmem => 21
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x3088, .f32⟩
  | .hbm, ⟨3, _⟩ => ⟨S16x512, .f32⟩
  | .hbm, ⟨4, _⟩ => ⟨S512, .f32⟩
  | .hbm, ⟨5, _⟩ => ⟨S1024x512, .f32⟩
  | .hbm, ⟨6, _⟩ => ⟨S1024x512, .bf16⟩
  | .hbm, ⟨7, _⟩ => ⟨S1024x512, .f32⟩
  | .hbm, ⟨8, _⟩ => ⟨S1024x512, .bf16⟩
  | .hbm, ⟨9, _⟩ => ⟨S1024x1024, .f32⟩
  | .hbm, ⟨10, _⟩ => ⟨S1024x1024, .bf16⟩
  | .hbm, ⟨11, _⟩ => ⟨S1024x16, .f32⟩
  | .hbm, ⟨12, _⟩ => ⟨S_, .i32⟩
  | .hbm, ⟨13, _⟩ => ⟨S_, .f32⟩
  | .hbm, ⟨14, _⟩ => ⟨S1024x128, .f32⟩
  | .hbm, ⟨15, _⟩ => ⟨S1024x128, .bf16⟩
  | .hbm, ⟨16, _⟩ => ⟨S1024x1024, .f32⟩
  | .hbm, ⟨17, _⟩ => ⟨S1024x1024, .bf16⟩
  | .hbm, ⟨18, _⟩ => ⟨S_, .i32⟩
  | .hbm, ⟨19, _⟩ => ⟨S_, .f32⟩
  | .hbm, ⟨20, _⟩ => ⟨S128x512, .f32⟩
  | .hbm, ⟨21, _⟩ => ⟨S128x512, .bf16⟩
  | .hbm, ⟨22, _⟩ => ⟨S128x512, .f32⟩
  | .hbm, ⟨23, _⟩ => ⟨S128x512, .f32⟩
  | .hbm, ⟨24, _⟩ => ⟨S128x512, .bf16⟩
  | .hbm, ⟨25, _⟩ => ⟨S1x1024, .f32⟩
  | .hbm, ⟨26, _⟩ => ⟨S1x512, .f32⟩
  | .hbm, ⟨27, _⟩ => ⟨S65536x512, .f32⟩
  | .hbm, ⟨28, _⟩ => ⟨S65536x512, .f32⟩
  | .hbm, ⟨29, _⟩ => ⟨S65536x1024, .bf16⟩
  | .hbm, ⟨30, _⟩ => ⟨S65536x1024, .f32⟩
  | .hbm, ⟨31, _⟩ => ⟨S65536x512, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S1024x1024, .bf16⟩
  | .local _ .vmem, ⟨6, _⟩ => ⟨S1024x1024, .bf16⟩
  | .local _ .vmem, ⟨7, _⟩ => ⟨S1024x128, .bf16⟩
  | .local _ .vmem, ⟨8, _⟩ => ⟨S128x512, .bf16⟩
  | .local _ .vmem, ⟨9, _⟩ => ⟨S128x512, .bf16⟩
  | .local _ .vmem, ⟨10, _⟩ => ⟨S1x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x512, .f32⟩
  | .local _ .vmem, ⟨15, _⟩ => ⟨S512x1024, .bf16⟩
  | .local _ .vmem, ⟨16, _⟩ => ⟨S512x1024, .bf16⟩
  | .local _ .vmem, ⟨17, _⟩ => ⟨S512x1024, .f32⟩
  | .local _ .vmem, ⟨18, _⟩ => ⟨S512x1024, .f32⟩
  | .local _ .vmem, ⟨19, _⟩ => ⟨S512x512, .f32⟩
  | .local _ .vmem, ⟨20, _⟩ => ⟨S512x512, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_c : Ref sig .tc := ⟨.hbm, 12, rfl⟩
abbrev main_call0_v0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_0 : Ref sig .tc := ⟨.hbm, 18, rfl⟩
abbrev main_call1_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18_0 : Ref sig .tc := ⟨.hbm, 27, rfl⟩
abbrev main_v18_1 : Ref sig .tc := ⟨.hbm, 28, rfl⟩
abbrev main_v18_2 : Ref sig .tc := ⟨.hbm, 29, rfl⟩
abbrev main_v18_3 : Ref sig .tc := ⟨.hbm, 30, rfl⟩
abbrev main_v18_4 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== Reference2Ideal.lean ====
abbrev S65536x1024 : Shape := ⟨2, ![65536, 1024]⟩
abbrev S1024 : Shape := ⟨1, ![1024]⟩
abbrev S1024x3088 : Shape := ⟨2, ![1024, 3088]⟩
abbrev S16x512 : Shape := ⟨2, ![16, 512]⟩
abbrev S512 : Shape := ⟨1, ![512]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x3088 : Shape := ⟨2, ![65536, 3088]⟩
abbrev S65536x512 : Shape := ⟨2, ![65536, 512]⟩
abbrev S65536x16 : Shape := ⟨2, ![65536, 16]⟩
abbrev S1x512 : Shape := ⟨2, ![1, 512]⟩

abbrev nBuf : Space → Nat
  | .hbm => 54
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x3088, .f32⟩
  | .hbm, ⟨3, _⟩ => ⟨S16x512, .f32⟩
  | .hbm, ⟨4, _⟩ => ⟨S512, .f32⟩
  | .hbm, ⟨5, _⟩ => ⟨S65536x1024, .f32⟩
  | .hbm, ⟨6, _⟩ => ⟨S_, .f32⟩
  | .hbm, ⟨7, _⟩ => ⟨S65536, .f32⟩
  | .hbm, ⟨8, _⟩ => ⟨S65536x1, .f32⟩
  | .hbm, ⟨9, _⟩ => ⟨S_, .f32⟩
  | .hbm, ⟨10, _⟩ => ⟨S65536x1, .f32⟩
  | .hbm, ⟨11, _⟩ => ⟨S65536x1, .f32⟩
  | .hbm, ⟨12, _⟩ => ⟨S_, .f32⟩
  | .hbm, ⟨13, _⟩ => ⟨S65536x1, .f32⟩
  | .hbm, ⟨14, _⟩ => ⟨S65536x1, .f32⟩
  | .hbm, ⟨15, _⟩ => ⟨S65536x1, .f32⟩
  | .hbm, ⟨16, _⟩ => ⟨S65536x1024, .f32⟩
  | .hbm, ⟨17, _⟩ => ⟨S65536x1024, .f32⟩
  | .hbm, ⟨18, _⟩ => ⟨S1x1024, .f32⟩
  | .hbm, ⟨19, _⟩ => ⟨S65536x1024, .f32⟩
  | .hbm, ⟨20, _⟩ => ⟨S65536x1024, .f32⟩
  | .hbm, ⟨21, _⟩ => ⟨S65536x3088, .f32⟩
  | .hbm, ⟨22, _⟩ => ⟨S65536x512, .f32⟩
  | .hbm, ⟨23, _⟩ => ⟨S65536x512, .f32⟩
  | .hbm, ⟨24, _⟩ => ⟨S65536x1024, .f32⟩
  | .hbm, ⟨25, _⟩ => ⟨S65536x16, .f32⟩
  | .hbm, ⟨26, _⟩ => ⟨S65536x1024, .f32⟩
  | .hbm, ⟨27, _⟩ => ⟨S65536x512, .f32⟩
  | .hbm, ⟨28, _⟩ => ⟨S1x512, .f32⟩
  | .hbm, ⟨29, _⟩ => ⟨S65536x512, .f32⟩
  | .hbm, ⟨30, _⟩ => ⟨S65536x512, .f32⟩
  | .hbm, ⟨31, _⟩ => ⟨S65536x512, .f32⟩
  | .hbm, ⟨32, _⟩ => ⟨S_, .f32⟩
  | .hbm, ⟨33, _⟩ => ⟨S65536x512, .f32⟩
  | .hbm, ⟨34, _⟩ => ⟨S65536x512, .f32⟩
  | .hbm, ⟨35, _⟩ => ⟨S65536x512, .f32⟩
  | .hbm, ⟨36, _⟩ => ⟨S65536x512, .f32⟩
  | .hbm, ⟨37, _⟩ => ⟨S65536x512, .i1⟩
  | .hbm, ⟨38, _⟩ => ⟨S65536x512, .f32⟩
  | .hbm, ⟨39, _⟩ => ⟨S65536x512, .f32⟩
  | .hbm, ⟨40, _⟩ => ⟨S65536x512, .f32⟩
  | .hbm, ⟨41, _⟩ => ⟨S65536x512, .f32⟩
  | .hbm, ⟨42, _⟩ => ⟨S65536x512, .f32⟩
  | .hbm, ⟨43, _⟩ => ⟨S65536x512, .f32⟩
  | .hbm, ⟨44, _⟩ => ⟨S65536x512, .f32⟩
  | .hbm, ⟨45, _⟩ => ⟨S65536x512, .f32⟩
  | .hbm, ⟨46, _⟩ => ⟨S65536x512, .f32⟩
  | .hbm, ⟨47, _⟩ => ⟨S_, .f32⟩
  | .hbm, ⟨48, _⟩ => ⟨S65536x512, .f32⟩
  | .hbm, ⟨49, _⟩ => ⟨S65536x512, .f32⟩
  | .hbm, ⟨50, _⟩ => ⟨S_, .f32⟩
  | .hbm, ⟨51, _⟩ => ⟨S65536x512, .f32⟩
  | .hbm, ⟨52, _⟩ => ⟨S65536x512, .f32⟩
  | .hbm, ⟨53, _⟩ => ⟨S65536x1024, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_call0_v0 : Ref sig .tc := ⟨.hbm, 31, rfl⟩
abbrev main_call0_call0_cst : Ref sig .tc := ⟨.hbm, 32, rfl⟩
abbrev main_call0_call0_v0 : Ref sig .tc := ⟨.hbm, 33, rfl⟩
abbrev main_call0_call0_v1 : Ref sig .tc := ⟨.hbm, 34, rfl⟩
abbrev main_call0_call0_v2 : Ref sig .tc := ⟨.hbm, 35, rfl⟩
abbrev main_call0_call0_v3 : Ref sig .tc := ⟨.hbm, 36, rfl⟩
abbrev main_call0_call0_v4 : Ref sig .tc := ⟨.hbm, 37, rfl⟩
abbrev main_call0_call0_v5 : Ref sig .tc := ⟨.hbm, 38, rfl⟩
abbrev main_call0_call0_v6 : Ref sig .tc := ⟨.hbm, 39, rfl⟩
abbrev main_call0_call0_v7 : Ref sig .tc := ⟨.hbm, 40, rfl⟩
abbrev main_call0_call0_v8 : Ref sig .tc := ⟨.hbm, 41, rfl⟩
abbrev main_call0_call0_v9 : Ref sig .tc := ⟨.hbm, 42, rfl⟩
abbrev main_call0_call0_v10 : Ref sig .tc := ⟨.hbm, 43, rfl⟩
abbrev main_call0_call0_v11 : Ref sig .tc := ⟨.hbm, 44, rfl⟩
abbrev main_call0_v1 : Ref sig .tc := ⟨.hbm, 45, rfl⟩
abbrev main_v23 : Ref sig .tc := ⟨.hbm, 46, rfl⟩
abbrev main_cst_2 : Ref sig .tc := ⟨.hbm, 47, rfl⟩
abbrev main_v24 : Ref sig .tc := ⟨.hbm, 48, rfl⟩
abbrev main_v25 : Ref sig .tc := ⟨.hbm, 49, rfl⟩
abbrev main_cst_3 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩

abbrev nD : Nat := 1
abbrev τ : Topo := Topo.v7x

variable {F : FTy → Type} [FloatOps F]
-- ==== Kernel3.lean ====
abbrev S65536x1024 : Shape := ⟨2, ![65536, 1024]⟩
abbrev S1024x1024 : Shape := ⟨2, ![1024, 1024]⟩
abbrev S1024 : Shape := ⟨1, ![1024]⟩
abbrev S1024x8 : Shape := ⟨2, ![1024, 8]⟩
abbrev S1024x64 : Shape := ⟨2, ![1024, 64]⟩
abbrev S8x1024 : Shape := ⟨2, ![8, 1024]⟩
abbrev S64x1024 : Shape := ⟨2, ![64, 1024]⟩
abbrev S72x1024 : Shape := ⟨2, ![72, 1024]⟩
abbrev S_ : Shape := ⟨0, ![]⟩
abbrev S128x1024 : Shape := ⟨2, ![128, 1024]⟩
abbrev S1x1024 : Shape := ⟨2, ![1, 1024]⟩
abbrev S524288x128 : Shape := ⟨2, ![524288, 128]⟩
abbrev S4x65536 : Shape := ⟨2, ![4, 65536]⟩
abbrev S2x65536 : Shape := ⟨2, ![2, 65536]⟩
abbrev S64x128 : Shape := ⟨2, ![64, 128]⟩
abbrev S8192x128 : Shape := ⟨2, ![8192, 128]⟩
abbrev S4x1024 : Shape := ⟨2, ![4, 1024]⟩
abbrev S2x1024 : Shape := ⟨2, ![2, 1024]⟩
abbrev S1024x1 : Shape := ⟨2, ![1024, 1]⟩
abbrev S64x1 : Shape := ⟨2, ![64, 1]⟩
abbrev S64 : Shape := ⟨1, ![64]⟩

abbrev nBuf : Space → Nat
  | .hbm => 23
  | .vmem => 18
  | .smem => 0
  | _ => 0

abbrev bufTy : (tb : Table) → Fin (tcTables nBuf tb) → BufTy
  | .hbm, ⟨0, _⟩ => ⟨S65536x1024, .bf16⟩
  | .hbm, ⟨1, _⟩ => ⟨S1024x1024, .f32⟩
  | .hbm, ⟨2, _⟩ => ⟨S65536x1024, .f32⟩
  | .hbm, ⟨3, _⟩ => ⟨S1024, .f32⟩
  | .hbm, ⟨4, _⟩ => ⟨S1024x8, .f32⟩
  | .hbm, ⟨5, _⟩ => ⟨S1024x64, .f32⟩
  | .hbm, ⟨6, _⟩ => ⟨S8x1024, .f32⟩
  | .hbm, ⟨7, _⟩ => ⟨S64x1024, .f32⟩
  | .hbm, ⟨8, _⟩ => ⟨S72x1024, .f32⟩
  | .hbm, ⟨9, _⟩ => ⟨S_, .i32⟩
  | .hbm, ⟨10, _⟩ => ⟨S_, .f32⟩
  | .hbm, ⟨11, _⟩ => ⟨S128x1024, .f32⟩
  | .hbm, ⟨12, _⟩ => ⟨S128x1024, .bf16⟩
  | .hbm, ⟨13, _⟩ => ⟨S128x1024, .f32⟩
  | .hbm, ⟨14, _⟩ => ⟨S128x1024, .f32⟩
  | .hbm, ⟨15, _⟩ => ⟨S128x1024, .bf16⟩
  | .hbm, ⟨16, _⟩ => ⟨S1024x1024, .bf16⟩
  | .hbm, ⟨17, _⟩ => ⟨S1x1024, .f32⟩
  | .hbm, ⟨18, _⟩ => ⟨S65536x1024, .f32⟩
  | .hbm, ⟨19, _⟩ => ⟨S524288x128, .f32⟩
  | .hbm, ⟨20, _⟩ => ⟨S4x65536, .i32⟩
  | .hbm, ⟨21, _⟩ => ⟨S2x65536, .f32⟩
  | .hbm, ⟨22, _⟩ => ⟨S64x128, .i32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S128x1024, .bf16⟩
  | .local _ .vmem, ⟨7, _⟩ => ⟨S128x1024, .bf16⟩
  | .local _ .vmem, ⟨8, _⟩ => ⟨S1024x1024, .f32⟩
  | .local _ .vmem, ⟨9, _⟩ => ⟨S1024x1024, .f32⟩
  | .local _ .vmem, ⟨10, _⟩ => ⟨S8192x128, .f32⟩
  | .local _ .vmem, ⟨11, _⟩ => ⟨S8192x128, .f32⟩
  | .local _ .vmem, ⟨12, _⟩ => ⟨S4x1024, .i32⟩
  | .local _ .vmem, ⟨13, _⟩ => ⟨S4x1024, .i32⟩
  | .local _ .vmem, ⟨14, _⟩ => ⟨S2x1024, .f32⟩
  | .local _ .vmem, ⟨15, _⟩ => ⟨S2x1024, .f32⟩
  | .local _ .vmem, ⟨16, _⟩ => ⟨S64x128, .i32⟩
  | .local _ .vmem, ⟨17, _⟩ => ⟨S64x128, .f32⟩
  | _, _ => ⟨S65536x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_call0_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v10_2 : Ref sig .tc := ⟨.hbm, 20, rfl⟩
abbrev main_v10_3 : Ref sig .tc := ⟨.hbm, 21, rfl⟩
abbrev main_v10_4 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8192x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S4x1024 .i32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S64x128 .i32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference3Ideal.lean ====
abbrev S65536x1024 : Shape := ⟨2, ![65536, 1024]⟩
abbrev S1024x1024 : Shape := ⟨2, ![1024, 1024]⟩
abbrev S1024 : Shape := ⟨1, ![1024]⟩
abbrev S1024x8 : Shape := ⟨2, ![1024, 8]⟩
abbrev S1024x64 : Shape := ⟨2, ![1024, 64]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S524288x128 : Shape := ⟨2, ![524288, 128]⟩

abbrev nBuf : Space → Nat
  | .hbm => 26
  | .vmem => 0
  | .smem => 0
  | _ => 0

abbrev bufTy : (tb : Table) → Fin (tcTables nBuf tb) → BufTy
  | .hbm, ⟨0, _⟩ => ⟨S65536x1024, .bf16⟩
  | .hbm, ⟨1, _⟩ => ⟨S1024x1024, .f32⟩
  | .hbm, ⟨2, _⟩ => ⟨S65536x1024, .f32⟩
  | .hbm, ⟨3, _⟩ => ⟨S1024, .f32⟩
  | .hbm, ⟨4, _⟩ => ⟨S1024x8, .f32⟩
  | .hbm, ⟨5, _⟩ => ⟨S1024x64, .f32⟩
  | .hbm, ⟨6, _⟩ => ⟨S65536x1024, .f32⟩
  | .hbm, ⟨7, _⟩ => ⟨S65536x1024, .f32⟩
  | .hbm, ⟨8, _⟩ => ⟨S65536x1024, .f32⟩
  | .hbm, ⟨9, _⟩ => ⟨S65536x1024, .f32⟩
  | .hbm, ⟨10, _⟩ => ⟨S_, .f32⟩
  | .hbm, ⟨11, _⟩ => ⟨S65536, .f32⟩
  | .hbm, ⟨12, _⟩ => ⟨S65536x1, .f32⟩
  | .hbm, ⟨13, _⟩ => ⟨S_, .f32⟩
  | .hbm, ⟨14, _⟩ => ⟨S65536x1, .f32⟩
  | .hbm, ⟨15, _⟩ => ⟨S65536x1, .f32⟩
  | .hbm, ⟨16, _⟩ => ⟨S_, .f32⟩
  | .hbm, ⟨17, _⟩ => ⟨S65536x1, .f32⟩
  | .hbm, ⟨18, _⟩ => ⟨S65536x1, .f32⟩
  | .hbm, ⟨19, _⟩ => ⟨S65536x1, .f32⟩
  | .hbm, ⟨20, _⟩ => ⟨S65536x1024, .f32⟩
  | .hbm, ⟨21, _⟩ => ⟨S65536x1024, .f32⟩
  | .hbm, ⟨22, _⟩ => ⟨S1x1024, .f32⟩
  | .hbm, ⟨23, _⟩ => ⟨S65536x1024, .f32⟩
  | .hbm, ⟨24, _⟩ => ⟨S65536x1024, .f32⟩
  | .hbm, ⟨25, _⟩ => ⟨S524288x128, .f32⟩
  | _, _ => ⟨S65536x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]
-- ==== Kernel5.lean ====
abbrev S65536x1024 : Shape := ⟨2, ![65536, 1024]⟩
abbrev S65536 : Shape := ⟨1, ![65536]⟩
abbrev S1024 : Shape := ⟨1, ![1024]⟩
abbrev S1024x448 : Shape := ⟨2, ![1024, 448]⟩
abbrev S256 : Shape := ⟨1, ![256]⟩
abbrev S256x8x192 : Shape := ⟨3, ![256, 8, 192]⟩
abbrev S128 : Shape := ⟨1, ![128]⟩
abbrev S128x8x128 : Shape := ⟨3, ![128, 8, 128]⟩
abbrev S1024x64 : Shape := ⟨2, ![1024, 64]⟩
abbrev S1024x256 : Shape := ⟨2, ![1024, 256]⟩
abbrev S1024x192 : Shape := ⟨2, ![1024, 192]⟩
abbrev S_ : Shape := ⟨0, ![]⟩
abbrev S256x1024 : Shape := ⟨2, ![256, 1024]⟩
abbrev S1024x32 : Shape := ⟨2, ![1024, 32]⟩
abbrev S1024x128 : Shape := ⟨2, ![1024, 128]⟩
abbrev S128x1024 : Shape := ⟨2, ![128, 1024]⟩
abbrev S256x8x128 : Shape := ⟨3, ![256, 8, 128]⟩
abbrev S256x8x64 : Shape := ⟨3, ![256, 8, 64]⟩
abbrev S256x8x32 : Shape := ⟨3, ![256, 8, 32]⟩
abbrev S8x128x128 : Shape := ⟨3, ![8, 128, 128]⟩
abbrev S32 : Shape := ⟨1, ![32]⟩
abbrev S1x65536 : Shape := ⟨2, ![1, 65536]⟩
abbrev S1x1024 : Shape := ⟨2, ![1, 1024]⟩
abbrev S1x256 : Shape := ⟨2, ![1, 256]⟩
abbrev S128x1 : Shape := ⟨2, ![128, 1]⟩
abbrev S32x1 : Shape := ⟨2, ![32, 1]⟩
abbrev S128x2048x512 : Shape := ⟨3, ![128, 2048, 512]⟩
abbrev S65536x256 : Shape := ⟨2, ![65536, 256]⟩
abbrev S128x144x512 : Shape := ⟨3, ![128, 144, 512]⟩
abbrev S512x1024 : Shape := ⟨2, ![512, 1024]⟩
abbrev S1x512 : Shape := ⟨2, ![1, 512]⟩
abbrev S1x2048x512 : Shape := ⟨3, ![1, 2048, 512]⟩
abbrev S512x256 : Shape := ⟨2, ![512, 256]⟩
abbrev S1x144x512 : Shape := ⟨3, ![1, 144, 512]⟩
abbrev S512 : Shape := ⟨1, ![512]⟩
abbrev S512x1 : Shape := ⟨2, ![512, 1]⟩
abbrev S256x512 : Shape := ⟨2, ![256, 512]⟩
abbrev S128x512 : Shape := ⟨2, ![128, 512]⟩
abbrev S32x512 : Shape := ⟨2, ![32, 512]⟩
abbrev S16x512 : Shape := ⟨2, ![16, 512]⟩
abbrev S144x512 : Shape := ⟨2, ![144, 512]⟩
abbrev S1024x512 : Shape := ⟨2, ![1024, 512]⟩
abbrev S1x128x128 : Shape := ⟨3, ![1, 128, 128]⟩
abbrev S128x128 : Shape := ⟨2, ![128, 128]⟩
abbrev S1x128x512 : Shape := ⟨3, ![1, 128, 512]⟩

abbrev nBuf : Space → Nat
  | .hbm => 71
  | .vmem => 21
  | .smem => 0
  | _ => 0

abbrev bufTy : (tb : Table) → Fin (tcTables nBuf tb) → BufTy
  | .hbm, ⟨0, _⟩ => ⟨S65536x1024, .f32⟩
  | .hbm, ⟨1, _⟩ => ⟨S65536, .i32⟩
  | .hbm, ⟨2, _⟩ => ⟨S1024, .f32⟩
  | .hbm, ⟨3, _⟩ => ⟨S1024x448, .f32⟩
  | .hbm, ⟨4, _⟩ => ⟨S256, .f32⟩
  | .hbm, ⟨5, _⟩ => ⟨S256x8x192, .f32⟩
  | .hbm, ⟨6, _⟩ => ⟨S128, .f32⟩
  | .hbm, ⟨7, _⟩ => ⟨S128x8x128, .f32⟩
  | .hbm, ⟨8, _⟩ => ⟨S1024x64, .f32⟩
  | .hbm, ⟨9, _⟩ => ⟨S1024x256, .f32⟩
  | .hbm, ⟨10, _⟩ => ⟨S1024x256, .bf16⟩
  | .hbm, ⟨11, _⟩ => ⟨S1024x192, .f32⟩
  | .hbm, ⟨12, _⟩ => ⟨S_, .i32⟩
  | .hbm, ⟨13, _⟩ => ⟨S_, .f32⟩
  | .hbm, ⟨14, _⟩ => ⟨S1024x256, .f32⟩
  | .hbm, ⟨15, _⟩ => ⟨S256x1024, .f32⟩
  | .hbm, ⟨16, _⟩ => ⟨S256x1024, .bf16⟩
  | .hbm, ⟨17, _⟩ => ⟨S1024x32, .f32⟩
  | .hbm, ⟨18, _⟩ => ⟨S1024x32, .f32⟩
  | .hbm, ⟨19, _⟩ => ⟨S1024x64, .f32⟩
  | .hbm, ⟨20, _⟩ => ⟨S_, .i32⟩
  | .hbm, ⟨21, _⟩ => ⟨S_, .f32⟩
  | .hbm, ⟨22, _⟩ => ⟨S1024x128, .f32⟩
  | .hbm, ⟨23, _⟩ => ⟨S128x1024, .f32⟩
  | .hbm, ⟨24, _⟩ => ⟨S128x1024, .bf16⟩
  | .hbm, ⟨25, _⟩ => ⟨S256x8x128, .f32⟩
  | .hbm, ⟨26, _⟩ => ⟨S256x1024, .f32⟩
  | .hbm, ⟨27, _⟩ => ⟨S1024x256, .f32⟩
  | .hbm, ⟨28, _⟩ => ⟨S1024x256, .bf16⟩
  | .hbm, ⟨29, _⟩ => ⟨S256x8x64, .f32⟩
  | .hbm, ⟨30, _⟩ => ⟨S_, .i32⟩
  | .hbm, ⟨31, _⟩ => ⟨S_, .f32⟩
  | .hbm, ⟨32, _⟩ => ⟨S256x8x128, .f32⟩
  | .hbm, ⟨33, _⟩ => ⟨S256x1024, .f32⟩
  | .hbm, ⟨34, _⟩ => ⟨S1024x256, .f32⟩
  | .hbm, ⟨35, _⟩ => ⟨S1024x256, .bf16⟩
  | .hbm, ⟨36, _⟩ => ⟨S256x8x32, .f32⟩
  | .hbm, ⟨37, _⟩ => ⟨S256x8x32, .f32⟩
  | .hbm, ⟨38, _⟩ => ⟨S256x8x64, .f32⟩
  | .hbm, ⟨39, _⟩ => ⟨S_, .i32⟩
  | .hbm, ⟨40, _⟩ => ⟨S_, .f32⟩
  | .hbm, ⟨41, _⟩ => ⟨S256x8x128, .f32⟩
  | .hbm, ⟨42, _⟩ => ⟨S256x1024, .f32⟩
  | .hbm, ⟨43, _⟩ => ⟨S1024x256, .f32⟩
  | .hbm, ⟨44, _⟩ => ⟨S1024x256, .bf16⟩
  | .hbm, ⟨45, _⟩ => ⟨S8x128x128, .f32⟩
  | .hbm, ⟨46, _⟩ => ⟨S8x128x128, .bf16⟩
  | .hbm, ⟨47, _⟩ => ⟨S32, .f32⟩
  | .hbm, ⟨48, _⟩ => ⟨S_, .f32⟩
  | .hbm, ⟨49, _⟩ => ⟨S32, .f32⟩
  | .hbm, ⟨50, _⟩ => ⟨S32, .f32⟩
  | .hbm, ⟨51, _⟩ => ⟨S_, .f32⟩
  | .hbm, ⟨52, _⟩ => ⟨S32, .f32⟩
  | .hbm, ⟨53, _⟩ => ⟨S32, .f32⟩
  | .hbm, ⟨54, _⟩ => ⟨S_, .f32⟩
  | .hbm, ⟨55, _⟩ => ⟨S32, .f32⟩
  | .hbm, ⟨56, _⟩ => ⟨S32, .f32⟩
  | .hbm, ⟨57, _⟩ => ⟨S_, .f32⟩
  | .hbm, ⟨58, _⟩ => ⟨S32, .f32⟩
  | .hbm, ⟨59, _⟩ => ⟨S32, .f32⟩
  | .hbm, ⟨60, _⟩ => ⟨S_, .f32⟩
  | .hbm, ⟨61, _⟩ => ⟨S32, .f32⟩
  | .hbm, ⟨62, _⟩ => ⟨S32, .f32⟩
  | .hbm, ⟨63, _⟩ => ⟨S1x65536, .i32⟩
  | .hbm, ⟨64, _⟩ => ⟨S1x1024, .f32⟩
  | .hbm, ⟨65, _⟩ => ⟨S1x256, .f32⟩
  | .hbm, ⟨66, _⟩ => ⟨S128x1, .f32⟩
  | .hbm, ⟨67, _⟩ => ⟨S32x1, .f32⟩
  | .hbm, ⟨68, _⟩ => ⟨S128x2048x512, .bf16⟩
  | .hbm, ⟨69, _⟩ => ⟨S65536x256, .bf16⟩
  | .hbm, ⟨70, _⟩ => ⟨S128x144x512, .bf16⟩
  | .local _ .vmem, ⟨0, _⟩ => ⟨S512x1024, .f32⟩
  | .local _ .vmem, ⟨1, _⟩ => ⟨S512x1024, .f32⟩
  | .local _ .vmem, ⟨2, _⟩ => ⟨S1x512, .i32⟩
  | .local _ .vmem, ⟨3, _⟩ => ⟨S1x512, .i32⟩
  | .local _ .vmem, ⟨4, _⟩ => ⟨S1x1024, .f32⟩
  | .local _ .vmem, ⟨5, _⟩ => ⟨S1024x256, .bf16⟩
  | .local _ .vmem, ⟨6, _⟩ => ⟨S256x1024, .bf16⟩
  | .local _ .vmem, ⟨7, _⟩ => ⟨S128x1024, .bf16⟩
  | .local _ .vmem, ⟨8, _⟩ => ⟨S1x256, .f32⟩
  | .local _ .vmem, ⟨9, _⟩ => ⟨S128x1, .f32⟩
  | .local _ .vmem, ⟨10, _⟩ => ⟨S1024x256, .bf16⟩
  | .local _ .vmem, ⟨11, _⟩ => ⟨S1024x256, .bf16⟩
  | .local _ .vmem, ⟨12, _⟩ => ⟨S1024x256, .bf16⟩
  | .local _ .vmem, ⟨13, _⟩ => ⟨S8x128x128, .bf16⟩
  | .local _ .vmem, ⟨14, _⟩ => ⟨S32x1, .f32⟩
  | .local _ .vmem, ⟨15, _⟩ => ⟨S1x2048x512, .bf16⟩
  | .local _ .vmem, ⟨16, _⟩ => ⟨S1x2048x512, .bf16⟩
  | .local _ .vmem, ⟨17, _⟩ => ⟨S512x256, .bf16⟩
  | .local _ .vmem, ⟨18, _⟩ => ⟨S512x256, .bf16⟩
  | .local _ .vmem, ⟨19, _⟩ => ⟨S1x144x512, .bf16⟩
  | .local _ .vmem, ⟨20, _⟩ => ⟨S1x144x512, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_0 : Ref sig .tc := ⟨.hbm, 20, rfl⟩
abbrev main_call1_v0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_1 : Ref sig .tc := ⟨.hbm, 30, rfl⟩
abbrev main_call2_v0 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_2 : Ref sig .tc := ⟨.hbm, 39, rfl⟩
abbrev main_call3_v0 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst : Ref sig .tc := ⟨.hbm, 48, rfl⟩
abbrev main_v32 : Ref sig .tc := ⟨.hbm, 49, rfl⟩
abbrev main_v33 : Ref sig .tc := ⟨.hbm, 50, rfl⟩
abbrev main_cst_3 : Ref sig .tc := ⟨.hbm, 51, rfl⟩
abbrev main_v34 : Ref sig .tc := ⟨.hbm, 52, rfl⟩
abbrev main_v35 : Ref sig .tc := ⟨.hbm, 53, rfl⟩
abbrev main_cst_4 : Ref sig .tc := ⟨.hbm, 54, rfl⟩
abbrev main_v36 : Ref sig .tc := ⟨.hbm, 55, rfl⟩
abbrev main_v37 : Ref sig .tc := ⟨.hbm, 56, rfl⟩
abbrev main_cst_5 : Ref sig .tc := ⟨.hbm, 57, rfl⟩
abbrev main_v38 : Ref sig .tc := ⟨.hbm, 58, rfl⟩
abbrev main_v39 : Ref sig .tc := ⟨.hbm, 59, rfl⟩
abbrev main_cst_6 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47_0 : Ref sig .tc := ⟨.hbm, 68, rfl⟩
abbrev main_v47_1 : Ref sig .tc := ⟨.hbm, 69, rfl⟩
abbrev main_v47_2 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg13_1 : Ref sig .tc := ⟨.vmem, 16, rfl⟩
abbrev cc0_stg14_0 : Ref sig .tc := ⟨.vmem, 17, rfl⟩
abbrev cc0_stg14_1 : Ref sig .tc := ⟨.vmem, 18, rfl⟩
abbrev cc0_stg15_0 : Ref sig .tc := ⟨.vmem, 19, rfl⟩
abbrev cc0_stg15_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem13_1 : DmaSem sig := 16
abbrev cc0_sem14_0 : DmaSem sig := 17
abbrev cc0_sem14_1 : DmaSem sig := 18
abbrev cc0_sem15_0 : DmaSem sig := 19
abbrev cc0_sem15_1 : DmaSem sig := 20

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x256 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S32x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1x2048x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x144x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference5Ideal.lean ====
abbrev S65536x1024 : Shape := ⟨2, ![65536, 1024]⟩
abbrev S65536 : Shape := ⟨1, ![65536]⟩
abbrev S1024 : Shape := ⟨1, ![1024]⟩
abbrev S1024x448 : Shape := ⟨2, ![1024, 448]⟩
abbrev S256 : Shape := ⟨1, ![256]⟩
abbrev S256x8x192 : Shape := ⟨3, ![256, 8, 192]⟩
abbrev S128 : Shape := ⟨1, ![128]⟩
abbrev S128x8x128 : Shape := ⟨3, ![128, 8, 128]⟩
abbrev S32 : Shape := ⟨1, ![32]⟩
abbrev S_ : Shape := ⟨0, ![]⟩
abbrev S65536x1 : Shape := ⟨2, ![65536, 1]⟩
abbrev S1x32 : Shape := ⟨2, ![1, 32]⟩
abbrev S65536x32 : Shape := ⟨2, ![65536, 32]⟩
abbrev S1x1024 : Shape := ⟨2, ![1, 1024]⟩
abbrev S65536x448 : Shape := ⟨2, ![65536, 448]⟩
abbrev S65536x256 : Shape := ⟨2, ![65536, 256]⟩
abbrev S65536x128 : Shape := ⟨2, ![65536, 128]⟩
abbrev S65536x64 : Shape := ⟨2, ![65536, 64]⟩
abbrev S1x128 : Shape := ⟨2, ![1, 128]⟩
abbrev S1x256 : Shape := ⟨2, ![1, 256]⟩
abbrev S65536x8x192 : Shape := ⟨3, ![65536, 8, 192]⟩
abbrev S65536x8x64 : Shape := ⟨3, ![65536, 8, 64]⟩
abbrev S65536x1x32 : Shape := ⟨3, ![65536, 1, 32]⟩
abbrev S65536x8x32 : Shape := ⟨3, ![65536, 8, 32]⟩
abbrev S65536x8x128 : Shape := ⟨3, ![65536, 8, 128]⟩
abbrev S8x128x65536 : Shape := ⟨3, ![8, 128, 65536]⟩
abbrev S65536x8x256 : Shape := ⟨3, ![65536, 8, 256]⟩
abbrev S65536x16 : Shape := ⟨2, ![65536, 16]⟩
abbrev S65536x144 : Shape := ⟨2, ![65536, 144]⟩
abbrev S128x512x2048 : Shape := ⟨3, ![128, 512, 2048]⟩
abbrev S128x2048x512 : Shape := ⟨3, ![128, 2048, 512]⟩
abbrev S128x512x144 : Shape := ⟨3, ![128, 512, 144]⟩
abbrev S128x144x512 : Shape := ⟨3, ![128, 144, 512]⟩

abbrev nBuf : Space → Nat
  | .hbm => 134
  | .vmem => 0
  | .smem => 0
  | _ => 0

abbrev hbmTy0_0 (i : Nat) : BufTy := match i % 128 with
  | 0 => ⟨S65536x1024, .f32⟩
  | 1 => ⟨S65536, .i32⟩
  | 2 => ⟨S1024, .f32⟩
  | 3 => ⟨S1024x448, .f32⟩
  | 4 => ⟨S256, .f32⟩
  | 5 => ⟨S256x8x192, .f32⟩
  | 6 => ⟨S128, .f32⟩
  | 7 => ⟨S128x8x128, .f32⟩
  | 8 => ⟨S32, .f32⟩
  | 9 => ⟨S_, .f32⟩
  | 10 => ⟨S32, .f32⟩
  | 11 => ⟨S32, .f32⟩
  | 12 => ⟨S_, .f32⟩
  | 13 => ⟨S32, .f32⟩
  | 14 => ⟨S32, .f32⟩
  | 15 => ⟨S_, .f32⟩
  | 16 => ⟨S32, .f32⟩
  | 17 => ⟨S32, .f32⟩
  | 18 => ⟨S_, .f32⟩
  | 19 => ⟨S32, .f32⟩
  | 20 => ⟨S32, .f32⟩
  | 21 => ⟨S_, .f32⟩
  | 22 => ⟨S32, .f32⟩
  | 23 => ⟨S32, .f32⟩
  | 24 => ⟨S65536, .f32⟩
  | 25 => ⟨S65536x1, .f32⟩
  | 26 => ⟨S1x32, .f32⟩
  | 27 => ⟨S65536x32, .f32⟩
  | 28 => ⟨S65536x32, .f32⟩
  | 29 => ⟨S65536x32, .f32⟩
  | 30 => ⟨S65536x32, .f32⟩
  | 31 => ⟨S65536x32, .f32⟩
  | 32 => ⟨S65536x1024, .f32⟩
  | 33 => ⟨S_, .f32⟩
  | 34 => ⟨S65536, .f32⟩
  | 35 => ⟨S65536x1, .f32⟩
  | 36 => ⟨S_, .f32⟩
  | 37 => ⟨S65536x1, .f32⟩
  | 38 => ⟨S65536x1, .f32⟩
  | 39 => ⟨S_, .f32⟩
  | 40 => ⟨S65536x1, .f32⟩
  | 41 => ⟨S65536x1, .f32⟩
  | 42 => ⟨S65536x1, .f32⟩
  | 43 => ⟨S65536x1024, .f32⟩
  | 44 => ⟨S65536x1024, .f32⟩
  | 45 => ⟨S1x1024, .f32⟩
  | 46 => ⟨S65536x1024, .f32⟩
  | 47 => ⟨S65536x1024, .f32⟩
  | 48 => ⟨S65536x448, .f32⟩
  | 49 => ⟨S65536x256, .f32⟩
  | 50 => ⟨S65536x128, .f32⟩
  | 51 => ⟨S65536x64, .f32⟩
  | 52 => ⟨S65536x128, .f32⟩
  | 53 => ⟨S_, .f32⟩
  | 54 => ⟨S65536, .f32⟩
  | 55 => ⟨S65536x1, .f32⟩
  | 56 => ⟨S_, .f32⟩
  | 57 => ⟨S65536x1, .f32⟩
  | 58 => ⟨S65536x1, .f32⟩
  | 59 => ⟨S_, .f32⟩
  | 60 => ⟨S65536x1, .f32⟩
  | 61 => ⟨S65536x1, .f32⟩
  | 62 => ⟨S65536x1, .f32⟩
  | 63 => ⟨S65536x128, .f32⟩
  | 64 => ⟨S65536x128, .f32⟩
  | 65 => ⟨S1x128, .f32⟩
  | 66 => ⟨S65536x128, .f32⟩
  | 67 => ⟨S65536x128, .f32⟩
  | 68 => ⟨S65536x256, .f32⟩
  | 69 => ⟨S_, .f32⟩
  | 70 => ⟨S65536, .f32⟩
  | 71 => ⟨S65536x1, .f32⟩
  | 72 => ⟨S_, .f32⟩
  | 73 => ⟨S65536x1, .f32⟩
  | 74 => ⟨S65536x1, .f32⟩
  | 75 => ⟨S_, .f32⟩
  | 76 => ⟨S65536x1, .f32⟩
  | 77 => ⟨S65536x1, .f32⟩
  | 78 => ⟨S65536x1, .f32⟩
  | 79 => ⟨S65536x256, .f32⟩
  | 80 => ⟨S65536x256, .f32⟩
  | 81 => ⟨S1x256, .f32⟩
  | 82 => ⟨S65536x256, .f32⟩
  | 83 => ⟨S65536x256, .f32⟩
  | 84 => ⟨S65536x8x192, .f32⟩
  | 85 => ⟨S65536x8x64, .f32⟩
  | 86 => ⟨S65536x1x32, .f32⟩
  | 87 => ⟨S65536x1x32, .f32⟩
  | 88 => ⟨S65536x8x32, .f32⟩
  | 89 => ⟨S65536x8x32, .f32⟩
  | 90 => ⟨S65536x8x32, .f32⟩
  | 91 => ⟨S65536x8x32, .f32⟩
  | 92 => ⟨S65536x8x32, .f32⟩
  | 93 => ⟨S65536x8x32, .f32⟩
  | 94 => ⟨S65536x8x32, .f32⟩
  | 95 => ⟨S65536x8x32, .f32⟩
  | 96 => ⟨S65536x8x32, .f32⟩
  | 97 => ⟨S65536x8x32, .f32⟩
  | 98 => ⟨S65536x8x32, .f32⟩
  | 99 => ⟨S65536x8x32, .f32⟩
  | 100 => ⟨S65536x8x64, .f32⟩
  | 101 => ⟨S65536x32, .f32⟩
  | 102 => ⟨S65536x32, .f32⟩
  | 103 => ⟨S65536x32, .f32⟩
  | 104 => ⟨S65536x32, .f32⟩
  | 105 => ⟨S65536x32, .f32⟩
  | 106 => ⟨S65536x32, .f32⟩
  | 107 => ⟨S65536x32, .f32⟩
  | 108 => ⟨S65536x32, .f32⟩
  | 109 => ⟨S65536x64, .f32⟩
  | 110 => ⟨S65536x8x128, .f32⟩
  | 111 => ⟨S8x128x65536, .f32⟩
  | 112 => ⟨S65536x8x128, .f32⟩
  | 113 => ⟨S_, .i32⟩
  | 114 => ⟨S_, .f32⟩
  | 115 => ⟨S65536x8x128, .f32⟩
  | 116 => ⟨S65536x8x256, .f32⟩
  | 117 => ⟨S_, .f32⟩
  | 118 => ⟨S65536x8x256, .f32⟩
  | 119 => ⟨S65536x8x256, .f32⟩
  | 120 => ⟨S_, .i32⟩
  | 121 => ⟨S_, .f32⟩
  | 122 => ⟨S65536x128, .f32⟩
  | 123 => ⟨S65536x256, .f32⟩
  | 124 => ⟨S_, .f32⟩
  | 125 => ⟨S65536x16, .f32⟩
  | 126 => ⟨S65536x144, .f32⟩
  | 127 => ⟨S128x512x2048, .f32⟩
  | _ => ⟨S65536x1024, .f32⟩

abbrev hbmTy0_1 (i : Nat) : BufTy := match i % 128 with
  | 0 => ⟨S128x2048x512, .f32⟩
  | 1 => ⟨S128x512x144, .f32⟩
  | 2 => ⟨S128x144x512, .f32⟩
  | 3 => ⟨S128x2048x512, .bf16⟩
  | 4 => ⟨S65536x256, .bf16⟩
  | 5 => ⟨S128x144x512, .bf16⟩
  | _ => ⟨S65536x1024, .f32⟩

abbrev hbmTy (i : Nat) : BufTy := match i / 128 with
  | 0 => hbmTy0_0 i
  | 1 => hbmTy0_1 i
  | _ => ⟨S65536x1024, .f32⟩

abbrev bufTy : (tb : Table) → Fin (tcTables nBuf tb) → BufTy
  | .hbm, ⟨i, _⟩ => hbmTy i
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_cst_3 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_cst_8 : Ref sig .tc := ⟨.hbm, 56, rfl⟩
abbrev main_v39 : Ref sig .tc := ⟨.hbm, 57, rfl⟩
abbrev main_v40 : Ref sig .tc := ⟨.hbm, 58, rfl⟩
abbrev main_cst_9 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_10 : Ref sig .tc := ⟨.hbm, 69, rfl⟩
abbrev main_v50 : Ref sig .tc := ⟨.hbm, 70, rfl⟩
abbrev main_v51 : Ref sig .tc := ⟨.hbm, 71, rfl⟩
abbrev main_cst_11 : Ref sig .tc := ⟨.hbm, 72, rfl⟩
abbrev main_v52 : Ref sig .tc := ⟨.hbm, 73, rfl⟩
abbrev main_v53 : Ref sig .tc := ⟨.hbm, 74, rfl⟩
abbrev main_cst_12 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_c : Ref sig .tc := ⟨.hbm, 113, rfl⟩
abbrev main_call0_v0 : Ref sig .tc := ⟨.hbm, 114, rfl⟩
abbrev main_v91 : Ref sig .tc := ⟨.hbm, 115, rfl⟩
abbrev main_v92 : Ref sig .tc := ⟨.hbm, 116, rfl⟩
abbrev main_cst_13 : Ref sig .tc := ⟨.hbm, 117, rfl⟩
abbrev main_v93 : Ref sig .tc := ⟨.hbm, 118, rfl⟩
abbrev main_v94 : Ref sig .tc := ⟨.hbm, 119, rfl⟩
abbrev main_c_14 : Ref sig .tc := ⟨.hbm, 120, rfl⟩
abbrev main_call1_v0 : Ref sig .tc := ⟨.hbm, 121, rfl⟩
abbrev main_v95 : Ref sig .tc := ⟨.hbm, 122, rfl⟩
abbrev main_v96 : Ref sig .tc := ⟨.hbm, 123, rfl⟩
abbrev main_cst_15 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩

abbrev nD : Nat := 1
abbrev τ : Topo := Topo.v7x

variable {F : FTy → Type} [FloatOps F]
-- ==== Proof.Host.lean ====
module

public import proofs.«01_k».proof.Proof.Gen.KernelIdeal
public import proofs.«01_k».proof.Proof.Gen.KernelIdeal.Frame
public import Idealize.ShloMosaic.Lib.StableHlo.RunRead

@[expose] public section
set_option maxRecDepth 16384

/-! The four arrays the region is launched on, as functions of the arguments. -/

noncomputable section
namespace Cert.Proof.Attn
open Cert.KernelIdeal Cert.KernelIdeal.Gen
open Idealize.ShloMosaic Idealize.ShloMosaic.TcCoe Idealize.ShloMosaic.StableHlo

variable {F : FTy → Type} [FloatOps F]
variable (A0 : Vec F S8x8192x8x128 .f32) (A1 : Vec F S8x8192x8x64 .f32) (A2 : Vec F S8x8192x128 .f32) (A3 : Vec F S8x8192x64 .f32) (A4 : Vec F S128x8x128 .f32)

/-- The queries: padded, scaled, one block of 512 queries a slab, the heads' lanes along the rows. -/
def qArr : Vec F S128x2048x512 .bf16 :=
  truncf .bf16 (transpose S128x2048x512 [0, 2, 1] (shapeCast S128x512x2048
    (Host.divf (concatenate S8x8192x8x256 3 [⟨S8x8192x8x128, A0⟩, ⟨S8x8192x8x128, (pad S8x8192x8x128 ![0, 0, 0, 0] ![0, 0, 0, 64] ![0, 0, 0, 0] A1
        (sitofp .f32 (constantI S_ 32 0#32) : FVec F S_ .f32) pads_S8x8192x8x64_S8x8192x8x128_000_000_000_0640 h_S_ : Vec F S8x8192x8x128 .f32)⟩] concatenates_S8x8192x8x128_S8x8192x8x128_S8x8192x8x256_d3 : FVec F S8x8192x8x256 .f32)
      (broadcastInDim S8x8192x8x256 ![] bcast_S_S8x8192x8x256
        (mulf (Host.sqrt (constant S_ .f32 0x43400000#32 : FVec F S_ .f32)) (Host.log (constant S_ .f32 0x40000000#32 : FVec F S_ .f32)) : FVec F S_ .f32)))
    shapeCasts_S8x8192x8x256_S128x512x2048 : FVec F S128x512x2048 .f32) transposes_S128x512x2048_S128x2048x512_0_2_1 : FVec F S128x2048x512 .f32) bitsLt_bf16_f32

/-- The keys: the latents and the padded rotary keys side by side. -/
def kArr : Vec F S65536x256 .bf16 :=
  truncf .bf16 (shapeCast S65536x256 (concatenate S8x8192x256 2 [⟨S8x8192x128, A2⟩, ⟨S8x8192x128, (pad S8x8192x128 ![0, 0, 0] ![0, 0, 64] ![0, 0, 0] A3
      (sitofp .f32 (constantI S_ 32 0#32) : FVec F S_ .f32) pads_S8x8192x64_S8x8192x128_000_000_0640 h_S_ : Vec F S8x8192x128 .f32)⟩] concatenates_S8x8192x128_S8x8192x128_S8x8192x256_d2 : FVec F S8x8192x256 .f32)
    shapeCasts_S8x8192x256_S65536x256 : FVec F S65536x256 .f32) bitsLt_bf16_f32

/-- The values: the latents, a row of ones below them, one block of 512 keys a slab. -/
def vArr : Vec F S128x144x512 .bf16 :=
  truncf .bf16 (transpose S128x144x512 [0, 2, 1] (shapeCast S128x512x144 (concatenate S8x8192x144 2 [⟨S8x8192x128, A2⟩, ⟨S8x8192x16,
      (broadcastInDim S8x8192x16 ![] bcast_S_S8x8192x16 (constant S_ .f32 0x3F800000#32 : FVec F S_ .f32) : FVec F S8x8192x16 .f32)⟩] concatenates_S8x8192x128_S8x8192x16_S8x8192x144_d2 : FVec F S8x8192x144 .f32)
    shapeCasts_S8x8192x144_S128x512x144 : FVec F S128x512x144 .f32) transposes_S128x512x144_S128x144x512_0_2_1 : FVec F S128x144x512 .f32) bitsLt_bf16_f32

/-- The heads' matrices. -/
def wArr : Vec F S8x128x128 .bf16 :=
  truncf .bf16 (transpose S8x128x128 [1, 0, 2] (A4 : FVec F S128x8x128 .f32) transposes_S128x8x128_S8x128x128_1_0_2 : FVec F S8x128x128 .f32) bitsLt_bf16_f32

variable (m : (ℓ : Loc nD τ sig) → Buf (Elt F) ℓ) (c : Dev nD)

theorem V_q : V m c main_v9 = qArr (m (c, (main_arg0 : DevRef τ sig))) (m (c, (main_arg1 : DevRef τ sig))) := by
  simp only [V, hostOps0, hostOps0_1, hostOps0_2, hostOps0_3, hostOps0_4, List.flatten_cons, List.flatten_nil, List.append_nil, List.cons_append, List.nil_append]
  after_results
  rfl
theorem V_k : V m c main_v13 = kArr (m (c, (main_arg2 : DevRef τ sig))) (m (c, (main_arg3 : DevRef τ sig))) := by
  simp only [V, hostOps0, hostOps0_1, hostOps0_2, hostOps0_3, hostOps0_4, List.flatten_cons, List.flatten_nil, List.append_nil, List.cons_append, List.nil_append]
  after_results
  rfl
theorem V_v : V m c main_v18 = vArr (m (c, (main_arg2 : DevRef τ sig))) := by
  simp only [V, hostOps0, hostOps0_1, hostOps0_2, hostOps0_3, hostOps0_4, List.flatten_cons, List.flatten_nil, List.append_nil, List.cons_append, List.nil_append]
  after_results
  rfl
theorem V_w : V m c main_v20 = wArr (m (c, (main_arg4 : DevRef τ sig))) := by
  simp only [V, hostOps0, hostOps0_1, hostOps0_2, hostOps0_3, hostOps0_4, List.flatten_cons, List.flatten_nil, List.append_nil, List.cons_append, List.nil_append]
  after_results
  rfl
end Cert.Proof.Attn
end
-- ==== Proof.Sums.lean ====
module

public import Idealize.ShloMosaic.PureOps.Ideal
public import Idealize.ShloMosaic.PureOps.Ideal.Laws

@[expose] public section

/-! Softmax over the extended reals, taken all at once and taken block by block: facts about numbers only. -/

noncomputable section
namespace Cert.Proof.Sums
open Idealize.ShloMosaic

theorem exp2_coe (x : ℝ) : Ideal.exp2 (x : EReal) = (((2 : ℝ) ^ x : ℝ) : EReal) := rfl
theorem exp_coe (x : ℝ) : Ideal.exp (x : EReal) = ((Real.exp x : ℝ) : EReal) := rfl
theorem exp2_bot : Ideal.exp2 ⊥ = 0 := rfl
theorem exp_bot : Ideal.exp ⊥ = 0 := rfl

theorem bits_bot : Ideal.ofBits .f32 0xFF800000#32 = ⊥ := by simp [Ideal.ofBits, Ideal.ieee]

theorem coe_sum {κ : Type} (t : Finset κ) (f : κ → ℝ) : ((∑ k ∈ t, f k : ℝ) : EReal) = ∑ k ∈ t, (f k : EReal) := by
  classical
  induction t using Finset.induction_on with
  | empty => simp
  | insert a t ha ih => rw [Finset.sum_insert ha, Finset.sum_insert ha, EReal.coe_add, ih]

theorem div_coe (a b : ℝ) (hb : b ≠ 0) : Ideal.div (a : EReal) (b : EReal) = ((a / b : ℝ) : EReal) := by
  have : (b : EReal) ≠ 0 := by exact_mod_cast hb
  rw [Ideal.div, if_neg this, div_eq_mul_inv, EReal.coe_mul, EReal.coe_inv]

/-- An extended real that is neither infinity is a real. -/
theorem real_of {x : EReal} (ht : x ≠ ⊤) (hb : x ≠ ⊥) : ∃ r : ℝ, x = r := ⟨x.toReal, (EReal.coe_toReal ht hb).symm⟩

theorem fold_max {κ : Type} (t : Finset κ) (f : κ → EReal) (ht : ∀ k ∈ t, f k ≠ ⊤) :
    t.fold max ⊥ f ≠ ⊤ ∧ ∀ k ∈ t, f k ≤ t.fold max ⊥ f := by
  classical
  induction t using Finset.induction_on with
  | empty => simp
  | insert a t ha ih =>
    rw [Finset.fold_insert ha]
    obtain ⟨h1, h2⟩ := ih fun k hk => ht k (Finset.mem_insert_of_mem hk)
    have ha' := ht a (Finset.mem_insert_self _ _)
    refine ⟨?_, fun k hk => ?_⟩
    · rcases max_choice (f a) (t.fold max ⊥ f) with h | h <;> rw [h] <;> assumption
    · rcases Finset.mem_insert.1 hk with rfl | hk
      · exact le_max_left _ _
      · exact (h2 k hk).trans (le_max_right _ _)

/-- The greatest of finitely many numbers, none of them `⊤` and one of them not `⊥`, is a real. -/
theorem max_real {κ : Type} [Fintype κ] (f : κ → EReal) (ht : ∀ k, f k ≠ ⊤) (k₀ : κ) (h₀ : f k₀ ≠ ⊥) :
    ∃ X : ℝ, Finset.univ.fold max (Ideal.ofBits .f32 0xFF800000#32) f = X := by
  rw [bits_bot]
  obtain ⟨h1, h2⟩ := fold_max Finset.univ f fun k _ => ht k
  refine real_of h1 fun h => h₀ ?_
  have := h2 k₀ (Finset.mem_univ _)
  rw [h] at this
  exact le_bot_iff.1 this

/-- `e` is the weight two to the power `s`, where `⊥` stands for a key left out. -/
def Wt (s : EReal) (e : ℝ) : Prop := (s = ⊥ ∧ e = 0) ∨ ∃ x : ℝ, s = x ∧ e = (2 : ℝ) ^ x

theorem Wt.exp2_sub {s : EReal} {e : ℝ} (h : Wt s e) (M : ℝ) : Ideal.exp2 (s - (M : EReal)) = (((2 : ℝ) ^ (-M) * e : ℝ) : EReal) := by
  rcases h with ⟨rfl, rfl⟩ | ⟨x, rfl, rfl⟩
  · rw [EReal.bot_sub, exp2_bot]; simp
  · rw [← EReal.coe_sub, exp2_coe, ← Real.rpow_add (by norm_num)]
    congr 2; ring

theorem Wt.ne_top {s : EReal} {e : ℝ} (h : Wt s e) : s ≠ ⊤ := by
  rcases h with ⟨rfl, rfl⟩ | ⟨x, rfl, rfl⟩ <;> simp

/-- A running maximum `m` and running sums `acc`: the sums are `A`, scaled by two to the power `-m`. -/
def Run {ρ : Type} (m : EReal) (acc : ρ → EReal) (A : ρ → ℝ) : Prop :=
  (m = ⊥ ∧ ∀ r, acc r = 0 ∧ A r = 0) ∨ ∃ M : ℝ, m = M ∧ ∀ r, acc r = (((2 : ℝ) ^ (-M) * A r : ℝ) : EReal)

/-- One more block: the sums of the block are added, whatever real number `mx` the block brings as its maximum. -/
theorem Run.step {ρ κ : Type} [Fintype κ] {m : EReal} {acc : ρ → EReal} {A : ρ → ℝ} (h : Run m acc A) {mx : EReal}
    (hx : ∃ X : ℝ, mx = X) {s : κ → EReal} {e : κ → ℝ} (hs : ∀ k, Wt (s k) (e k)) (v : ρ → κ → ℝ) :
    ∃ M : ℝ, max m mx = M ∧ ∀ r, Ideal.exp2 (m - max m mx) * acc r + ∑ k, (v r k : EReal) * Ideal.exp2 (s k - max m mx)
      = (((2 : ℝ) ^ (-M) * (A r + ∑ k, v r k * e k) : ℝ) : EReal) := by
  obtain ⟨X, rfl⟩ := hx
  have key : ∀ (M : ℝ) (r : ρ), (∑ k, (v r k : EReal) * Ideal.exp2 (s k - (M : EReal)))
      = (((2 : ℝ) ^ (-M) * ∑ k, v r k * e k : ℝ) : EReal) := fun M r => by
    rw [Finset.mul_sum, coe_sum]
    refine Finset.sum_congr rfl fun k _ => ?_
    rw [(hs k).exp2_sub, ← EReal.coe_mul]
    congr 1; ring
  rcases h with ⟨rfl, h⟩ | ⟨M₀, rfl, h⟩
  · refine ⟨X, max_eq_right bot_le, fun r => ?_⟩
    rw [max_eq_right (bot_le : (⊥ : EReal) ≤ X), key, (h r).1, (h r).2]
    simp
  · refine ⟨max M₀ X, (EReal.coe_strictMono.monotone.map_max).symm, fun r => ?_⟩
    rw [← EReal.coe_strictMono.monotone.map_max, key, h r, ← EReal.coe_sub, exp2_coe, ← EReal.coe_mul, ← EReal.coe_add, mul_add,
      ← mul_assoc, ← Real.rpow_add (by norm_num)]
    congr 4; ring

theorem Run.of {ρ : Type} {m : EReal} {acc : ρ → EReal} {A : ρ → ℝ}
    (h : ∃ M : ℝ, m = M ∧ ∀ r, acc r = (((2 : ℝ) ^ (-M) * A r : ℝ) : EReal)) : Run m acc A := Or.inr h

/-- The quotient of two of the sums, the scale gone. -/
theorem quot {ρ : Type} {acc : ρ → EReal} {A : ρ → ℝ} {M : ℝ} (h : ∀ r, acc r = (((2 : ℝ) ^ (-M) * A r : ℝ) : EReal)) (r r' : ρ)
    (h0 : A r' ≠ 0) : Ideal.div (acc r) (acc r') = ((A r / A r' : ℝ) : EReal) := by
  have hp : (2 : ℝ) ^ (-M) ≠ 0 := (Real.rpow_pos_of_pos (by norm_num) _).ne'
  rw [h r, h r', div_coe _ _ (mul_ne_zero hp h0), mul_div_mul_left _ _ hp]

/-- `e` is the weight `exp s`, where `⊥` stands for a key left out. -/
def We (s : EReal) (e : ℝ) : Prop := (s = ⊥ ∧ e = 0) ∨ ∃ x : ℝ, s = x ∧ e = Real.exp x

theorem We.exp_sub {s : EReal} {e : ℝ} (h : We s e) (M : ℝ) : Ideal.exp (s - (M : EReal)) = ((Real.exp (-M) * e : ℝ) : EReal) := by
  rcases h with ⟨rfl, rfl⟩ | ⟨x, rfl, rfl⟩
  · rw [EReal.bot_sub, exp_bot]; simp
  · rw [← EReal.coe_sub, exp_coe, ← Real.exp_add]
    congr 2; ring

theorem We.ne_top {s : EReal} {e : ℝ} (h : We s e) : s ≠ ⊤ := by
  rcases h with ⟨rfl, rfl⟩ | ⟨x, rfl, rfl⟩ <;> simp

/-- Softmax taken all at once: the weighted mean. -/
theorem softmax {κ : Type} [Fintype κ] {s : κ → EReal} {e : κ → ℝ} (hs : ∀ k, We (s k) (e k)) (c : κ → ℝ) (M : ℝ) (h0 : ∑ k, e k ≠ 0) :
    ∑ k, (c k : EReal) * Ideal.div (Ideal.exp (s k - (M : EReal))) (∑ j, Ideal.exp (s j - (M : EReal)))
      = (((∑ k, c k * e k) / ∑ k, e k : ℝ) : EReal) := by
  have hp : Real.exp (-M) ≠ 0 := (Real.exp_pos _).ne'
  have hZ : ∑ j, Ideal.exp (s j - (M : EReal)) = ((Real.exp (-M) * ∑ j, e j : ℝ) : EReal) := by
    rw [Finset.mul_sum, coe_sum]
    exact Finset.sum_congr rfl fun k _ => (hs k).exp_sub M
  rw [hZ, Finset.sum_div, coe_sum]
  refine Finset.sum_congr rfl fun k _ => ?_
  rw [(hs k).exp_sub, div_coe _ _ (mul_ne_zero hp h0), mul_div_mul_left _ _ hp, ← EReal.coe_mul, mul_div_assoc]

/-- Two to the power of a number over `log 2` is its exponential. -/
theorem two_rpow (x : ℝ) : (2 : ℝ) ^ (x / Real.log 2) = Real.exp x := by
  have h : Real.log 2 ≠ 0 := (Real.log_pos (by norm_num)).ne'
  rw [Real.rpow_def_of_pos (by norm_num)]
  congr 1
  field_simp

end Cert.Proof.Sums
end
-- ==== Proof.Spec.lean ====
module

public import proofs.«01_k».proof.Proof.Sums

@[expose] public section

/-! Causal attention over the reals, as a function of the queries, the latents and the rotary keys. -/

noncomputable section
namespace Cert.Proof.Spec
open Idealize.ShloMosaic

variable (a0 : Fin 8 → Fin 8192 → Fin 8 → Fin 128 → ℝ) (a1 : Fin 8 → Fin 8192 → Fin 8 → Fin 64 → ℝ)
  (a2 : Fin 8 → Fin 8192 → Fin 128 → ℝ) (a3 : Fin 8 → Fin 8192 → Fin 64 → ℝ)

/-- The score of key `k` for query `q` of head `h`. -/
def score (b h : Fin 8) (q k : Fin 8192) : ℝ :=
  ∑ c : Fin 128, a2 b k c * (a0 b q h c / √192) + ∑ c : Fin 64, a3 b k c * (a1 b q h c / √192)

/-- Its weight: a query sees the keys up to its own place. -/
def weight (b h : Fin 8) (q k : Fin 8192) : ℝ := if k.val ≤ q.val then Real.exp (score a0 a1 a2 a3 b h q k) else 0

/-- The mean of the latents in the weights of the query. -/
def mean (b h : Fin 8) (q : Fin 8192) (d : Fin 128) : ℝ :=
  (∑ k : Fin 8192, a2 b k d * weight a0 a1 a2 a3 b h q k) / ∑ k : Fin 8192, weight a0 a1 a2 a3 b h q k

/-- The result: the mean times the head's matrix. -/
def out (W : Fin 128 → Fin 8 → Fin 128 → EReal) (b h : Fin 8) (q : Fin 8192) (v : Fin 128) : EReal :=
  ∑ d : Fin 128, W d h v * (mean a0 a1 a2 a3 b h q d : EReal)

theorem weight_sum_ne (b h : Fin 8) (q : Fin 8192) : ∑ k : Fin 8192, weight a0 a1 a2 a3 b h q k ≠ 0 := by
  refine (Finset.sum_pos' (fun k _ => ?_) ⟨0, by simp, ?_⟩).ne'
  · rw [weight]; split
    · positivity
    · exact le_rfl
  · rw [weight, if_pos (by simp)]; positivity

theorem sqrt_192 : Ideal.sqrt (Ideal.ofBits .f32 0x43400000#32) = ((√192 : ℝ) : EReal) := by
  have : Ideal.ofBits .f32 0x43400000#32 = ((192 : ℝ) : EReal) := by
    simp [Ideal.ofBits, Ideal.ieee, -EReal.coe_mul]; norm_num
  rw [this]
  show (if (192 : ℝ) < 0 then ⊥ else ((√192 : ℝ) : EReal)) = _
  rw [if_neg (by norm_num)]

theorem log_2 : Ideal.log (Ideal.ofBits .f32 0x40000000#32) = ((Real.log 2 : ℝ) : EReal) := by
  have : Ideal.ofBits .f32 0x40000000#32 = ((2 : ℝ) : EReal) := by
    simp [Ideal.ofBits, Ideal.ieee, -EReal.coe_mul]; norm_num
  rw [this]
  show (if (2 : ℝ) ≤ 0 then ⊥ else ((Real.log 2 : ℝ) : EReal)) = _
  rw [if_neg (by norm_num)]

theorem sqrt_ne : (√192 : ℝ) ≠ 0 := by positivity
theorem log_ne : (Real.log 2 : ℝ) ≠ 0 := (Real.log_pos (by norm_num)).ne'

end Cert.Proof.Spec
end
-- ==== Proof.HostAt.lean ====
module

public import proofs.«01_k».proof.Proof.Host
public import proofs.«01_k».proof.Proof.Spec
public import Idealize.ShloMosaic.Lib.Pointwise

@[expose] public section
set_option maxRecDepth 16384

/-! The region's arrays at an index, over the extended reals. -/

noncomputable section
namespace Cert.Proof.Attn
open Cert.KernelIdeal Cert.KernelIdeal.Gen
open Idealize.ShloMosaic

variable (A0 : Vec Ideal S8x8192x8x128 .f32) (A1 : Vec Ideal S8x8192x8x64 .f32) (A2 : Vec Ideal S8x8192x128 .f32) (A3 : Vec Ideal S8x8192x64 .f32) (A4 : Vec Ideal S128x8x128 .f32)

theorem sitofp_zero : FloatOps.sitofp (F := Ideal) .f32 (0#32) = 0 := by
  show (((0#32 : BitVec 32).toInt : ℝ) : EReal) = 0
  simp

/-- The scale the queries are divided by. -/
theorem scale_eq : Ideal.sqrt (Ideal.ofBits .f32 0x43400000#32) * Ideal.log (Ideal.ofBits .f32 0x40000000#32) = ((√192 * Real.log 2 : ℝ) : EReal) := by
  rw [Spec.sqrt_192, Spec.log_2, EReal.coe_mul]
theorem scale_ne : √192 * Real.log 2 ≠ 0 := mul_ne_zero Spec.sqrt_ne Spec.log_ne

theorem choose_congr {α : Type} {p r : Prop} [Decidable p] [Decidable r] (hpr : p ↔ r) {f : p → α} {f' : r → α} {y : ¬p → α} {y' : ¬r → α}
    (hf : ∀ a b, f a = f' b) (hy : ∀ a b, y a = y' b) : (if h : p then f h else y h) = if h : r then f' h else y' h := by
  by_cases h : r
  · rw [dif_pos h, dif_pos (hpr.mpr h)]
    exact hf _ _
  · rw [dif_neg h, dif_neg fun hp => h (hpr.mp hp)]
    exact hy _ _

theorem qArr_at (g : Fin 128) (r : Fin 2048) (q : Fin 512) : qArr A0 A1 (ix3 g r q)
    = Ideal.div (if h : r.val % 256 < 128 then A0 (ix4 ⟨g.val / 16, by omega⟩ ⟨g.val % 16 * 512 + q.val, by omega⟩ ⟨r.val / 256, by omega⟩ ⟨r.val % 256, h⟩)
      else if h' : r.val % 256 - 128 < 64 then A1 (ix4 ⟨g.val / 16, by omega⟩ ⟨g.val % 16 * 512 + q.val, by omega⟩ ⟨r.val / 256, by omega⟩ ⟨r.val % 256 - 128, h'⟩)
      else 0) ((√192 * Real.log 2 : ℝ) : EReal) := by
  pointwise [qArr]
  have hg := g.isLt
  have hq := q.isLt
  have hr := r.isLt
  refine congrArg₂ Ideal.div ?_ scale_eq
  refine choose_congr Iff.rfl (fun _ _ => rfl) fun _ _ => ?_
  exact choose_congr ⟨fun hh => hh.2.2.2, fun h' => ⟨by omega, by omega, by omega, h'⟩⟩ (fun _ _ => rfl) fun _ _ => sitofp_zero
theorem kArr_at (g : Fin 65536) (r : Fin 256) : kArr A2 A3 (ix2 g r)
    = if h : r.val < 128 then A2 (ix3 ⟨g.val / 8192, by omega⟩ ⟨g.val % 8192, by omega⟩ ⟨r.val, h⟩)
      else if h' : r.val - 128 < 64 then A3 (ix3 ⟨g.val / 8192, by omega⟩ ⟨g.val % 8192, by omega⟩ ⟨r.val - 128, h'⟩) else 0 := by
  pointwise [kArr]
  have hg := g.isLt
  refine choose_congr Iff.rfl (fun _ _ => rfl) fun _ _ => ?_
  exact choose_congr ⟨fun hh => hh.2.2, fun h' => ⟨by omega, by omega, h'⟩⟩ (fun _ _ => rfl) fun _ _ => sitofp_zero
theorem vArr_at (g : Fin 128) (r : Fin 144) (q : Fin 512) : vArr A2 (ix3 g r q)
    = if h : r.val < 128 then A2 (ix3 ⟨g.val / 16, by omega⟩ ⟨g.val % 16 * 512 + q.val, by omega⟩ ⟨r.val, h⟩) else 1 := by
  pointwise [vArr]
theorem wArr_at (h : Fin 8) (d v : Fin 128) : wArr A4 (ix3 h d v) = A4 (ix3 d h v) := by
  pointwise [wArr]

/-- A sum over the 256 lanes, cut at the ends of the latent and of the rotary part. -/
theorem sum_lanes (f : Fin 256 → EReal) : ∑ r : Fin 256, f r
    = ∑ c : Fin 128, f ⟨c.val, by omega⟩ + (∑ c : Fin 64, f ⟨128 + c.val, by omega⟩ + ∑ c : Fin 64, f ⟨128 + (64 + c.val), by omega⟩) := by
  refine (Fin.sum_univ_add (a := 128) (b := 128) f).trans (congrArg₂ (· + ·) rfl ?_)
  exact Fin.sum_univ_add (a := 64) (b := 64) fun i => f (Fin.natAdd 128 i)

variable {A0 A1 A2 A3} {a0 : Fin 8 → Fin 8192 → Fin 8 → Fin 128 → ℝ} {a1 : Fin 8 → Fin 8192 → Fin 8 → Fin 64 → ℝ}
  {a2 : Fin 8 → Fin 8192 → Fin 128 → ℝ} {a3 : Fin 8 → Fin 8192 → Fin 64 → ℝ}
  (h0 : ∀ b q h c, A0 (ix4 b q h c) = (a0 b q h c : EReal)) (h1 : ∀ b q h c, A1 (ix4 b q h c) = (a1 b q h c : EReal))
  (h2 : ∀ b k c, A2 (ix3 b k c) = (a2 b k c : EReal)) (h3 : ∀ b k c, A3 (ix3 b k c) = (a3 b k c : EReal))
  (b : Fin 8) (j : Fin 16) (q : Fin 512) (h : Fin 8) (k : Fin 8192)

include h0 h1 h2 h3 in
/-- The kernel's score: the reference's over the logarithm of two. -/
theorem score_val : ∑ r : Fin 256, kArr A2 A3 (ix2 ⟨b.val * 8192 + k.val, by omega⟩ r) * qArr A0 A1 (ix3 ⟨b.val * 16 + j.val, by omega⟩ ⟨256 * h.val + r.val, by omega⟩ q)
    = ((Spec.score a0 a1 a2 a3 b h ⟨512 * j.val + q.val, by omega⟩ k / Real.log 2 : ℝ) : EReal) := by
  have hb := b.isLt
  have hj := j.isLt
  have hq := q.isLt
  have hh := h.isLt
  have hk := k.isLt
  have eb : (⟨(b.val * 8192 + k.val) / 8192, by omega⟩ : Fin 8) = b := Fin.ext (by simp only; omega)
  have ek : (⟨(b.val * 8192 + k.val) % 8192, by omega⟩ : Fin 8192) = k := Fin.ext (by simp only; omega)
  have eb' : (⟨(b.val * 16 + j.val) / 16, by omega⟩ : Fin 8) = b := Fin.ext (by simp only; omega)
  have eq' : (⟨(b.val * 16 + j.val) % 16 * 512 + q.val, by omega⟩ : Fin 8192) = ⟨512 * j.val + q.val, by omega⟩ := Fin.ext (by simp only; omega)
  have p1 : ∀ c : Fin 128, kArr A2 A3 (ix2 ⟨b.val * 8192 + k.val, by omega⟩ ⟨c.val, by omega⟩) * qArr A0 A1 (ix3 ⟨b.val * 16 + j.val, by omega⟩ ⟨256 * h.val + c.val, by omega⟩ q)
      = ((a2 b k c * (a0 b ⟨512 * j.val + q.val, by omega⟩ h c / (√192 * Real.log 2)) : ℝ) : EReal) := fun c => by
    have hc := c.isLt
    have e1 : (⟨(256 * h.val + c.val) / 256, by omega⟩ : Fin 8) = h := Fin.ext (by simp only; omega)
    have e2 : (⟨(256 * h.val + c.val) % 256, by omega⟩ : Fin 128) = c := Fin.ext (by simp only; omega)
    rw [kArr_at, qArr_at, dif_pos hc, dif_pos (by simp only; omega)]
    simp only [eb, ek, eb', eq', e1, e2]
    rw [h2, h0, Sums.div_coe _ _ scale_ne, ← EReal.coe_mul]
  have p2 : ∀ c : Fin 64, kArr A2 A3 (ix2 ⟨b.val * 8192 + k.val, by omega⟩ ⟨128 + c.val, by omega⟩) * qArr A0 A1 (ix3 ⟨b.val * 16 + j.val, by omega⟩ ⟨256 * h.val + (128 + c.val), by omega⟩ q)
      = ((a3 b k c * (a1 b ⟨512 * j.val + q.val, by omega⟩ h c / (√192 * Real.log 2)) : ℝ) : EReal) := fun c => by
    have hc := c.isLt
    have e1 : (⟨(256 * h.val + (128 + c.val)) / 256, by omega⟩ : Fin 8) = h := Fin.ext (by simp only; omega)
    have e2 : (⟨(256 * h.val + (128 + c.val)) % 256 - 128, by omega⟩ : Fin 64) = c := Fin.ext (by simp only; omega)
    have e3 : (⟨128 + c.val - 128, by omega⟩ : Fin 64) = c := Fin.ext (by simp only; omega)
    rw [kArr_at, dif_neg (by simp only; omega), dif_pos (by simp only; omega), qArr_at, dif_neg (by simp only; omega), dif_pos (by simp only; omega)]
    simp only [eb, ek, eb', eq', e1, e2, e3]
    rw [h3, h1, Sums.div_coe _ _ scale_ne, ← EReal.coe_mul]
  have p3 : ∀ c : Fin 64, kArr A2 A3 (ix2 ⟨b.val * 8192 + k.val, by omega⟩ ⟨128 + (64 + c.val), by omega⟩) * qArr A0 A1 (ix3 ⟨b.val * 16 + j.val, by omega⟩ ⟨256 * h.val + (128 + (64 + c.val)), by omega⟩ q)
      = 0 := fun c => by
    have hc := c.isLt
    rw [kArr_at, dif_neg (by simp only; omega), dif_neg (by simp only; omega), zero_mul]
  rw [sum_lanes]
  simp only [p1, p2, p3]
  rw [Finset.sum_const_zero, add_zero, ← Sums.coe_sum, ← Sums.coe_sum, ← EReal.coe_add, Spec.score, add_div, Finset.sum_div, Finset.sum_div]
  congr 2 <;> exact Finset.sum_congr rfl fun c _ => by rw [mul_div_assoc, div_div]

end Cert.Proof.Attn
end
-- ==== Proof.Base.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Frame
public import Idealize.ShloMosaic.Lib.Tactic
public import Idealize.ShloMosaic.Lib.Pipeline.Kit
public import Idealize.ShloMosaic.Lib.LoopRemainder
public import Idealize.ShloMosaic.Lib.Tactic.Stretches

@[expose] public section

noncomputable section

namespace Cert.Proof.Attn

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- What one head carries over the key blocks: the block of scores in hand with its row of maxima, the running row of
    maxima, and the weighted sums of the values (whose row 128 is the sum of the weights). -/
structure Head (F : FTy → Type) where
  s : FVec F S512x512 .f32
  mx : FVec F S1x512 .f32
  m : FVec F S1x512 .f32
  acc : FVec F S144x512 .f32

/-- A head after one more key block: the block in hand is added to the sums, and the scores of the keys `kb` against
    the queries `qb` are taken in hand; `vb` is the block of values that belongs to the scores in hand before. -/
def Head.step (x : Head F) (kb : Vec F S512x256 .bf16) (qb : Vec F S1x256x512 .bf16) (vb : Vec F S1x144x512 .bf16) : Head F where
  s := k0_pay7 (k0_pay2 kb qb)
  mx := k0_pay8 (k0_pay3 kb qb)
  m := k0_pay6 x.mx x.m
  acc := k0_pay5 x.s x.mx x.m x.acc vb

/-- Memref `M`'s buffer on core `c`: its contents type. -/
abbrev Bf (c : Dev nD) {sp : Space} {S : Shape} {e : EltTy} (M : Memref sig .tc sp S e) : Type := Buf (Elt F) (M.view.loc (c : Thread nD τ))
/-- Memref `M` held by its own elements at contents `f`. -/
abbrev pt (c : Dev nD) {sp : Space} {S : Shape} {e : EltTy} (M : Memref sig .tc sp S e) (f : Bf (F := F) c M) : sProp 𝕄 :=
  M.view.loc (c : Thread nD τ) ↦[M.view.set]{fullShare} f
/-- Memref `M` held at the values `x`. -/
abbrev vl (c : Dev nD) {sp : Space} {S : Shape} {e : EltTy} (M : Memref sig .tc sp S e) (x : S.Idx → Elt F e) : sProp 𝕄 :=
  M.view.loc (c : Thread nD τ) ↦[M.view.set]{fullShare} M.view.rep x

section Whole
variable [∀ e, Nonempty (Elt F e)]

/-- A box of all the memref's elements reads as the memref. -/
theorem idx_whole {S : Shape} {off : Fin S.rank → ℕ} (inb : ∀ a, off a + S.size a ≤ S.size a) (y : S.Idx) :
    (Rect.unit (s := S) off S.size inb).toLoadRect.idx y = y := by
  funext a
  apply Fin.ext
  have h := inb a
  have h0 : off a = 0 := by omega
  show off a + 1 * (y a).val = (y a).val
  rw [h0]; omega

theorem readAt_whole_rep {S : Shape} {e : EltTy} {sp : Space} (M : Memref sig .tc sp S e) {off : Fin S.rank → ℕ}
    (inb : ∀ a, off a + S.size a ≤ S.size a) (x : S.Idx → Elt F e) :
    M.view.readAt (Elt F) (Rect.unit (s := S) off S.size inb).toLoadRect (M.view.rep x) = x := by
  rw [View.readAt_rep]; funext y; rw [idx_whole]

theorem r512 (M : Memref sig .tc .vmem S512x512 .f32) (x : FVec F S512x512 .f32) :
    M.view.readAt (Elt F) (Rect.unit (s := S512x512) ![0, 0] S512x512.size inb_S512x512_S512x512_0_0).toLoadRect (M.view.rep x) = x :=
  readAt_whole_rep M _ x
theorem r1 (M : Memref sig .tc .vmem S1x512 .f32) (x : FVec F S1x512 .f32) :
    M.view.readAt (Elt F) (Rect.unit (s := S1x512) ![0, 0] S1x512.size inb_S1x512_S1x512_0_0).toLoadRect (M.view.rep x) = x :=
  readAt_whole_rep M _ x
theorem r144 (M : Memref sig .tc .vmem S144x512 .f32) (x : FVec F S144x512 .f32) :
    M.view.readAt (Elt F) (Rect.unit (s := S144x512) ![0, 0] S144x512.size inb_S144x512_S144x512_0_0).toLoadRect (M.view.rep x) = x :=
  readAt_whole_rep M _ x

theorem read_whole_writes {S : Shape} {e : EltTy} {sp : Space} (M : Memref sig .tc sp S e) {off : Fin S.rank → ℕ}
    (inb : ∀ a, off a + S.size a ≤ S.size a) (f : M.view.ty.Contents (Elt F)) (p : S.Idx → Elt F e) (L) :
    M.view.read (Elt F) (M.view.writes (Elt F) f (⟨Rect.unit (s := S) off S.size inb, p⟩ :: L)) = p := by
  funext y
  have h := View.read_writes_cons_emb M.view f (Rect.unit (s := S) off S.size inb) p L y
  have e : (Rect.unit (s := S) off S.size inb).emb y = y := idx_whole inb y
  rwa [e] at h

end Whole

/-- A memref held at contents that read as `x` is held at `x`. -/
theorem vl_of_read (c : Dev nD) {S : Shape} {e : EltTy} (M : Memref sig .tc .vmem S e) (g : Bf (F := F) c M) {x : S.Idx → Elt F e}
    (h : M.view.read (Elt F) g = x) : pt c M g ⊢ vl c M x := by
  subst h; exact pointsTo_rep_entails _ _ _ _

/-- The heads' scratch held at `x`. -/
abbrev scr (c : Dev nD) (x : Fin 8 → Head F) : sProp 𝕄 :=
  iprop(vl c (Memref.whole cc0_scratch0) (x 0).s ∗ vl c (Memref.whole cc0_scratch1) (x 0).mx ∗ vl c (Memref.whole cc0_scratch2) (x 0).m ∗ vl c (Memref.whole cc0_scratch3) (x 0).acc
    ∗ vl c (Memref.whole cc0_scratch4) (x 1).s ∗ vl c (Memref.whole cc0_scratch5) (x 1).mx ∗ vl c (Memref.whole cc0_scratch6) (x 1).m ∗ vl c (Memref.whole cc0_scratch7) (x 1).acc
    ∗ vl c (Memref.whole cc0_scratch8) (x 2).s ∗ vl c (Memref.whole cc0_scratch9) (x 2).mx ∗ vl c (Memref.whole cc0_scratch10) (x 2).m ∗ vl c (Memref.whole cc0_scratch11) (x 2).acc
    ∗ vl c (Memref.whole cc0_scratch12) (x 3).s ∗ vl c (Memref.whole cc0_scratch13) (x 3).mx ∗ vl c (Memref.whole cc0_scratch14) (x 3).m ∗ vl c (Memref.whole cc0_scratch15) (x 3).acc
    ∗ vl c (Memref.whole cc0_scratch16) (x 4).s ∗ vl c (Memref.whole cc0_scratch17) (x 4).mx ∗ vl c (Memref.whole cc0_scratch18) (x 4).m ∗ vl c (Memref.whole cc0_scratch19) (x 4).acc
    ∗ vl c (Memref.whole cc0_scratch20) (x 5).s ∗ vl c (Memref.whole cc0_scratch21) (x 5).mx ∗ vl c (Memref.whole cc0_scratch22) (x 5).m ∗ vl c (Memref.whole cc0_scratch23) (x 5).acc
    ∗ vl c (Memref.whole cc0_scratch24) (x 6).s ∗ vl c (Memref.whole cc0_scratch25) (x 6).mx ∗ vl c (Memref.whole cc0_scratch26) (x 6).m ∗ vl c (Memref.whole cc0_scratch27) (x 6).acc
    ∗ vl c (Memref.whole cc0_scratch28) (x 7).s ∗ vl c (Memref.whole cc0_scratch29) (x 7).mx ∗ vl c (Memref.whole cc0_scratch30) (x 7).m ∗ vl c (Memref.whole cc0_scratch31) (x 7).acc)

/-- The keys of the block that trip `j` takes in hand. -/
abbrev kblk (K : Vec F S8192x256 .bf16) (i : grid0.Coords) (j : Fin (k0_t1_loop i).trips) : Vec F S512x256 .bf16 :=
  fun y => K ((Rect.unit (s := S8192x256) (k0_off1 i j) S512x256.size (k0_off1_inb i j)).toLoadRect.idx y)
/-- The values of the block that trip `j` adds to the sums. -/
abbrev vblk (V : Vec F S16x144x512 .bf16) (i : grid0.Coords) (j : Fin (k0_t1_loop i).trips) : Vec F S1x144x512 .bf16 :=
  fun y => V ((Rect.unit (s := S16x144x512) (k0_off2 i j) S1x144x512.size (k0_off2_inb i j)).toLoadRect.idx y)
/-- Head `h`'s queries. -/
abbrev qblk (Q : Vec F S1x2048x512 .bf16) (off : Fin 3 → ℕ) (inb : ∀ a, off a + S1x256x512.size a ≤ S1x2048x512.size a) : Vec F S1x256x512 .bf16 :=
  fun y => Q ((Rect.unit (s := S1x2048x512) off S1x256x512.size inb).toLoadRect.idx y)
theorem qinb (h : Fin 8) : ∀ a, (![0, 256 * h.val, 0] : Fin 3 → ℕ) a + S1x256x512.size a ≤ S1x2048x512.size a := by
  revert h; decide

/-- All heads after trip `j`. -/
def trip (Q : Vec F S1x2048x512 .bf16) (K : Vec F S8192x256 .bf16) (V : Vec F S16x144x512 .bf16) (i : grid0.Coords)
    (j : Fin (k0_t1_loop i).trips) (x : Fin 8 → Head F) : Fin 8 → Head F :=
  fun h => (x h).step (kblk K i j) (qblk Q ![0, 256 * h.val, 0] (qinb h)) (vblk V i j)

end Cert.Proof.Attn

end
-- ==== Proof.Trip.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Frame
public import proofs.«01_k».proof.Proof.Base
public import Idealize.ShloMosaic.Lib.Tactic
public import Idealize.ShloMosaic.Lib.Pipeline.Kit
public import Idealize.ShloMosaic.Lib.LoopRemainder
public import proofs.«01_k».proof.Proof.Base
public import Idealize.ShloMosaic.Lib.Tactic.Stretches

@[expose] public section

noncomputable section

namespace Cert.Proof.Attn

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 4000000 in
set_option maxRecDepth 65536 in
/-- One trip of the loop over the key blocks. -/
theorem trip_run (c : Dev nD) (i : grid0.Coords) (M2 : Memref sig .tc .vmem S1x2048x512 .bf16) (h2 : M2.IsWhole) (M3 : Memref sig .tc .vmem S8192x256 .bf16) (h3 : M3.IsWhole)
    (M4 : Memref sig .tc .vmem S16x144x512 .bf16) (h4 : M4.IsWhole) (M5 : Memref sig .tc .vmem S8x128x128 .bf16) (h5 : M5.IsWhole)
    (M6 : Memref sig .tc .vmem S512x1024 .bf16) (h6 : M6.IsWhole)
    (arg1 v17 : BitVec 32) (v190 : FVec F S512x256 .bf16) (j : Fin (k0_t1_loop i).trips)
    (Q : Vec F S1x2048x512 .bf16) (K : Vec F S8192x256 .bf16) (V : Vec F S16x144x512 .bf16) (x : Fin 8 → Head F) :
    iprop(vl c M2 Q ∗ vl c M3 K ∗ vl c M4 V ∗ scr c x)
    ⊢ wp frame (wpE (defs₀ (F := F)) Variants.none c none) Set.univ
        (k0_t1_body i M2 h2 M3 h3 M4 h4 M5 h5 M6 h6 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) (Memref.whole cc0_scratch24) (Memref.isWhole_whole _) (Memref.whole cc0_scratch25) (Memref.isWhole_whole _) (Memref.whole cc0_scratch26) (Memref.isWhole_whole _) (Memref.whole cc0_scratch27) (Memref.isWhole_whole _) (Memref.whole cc0_scratch28) (Memref.isWhole_whole _) (Memref.whole cc0_scratch29) (Memref.isWhole_whole _) (Memref.whole cc0_scratch30) (Memref.isWhole_whole _) (Memref.whole cc0_scratch31) (Memref.isWhole_whole _) arg1 v17 v190 j ())
        (fun _ => iprop(vl c M2 Q ∗ vl c M3 K ∗ vl c M4 V ∗ scr c (trip Q K V i j x))) := by
  unfold k0_t1_body
  iintro ⟨H2, H3, H4, S0, S1, S2, S3, S4, S5, S6, S7, S8, S9, S10, S11, S12, S13, S14, S15, S16, S17, S18, S19, S20, S21, S22, S23, S24, S25, S26, S27, S28, S29, S30, S31⟩
  sl_exec_parts
  sl_step
  isplitl [H2]; · iexact H2
  isplitl [H3]; · iexact H3
  isplitl [H4]; · iexact H4
  isplitl [S0]; swap
  isplitl [S1]; swap
  isplitl [S2]; swap
  isplitl [S3]; swap
  isplitl [S4]; swap
  isplitl [S5]; swap
  isplitl [S6]; swap
  isplitl [S7]; swap
  isplitl [S8]; swap
  isplitl [S9]; swap
  isplitl [S10]; swap
  isplitl [S11]; swap
  isplitl [S12]; swap
  isplitl [S13]; swap
  isplitl [S14]; swap
  isplitl [S15]; swap
  isplitl [S16]; swap
  isplitl [S17]; swap
  isplitl [S18]; swap
  isplitl [S19]; swap
  isplitl [S20]; swap
  isplitl [S21]; swap
  isplitl [S22]; swap
  isplitl [S23]; swap
  isplitl [S24]; swap
  isplitl [S25]; swap
  isplitl [S26]; swap
  isplitl [S27]; swap
  isplitl [S28]; swap
  isplitl [S29]; swap
  isplitl [S30]; swap
  all_goals
    refine vl_of_read c _ _ ?_
    sl_open_run
    refine (read_whole_writes _ _ _ _ _).trans ?_
    simp only [↓r512, ↓r1, ↓r144, View.readAt_rep]
    dsimp only [trip, Head.step]
    try rfl

end Cert.Proof.Attn

end
-- ==== Proof.Body.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Frame
public import proofs.«01_k».proof.Proof.Trip
public import Idealize.ShloMosaic.Lib.Tactic
public import Idealize.ShloMosaic.Lib.Pointwise.Index
public import Idealize.ShloMosaic.Lib.WritesUnit
public import Idealize.ShloMosaic.Lib.VecWindow
public import Idealize.ShloMosaic.Lib.Pipeline.Kit
public import Idealize.ShloMosaic.Lib.LoopRemainder
public import proofs.«01_k».proof.Proof.Trip
public import Idealize.ShloMosaic.Lib.Tactic.Stretches

@[expose] public section

noncomputable section

namespace Cert.Proof.Attn

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The keys of the first block. -/
abbrev kblk0 (K : Vec F S8192x256 .bf16) : Vec F S512x256 .bf16 :=
  fun y => K ((Rect.unit (s := S8192x256) ![0, 0] S512x256.size inb_S8192x256_S512x256_0_0).toLoadRect.idx y)

/-- A head before the first trip: the scores of the first block in hand, nothing summed yet. -/
def Head.start (kb : Vec F S512x256 .bf16) (qb : Vec F S1x256x512 .bf16) : Head F where
  s := k0_pay122 (k0_pay120 kb qb)
  mx := k0_pay123 (k0_pay121 kb qb)
  m := k0_pay118
  acc := k0_pay119

/-- All heads before trip `n`. -/
def st (Q : Vec F S1x2048x512 .bf16) (K : Vec F S8192x256 .bf16) (V : Vec F S16x144x512 .bf16) (i : grid0.Coords) : ℕ → Fin 8 → Head F
  | 0 => fun h => Head.start (kblk0 K) (qblk Q ![0, 256 * h.val, 0] (qinb h))
  | n + 1 => if h : n < (k0_t1_loop i).trips then trip Q K V i ⟨n, h⟩ (st Q K V i n) else st Q K V i n

theorem st_succ (Q : Vec F S1x2048x512 .bf16) (K : Vec F S8192x256 .bf16) (V : Vec F S16x144x512 .bf16) (i : grid0.Coords)
    (j : Fin (k0_t1_loop i).trips) : st Q K V i (j.val + 1) = trip Q K V i j (st Q K V i j.val) := by
  rw [st, dif_pos j.isLt]

/-- The number of the block the diagonal meets, as the kernel computes it. -/
def word (i : grid0.Coords) : BitVec 32 :=
  let v0 : BitVec 32 := Scalar.muli (BitVec.ofNat 32 (i 1).val) 512#32
  let v1 : BitVec 32 := Scalar.divsi v0 512#32
  let v6 : BitVec 32 := Scalar.subi (Scalar.extui (Scalar.cmpi .sgt v0 0#32)) (Scalar.extui (Scalar.cmpi .slt v0 0#32))
  let v15 : BitVec 1 := Scalar.andi (Scalar.cmpi .ne v6 1#32) (Scalar.cmpi .ne (Scalar.remsi v0 512#32) 0#32)
  Scalar.select v15 (Scalar.subi v1 1#32) v1

/-- The values of the block the diagonal meets. -/
abbrev vblkD (V : Vec F S16x144x512 .bf16) (i : grid0.Coords) : Vec F S1x144x512 .bf16 :=
  fun y => V ((Rect.unit (s := S16x144x512) (k0_off5 i) S1x144x512.size (k0_off5_inb i)).toLoadRect.idx y)
theorem winb (h : Fin 8) : ∀ a, (![h.val, 0, 0] : Fin 3 → ℕ) a + S1x128x128.size a ≤ S8x128x128.size a := by
  revert h; decide
/-- Head `h`'s matrix of the last product. -/
abbrev wblk (W : Vec F S8x128x128 .bf16) (off : Fin 3 → ℕ) (inb : ∀ a, off a + S1x128x128.size a ≤ S8x128x128.size a) : Vec F S1x128x128 .bf16 :=
  fun y => W ((Rect.unit (s := S8x128x128) off S1x128x128.size inb).toLoadRect.idx y)

/-- A head's sums after the block in hand, the keys past the query masked out, is added. -/
def Head.last (x : Head F) (a w : BitVec 32) (vb : Vec F S1x144x512 .bf16) : FVec F S144x512 .f32 :=
  k0_pay176 (k0_pay174 a w x.s x.m) (k0_pay175 a w x.s x.m) x.acc vb

/-- Head `h`'s columns of the block written. -/
def headOut (Q : Vec F S1x2048x512 .bf16) (K : Vec F S8192x256 .bf16) (V : Vec F S16x144x512 .bf16) (W : Vec F S8x128x128 .bf16)
    (i : grid0.Coords) (h : Fin 8) : FVec F S512x128 .bf16 :=
  k0_pay1 ((st Q K V i (k0_t1_loop i).trips h).last (BitVec.ofNat 32 (i 1).val) (word i) (vblkD V i)) (wblk W ![h.val, 0, 0] (winb h))

/-- The block written. -/
def blkOut (Q : Vec F S1x2048x512 .bf16) (K : Vec F S8192x256 .bf16) (V : Vec F S16x144x512 .bf16) (W : Vec F S8x128x128 .bf16)
    (i : grid0.Coords) : Vec F S512x1024 .bf16 :=
  fun y => headOut Q K V W i ⟨(y 1).val / 128, by have := (y 1).isLt; change (y 1).val < 1024 at this; omega⟩
    (ix2 ⟨(y 0).val, (y 0).isLt⟩ ⟨(y 1).val % 128, Nat.mod_lt _ (by omega)⟩)

section Cols
variable [∀ e, Nonempty (Elt F e)]
theorem readCov_whole {S : Shape} {e : EltTy} {sp : Space} (M : Memref sig .tc sp S e) {off : Fin S.rank → ℕ}
    (inb : ∀ a, off a + S.size a ≤ S.size a) (x : S.Idx → Elt F e) :
    M.view.readCov (Val := Elt F) [(⟨Rect.unit (s := S) off S.size inb, x⟩ : View.Piece (Elt F) S e)] (Rect.unit (s := S) off S.size inb).toLoadRect = x :=
  View.readCov_full M.view inb inb x []
theorem c144 (M : Memref sig .tc .vmem S144x512 .f32) (x : FVec F S144x512 .f32) :
    M.view.readCov (Val := Elt F) [⟨Rect.unit (s := S144x512) ![0, 0] S144x512.size inb_S144x512_S144x512_0_0, x⟩]
      (Rect.unit (s := S144x512) ![0, 0] S144x512.size inb_S144x512_S144x512_0_0).toLoadRect = x :=
  readCov_whole M inb_S144x512_S144x512_0_0 x
theorem cols_step (M : Memref sig .tc .vmem S512x1024 .bf16) (f : M.view.ty.Contents (Elt F)) (o : ℕ) (h : Fin 8) (ho : o = 128 * h.val)
    (inb : ∀ a, (![0, o] : Fin 2 → ℕ) a + S512x128.size a ≤ S512x1024.size a) (p : Fin 8 → FVec F S512x128 .bf16) (w : FVec F S512x128 .bf16) (L) (y : S512x1024.Idx)
    (q : Fin 8) (hq : (y 1).val / 128 = q.val) (z : S512x128.Idx) (hz0 : (z 0).val = (y 0).val) (hz1 : (z 1).val = (y 1).val % 128)
    (hL : q ≠ h → M.view.read (Elt F) (M.view.writes (Elt F) f L) y = p q z) (hw : w = p h) :
    M.view.read (Elt F) (M.view.writes (Elt F) f (⟨Rect.unit (s := S512x1024) ![0, o] S512x128.size inb, w⟩ :: L)) y = p q z := by
  subst hw
  by_cases e : q = h
  · subst e
    refine View.read_writes_cons_unit_of_mem _ _ inb _ L y z rfl fun a => ?_
    match a with
    | ⟨0, _⟩ => simpa using hz0.symm
    | ⟨1, _⟩ =>
      show (y 1).val = o + (z 1).val
      omega
  · rw [← hL e]
    refine View.read_writes_cons_unit_of_not_mem _ _ inb _ L y rfl 1 ?_
    have : q.val ≠ h.val := fun h' => e (Fin.ext h')
    show (y 1).val < o ∨ o + 128 ≤ (y 1).val
    omega
end Cols

set_option maxHeartbeats 8000000 in
set_option maxRecDepth 65536 in
/-- One point of the grid. -/
theorem body_run [∀ e, Nonempty (Elt F e)] (c : Dev nD) (i : grid0.Coords) (M2 : Memref sig .tc .vmem S1x2048x512 .bf16) (h2 : M2.IsWhole) (M3 : Memref sig .tc .vmem S8192x256 .bf16) (h3 : M3.IsWhole)
    (M4 : Memref sig .tc .vmem S16x144x512 .bf16) (h4 : M4.IsWhole) (M5 : Memref sig .tc .vmem S8x128x128 .bf16) (h5 : M5.IsWhole)
    (M6 : Memref sig .tc .vmem S512x1024 .bf16) (h6 : M6.IsWhole)
    (Q : Vec F S1x2048x512 .bf16) (K : Vec F S8192x256 .bf16) (V : Vec F S16x144x512 .bf16) (W : Vec F S8x128x128 .bf16)
    (fo : Bf (F := F) c M6) (f0 : Bf (F := F) c (Memref.whole cc0_scratch0)) (f1 : Bf (F := F) c (Memref.whole cc0_scratch1)) (f2 : Bf (F := F) c (Memref.whole cc0_scratch2)) (f3 : Bf (F := F) c (Memref.whole cc0_scratch3)) (f4 : Bf (F := F) c (Memref.whole cc0_scratch4)) (f5 : Bf (F := F) c (Memref.whole cc0_scratch5)) (f6 : Bf (F := F) c (Memref.whole cc0_scratch6)) (f7 : Bf (F := F) c (Memref.whole cc0_scratch7)) (f8 : Bf (F := F) c (Memref.whole cc0_scratch8)) (f9 : Bf (F := F) c (Memref.whole cc0_scratch9)) (f10 : Bf (F := F) c (Memref.whole cc0_scratch10)) (f11 : Bf (F := F) c (Memref.whole cc0_scratch11)) (f12 : Bf (F := F) c (Memref.whole cc0_scratch12)) (f13 : Bf (F := F) c (Memref.whole cc0_scratch13)) (f14 : Bf (F := F) c (Memref.whole cc0_scratch14)) (f15 : Bf (F := F) c (Memref.whole cc0_scratch15)) (f16 : Bf (F := F) c (Memref.whole cc0_scratch16)) (f17 : Bf (F := F) c (Memref.whole cc0_scratch17)) (f18 : Bf (F := F) c (Memref.whole cc0_scratch18)) (f19 : Bf (F := F) c (Memref.whole cc0_scratch19)) (f20 : Bf (F := F) c (Memref.whole cc0_scratch20)) (f21 : Bf (F := F) c (Memref.whole cc0_scratch21)) (f22 : Bf (F := F) c (Memref.whole cc0_scratch22)) (f23 : Bf (F := F) c (Memref.whole cc0_scratch23)) (f24 : Bf (F := F) c (Memref.whole cc0_scratch24)) (f25 : Bf (F := F) c (Memref.whole cc0_scratch25)) (f26 : Bf (F := F) c (Memref.whole cc0_scratch26)) (f27 : Bf (F := F) c (Memref.whole cc0_scratch27)) (f28 : Bf (F := F) c (Memref.whole cc0_scratch28)) (f29 : Bf (F := F) c (Memref.whole cc0_scratch29)) (f30 : Bf (F := F) c (Memref.whole cc0_scratch30)) (f31 : Bf (F := F) c (Memref.whole cc0_scratch31)) :
    iprop(vl c M2 Q ∗ vl c M3 K ∗ vl c M4 V ∗ vl c M5 W ∗ pt c M6 fo ∗ pt c (Memref.whole cc0_scratch0) f0 ∗ pt c (Memref.whole cc0_scratch1) f1 ∗ pt c (Memref.whole cc0_scratch2) f2 ∗ pt c (Memref.whole cc0_scratch3) f3 ∗ pt c (Memref.whole cc0_scratch4) f4 ∗ pt c (Memref.whole cc0_scratch5) f5 ∗ pt c (Memref.whole cc0_scratch6) f6 ∗ pt c (Memref.whole cc0_scratch7) f7 ∗ pt c (Memref.whole cc0_scratch8) f8 ∗ pt c (Memref.whole cc0_scratch9) f9 ∗ pt c (Memref.whole cc0_scratch10) f10 ∗ pt c (Memref.whole cc0_scratch11) f11 ∗ pt c (Memref.whole cc0_scratch12) f12 ∗ pt c (Memref.whole cc0_scratch13) f13 ∗ pt c (Memref.whole cc0_scratch14) f14 ∗ pt c (Memref.whole cc0_scratch15) f15 ∗ pt c (Memref.whole cc0_scratch16) f16 ∗ pt c (Memref.whole cc0_scratch17) f17 ∗ pt c (Memref.whole cc0_scratch18) f18 ∗ pt c (Memref.whole cc0_scratch19) f19 ∗ pt c (Memref.whole cc0_scratch20) f20 ∗ pt c (Memref.whole cc0_scratch21) f21 ∗ pt c (Memref.whole cc0_scratch22) f22 ∗ pt c (Memref.whole cc0_scratch23) f23 ∗ pt c (Memref.whole cc0_scratch24) f24 ∗ pt c (Memref.whole cc0_scratch25) f25 ∗ pt c (Memref.whole cc0_scratch26) f26 ∗ pt c (Memref.whole cc0_scratch27) f27 ∗ pt c (Memref.whole cc0_scratch28) f28 ∗ pt c (Memref.whole cc0_scratch29) f29 ∗ pt c (Memref.whole cc0_scratch30) f30 ∗ pt c (Memref.whole cc0_scratch31) f31)
    ⊢ wp frame (wpE (defs₀ (F := F)) Variants.none c none) Set.univ
        (cc0_mla_attn i M2 h2 M3 h3 M4 h4 M5 h5 M6 h6 (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) (Memref.whole cc0_scratch18) (Memref.isWhole_whole _) (Memref.whole cc0_scratch19) (Memref.isWhole_whole _) (Memref.whole cc0_scratch20) (Memref.isWhole_whole _) (Memref.whole cc0_scratch21) (Memref.isWhole_whole _) (Memref.whole cc0_scratch22) (Memref.isWhole_whole _) (Memref.whole cc0_scratch23) (Memref.isWhole_whole _) (Memref.whole cc0_scratch24) (Memref.isWhole_whole _) (Memref.whole cc0_scratch25) (Memref.isWhole_whole _) (Memref.whole cc0_scratch26) (Memref.isWhole_whole _) (Memref.whole cc0_scratch27) (Memref.isWhole_whole _) (Memref.whole cc0_scratch28) (Memref.isWhole_whole _) (Memref.whole cc0_scratch29) (Memref.isWhole_whole _) (Memref.whole cc0_scratch30) (Memref.isWhole_whole _) (Memref.whole cc0_scratch31) (Memref.isWhole_whole _))
        (fun _ => iprop(vl c M2 Q ∗ vl c M3 K ∗ vl c M4 V ∗ vl c M5 W ∗ vl c M6 (blkOut Q K V W i) ∗ (∃ f, pt c (Memref.whole cc0_scratch0) f) ∗ (∃ f, pt c (Memref.whole cc0_scratch1) f) ∗ (∃ f, pt c (Memref.whole cc0_scratch2) f) ∗ (∃ f, pt c (Memref.whole cc0_scratch3) f) ∗ (∃ f, pt c (Memref.whole cc0_scratch4) f) ∗ (∃ f, pt c (Memref.whole cc0_scratch5) f) ∗ (∃ f, pt c (Memref.whole cc0_scratch6) f) ∗ (∃ f, pt c (Memref.whole cc0_scratch7) f) ∗ (∃ f, pt c (Memref.whole cc0_scratch8) f) ∗ (∃ f, pt c (Memref.whole cc0_scratch9) f) ∗ (∃ f, pt c (Memref.whole cc0_scratch10) f) ∗ (∃ f, pt c (Memref.whole cc0_scratch11) f) ∗ (∃ f, pt c (Memref.whole cc0_scratch12) f) ∗ (∃ f, pt c (Memref.whole cc0_scratch13) f) ∗ (∃ f, pt c (Memref.whole cc0_scratch14) f) ∗ (∃ f, pt c (Memref.whole cc0_scratch15) f) ∗ (∃ f, pt c (Memref.whole cc0_scratch16) f) ∗ (∃ f, pt c (Memref.whole cc0_scratch17) f) ∗ (∃ f, pt c (Memref.whole cc0_scratch18) f) ∗ (∃ f, pt c (Memref.whole cc0_scratch19) f) ∗ (∃ f, pt c (Memref.whole cc0_scratch20) f) ∗ (∃ f, pt c (Memref.whole cc0_scratch21) f) ∗ (∃ f, pt c (Memref.whole cc0_scratch22) f) ∗ (∃ f, pt c (Memref.whole cc0_scratch23) f) ∗ (∃ f, pt c (Memref.whole cc0_scratch24) f) ∗ (∃ f, pt c (Memref.whole cc0_scratch25) f) ∗ (∃ f, pt c (Memref.whole cc0_scratch26) f) ∗ (∃ f, pt c (Memref.whole cc0_scratch27) f) ∗ (∃ f, pt c (Memref.whole cc0_scratch28) f) ∗ (∃ f, pt c (Memref.whole cc0_scratch29) f) ∗ (∃ f, pt c (Memref.whole cc0_scratch30) f) ∗ (∃ f, pt c (Memref.whole cc0_scratch31) f))) := by
  iintro ⟨H2, H3, H4, H5, H6, S0, S1, S2, S3, S4, S5, S6, S7, S8, S9, S10, S11, S12, S13, S14, S15, S16, S17, S18, S19, S20, S21, S22, S23, S24, S25, S26, S27, S28, S29, S30, S31⟩
  unfold cc0_mla_attn
  sl_exec_parts
  iapply (Scf.wp_for_bind _ _ _ _ _ _ _ _ _
    (fun k _ => iprop(vl c M2 Q ∗ vl c M3 K ∗ vl c M4 V ∗ scr c (st Q K V i k)))
    (fun k acc => by rw [st_succ]; exact trip_run c i M2 h2 M3 h3 M4 h4 M5 h5 M6 h6 _ _ _ k Q K V (st Q K V i k.val))) $$ [H2 H3 H4 S0 S1 S2 S3 S4 S5 S6 S7 S8 S9 S10 S11 S12 S13 S14 S15 S16 S17 S18 S19 S20 S21 S22 S23 S24 S25 S26 S27 S28 S29 S30 S31]
  · isplitl [H2]; · iexact H2
    isplitl [H3]; · iexact H3
    isplitl [H4]; · iexact H4
    isplitl [S0]; swap
    isplitl [S1]; swap
    isplitl [S2]; swap
    isplitl [S3]; swap
    isplitl [S4]; swap
    isplitl [S5]; swap
    isplitl [S6]; swap
    isplitl [S7]; swap
    isplitl [S8]; swap
    isplitl [S9]; swap
    isplitl [S10]; swap
    isplitl [S11]; swap
    isplitl [S12]; swap
    isplitl [S13]; swap
    isplitl [S14]; swap
    isplitl [S15]; swap
    isplitl [S16]; swap
    isplitl [S17]; swap
    isplitl [S18]; swap
    isplitl [S19]; swap
    isplitl [S20]; swap
    isplitl [S21]; swap
    isplitl [S22]; swap
    isplitl [S23]; swap
    isplitl [S24]; swap
    isplitl [S25]; swap
    isplitl [S26]; swap
    isplitl [S27]; swap
    isplitl [S28]; swap
    isplitl [S29]; swap
    isplitl [S30]; swap
    all_goals
      refine vl_of_read c _ _ ?_
      sl_open_run
      refine (read_whole_writes _ _ _ _ _).trans ?_
      try simp only [↓r512, ↓r1, ↓r144, View.readAt_rep]
      dsimp only [st, Head.start]
      try rfl
  iintro %acc ⟨H2, H3, H4, S0, S1, S2, S3, S4, S5, S6, S7, S8, S9, S10, S11, S12, S13, S14, S15, S16, S17, S18, S19, S20, S21, S22, S23, S24, S25, S26, S27, S28, S29, S30, S31⟩
  sl_exec_parts
  sl_step
  isplitl [H2]; · iexact H2
  isplitl [H3]; · iexact H3
  isplitl [H4]; · iexact H4
  isplitl [H5]; · iexact H5
  isplitl [H6]
  · refine vl_of_read c _ _ ?_
    sl_open_run
    funext y
    let q : Fin 8 := ⟨(y 1).val / 128, by have := (y 1).isLt; change (y 1).val < 1024 at this; omega⟩
    let z : S512x128.Idx := ix2 ⟨(y 0).val, (y 0).isLt⟩ ⟨(y 1).val % 128, Nat.mod_lt _ (by omega)⟩
    refine cols_step M6 _ 896 7 rfl _ (headOut Q K V W i) _ _ y q rfl z rfl rfl (fun n7 => ?_) ?w7
    refine cols_step M6 _ 768 6 rfl _ (headOut Q K V W i) _ _ y q rfl z rfl rfl (fun n6 => ?_) ?w6
    refine cols_step M6 _ 640 5 rfl _ (headOut Q K V W i) _ _ y q rfl z rfl rfl (fun n5 => ?_) ?w5
    refine cols_step M6 _ 512 4 rfl _ (headOut Q K V W i) _ _ y q rfl z rfl rfl (fun n4 => ?_) ?w4
    refine cols_step M6 _ 384 3 rfl _ (headOut Q K V W i) _ _ y q rfl z rfl rfl (fun n3 => ?_) ?w3
    refine cols_step M6 _ 256 2 rfl _ (headOut Q K V W i) _ _ y q rfl z rfl rfl (fun n2 => ?_) ?w2
    refine cols_step M6 _ 128 1 rfl _ (headOut Q K V W i) _ _ y q rfl z rfl rfl (fun n1 => ?_) ?w1
    refine cols_step M6 _ 0 0 rfl _ (headOut Q K V W i) _ _ y q rfl z rfl rfl (fun n0 => ?_) ?w0
    exfalso
    have := q.isLt
    have m0 : q.val ≠ 0 := fun e => n0 (Fin.ext e)
    have m1 : q.val ≠ 1 := fun e => n1 (Fin.ext e)
    have m2 : q.val ≠ 2 := fun e => n2 (Fin.ext e)
    have m3 : q.val ≠ 3 := fun e => n3 (Fin.ext e)
    have m4 : q.val ≠ 4 := fun e => n4 (Fin.ext e)
    have m5 : q.val ≠ 5 := fun e => n5 (Fin.ext e)
    have m6 : q.val ≠ 6 := fun e => n6 (Fin.ext e)
    have m7 : q.val ≠ 7 := fun e => n7 (Fin.ext e)
    omega
    case w0 =>
      refine (congrArg (fun a => k0_pay212 a _) (c144 (Memref.whole cc0_scratch3) _)).trans ?_
      simp only [↓r512, ↓r1, ↓r144, View.readAt_rep]
      rfl
    case w1 =>
      refine (congrArg (fun a => k0_pay213 a _) (c144 (Memref.whole cc0_scratch7) _)).trans ?_
      simp only [↓r512, ↓r1, ↓r144, View.readAt_rep]
      rfl
    case w2 =>
      refine (congrArg (fun a => k0_pay214 a _) (c144 (Memref.whole cc0_scratch11) _)).trans ?_
      simp only [↓r512, ↓r1, ↓r144, View.readAt_rep]
      rfl
    case w3 =>
      refine (congrArg (fun a => k0_pay215 a _) (c144 (Memref.whole cc0_scratch15) _)).trans ?_
      simp only [↓r512, ↓r1, ↓r144, View.readAt_rep]
      rfl
    case w4 =>
      refine (congrArg (fun a => k0_pay216 a _) (c144 (Memref.whole cc0_scratch19) _)).trans ?_
      simp only [↓r512, ↓r1, ↓r144, View.readAt_rep]
      rfl
    case w5 =>
      refine (congrArg (fun a => k0_pay217 a _) (c144 (Memref.whole cc0_scratch23) _)).trans ?_
      simp only [↓r512, ↓r1, ↓r144, View.readAt_rep]
      rfl
    case w6 =>
      refine (congrArg (fun a => k0_pay218 a _) (c144 (Memref.whole cc0_scratch27) _)).trans ?_
      simp only [↓r512, ↓r1, ↓r144, View.readAt_rep]
      rfl
    case w7 =>
      refine (congrArg (fun a => k0_pay1 a _) (c144 (Memref.whole cc0_scratch31) _)).trans ?_
      simp only [↓r512, ↓r1, ↓r144, View.readAt_rep]
      rfl
  isplitl [S0]; swap
  isplitl [S1]; swap
  isplitl [S2]; swap
  isplitl [S3]; swap
  isplitl [S4]; swap
  isplitl [S5]; swap
  isplitl [S6]; swap
  isplitl [S7]; swap
  isplitl [S8]; swap
  isplitl [S9]; swap
  isplitl [S10]; swap
  isplitl [S11]; swap
  isplitl [S12]; swap
  isplitl [S13]; swap
  isplitl [S14]; swap
  isplitl [S15]; swap
  isplitl [S16]; swap
  isplitl [S17]; swap
  isplitl [S18]; swap
  isplitl [S19]; swap
  isplitl [S20]; swap
  isplitl [S21]; swap
  isplitl [S22]; swap
  isplitl [S23]; swap
  isplitl [S24]; swap
  isplitl [S25]; swap
  isplitl [S26]; swap
  isplitl [S27]; swap
  isplitl [S28]; swap
  isplitl [S29]; swap
  isplitl [S30]; swap
  all_goals
    iexists _
    iassumption

end Cert.Proof.Attn

end
-- ==== Proof.Pay.lean ====
module

public import proofs.«01_k».proof.Proof.Body
public import proofs.«01_k».proof.Proof.Sums
public import Idealize.ShloMosaic.Lib.Pointwise

@[expose] public section
set_option maxRecDepth 16384

/-! What the kernel's stages compute, read at one index over the extended reals. -/

noncomputable section
namespace Cert.Proof.Attn
open Cert.KernelIdeal Cert.KernelIdeal.Gen
open Idealize.ShloMosaic

variable (kb : Vec Ideal S512x256 .bf16) (qb : Vec Ideal S1x256x512 .bf16) (s : Vec Ideal S512x512 .f32) (mx m : Vec Ideal S1x512 .f32)
  (acc : Vec Ideal S144x512 .f32) (vb : Vec Ideal S1x144x512 .bf16) (k q : Fin 512) (r : Fin 144)

theorem scores_at : k0_pay7 (k0_pay2 kb qb) (ix2 k q) = ∑ c : Fin 256, kb (ix2 k c) * qb (ix3 0 c q) := by
  pointwise [k0_pay7, k0_pay2]
theorem scores_at₀ : k0_pay122 (k0_pay120 kb qb) (ix2 k q) = ∑ c : Fin 256, kb (ix2 k c) * qb (ix3 0 c q) := by
  pointwise [k0_pay122, k0_pay120]
theorem top_at : k0_pay8 (k0_pay3 kb qb) (ix2 0 q)
    = Finset.univ.fold max (Ideal.ofBits .f32 0xFF800000#32) fun k : Fin 512 => ∑ c : Fin 256, kb (ix2 k c) * qb (ix3 0 c q) := by
  pointwise [k0_pay8, k0_pay3, k0_pay2]
theorem top_at₀ : k0_pay123 (k0_pay121 kb qb) (ix2 0 q)
    = Finset.univ.fold max (Ideal.ofBits .f32 0xFF800000#32) fun k : Fin 512 => ∑ c : Fin 256, kb (ix2 k c) * qb (ix3 0 c q) := by
  pointwise [k0_pay123, k0_pay121, k0_pay120]
theorem m_at : k0_pay6 mx m (ix2 0 q) = max (m (ix2 0 q)) (mx (ix2 0 q)) := by
  pointwise [k0_pay6, k0_pay4]
theorem acc_at : k0_pay5 s mx m acc vb (ix2 r q)
    = Ideal.exp2 (m (ix2 0 q) - max (m (ix2 0 q)) (mx (ix2 0 q))) * acc (ix2 r q)
      + ∑ k : Fin 512, vb (ix3 0 r k) * Ideal.exp2 (s (ix2 k q) - max (m (ix2 0 q)) (mx (ix2 0 q))) := by
  pointwise [k0_pay5, k0_pay4]
  rfl
theorem m_at₀ : (k0_pay118 (F := Ideal)) (ix2 0 q) = ⊥ := by
  rw [← Sums.bits_bot]
  pointwise [k0_pay118]
theorem acc_at₀ : (k0_pay119 (F := Ideal)) (ix2 r q) = 0 := by
  pointwise [k0_pay119]

/-- A key of the block the diagonal meets is kept up to the query's own place. -/
theorem mask_at (n : Fin 16) : k0_pay172 (BitVec.ofNat 32 n.val) (BitVec.ofNat 32 n.val) s (ix2 k q) = if k.val ≤ q.val then s (ix2 k q) else ⊥ := by
  rw [← Sums.bits_bot]
  pointwise [k0_pay172, k0_pay170, k0_pay171]
  have hn := n.isLt
  have hk := k.isLt
  have hq := q.isLt
  have e : ∀ a : Fin 512, (IntOp.addi (BitVec.ofNat 32 a.val) (Scalar.muli (BitVec.ofNat 32 n.val) 512#32)).toInt = a.val + n.val * 512 := fun a => by
    have ha := a.isLt
    have : (IntOp.addi (BitVec.ofNat 32 a.val) (Scalar.muli (BitVec.ofNat 32 n.val) 512#32)).toNat = a.val + n.val * 512 := by
      show (BitVec.ofNat 32 a.val + BitVec.ofNat 32 n.val * 512#32).toNat = _
      simp only [BitVec.toNat_add, BitVec.toNat_mul, BitVec.toNat_ofNat]
      omega
    rw [BitVec.toInt_eq_toNat_of_lt (by omega), this]
    push_cast; rfl
  have c : IntOp.cmpi CmpIPredicate.sle (IntOp.addi (BitVec.ofNat 32 k.val) (Scalar.muli (BitVec.ofNat 32 n.val) 512#32))
      (IntOp.addi (BitVec.ofNat 32 q.val) (Scalar.muli (BitVec.ofNat 32 n.val) 512#32)) = BitVec.ofBool (decide (k.val ≤ q.val)) := by
    show BitVec.ofBool (BitVec.sle _ _) = _
    rw [BitVec.sle_eq_decide, e, e]
    congr 2
    exact propext ⟨fun h => by omega, fun h => by omega⟩
  rw [c]
  by_cases h : k.val ≤ q.val
  · rw [if_pos h, decide_eq_true h]; rfl
  · rw [if_neg h, decide_eq_false h]; rfl

theorem last_at (a w : BitVec 32) : k0_pay176 (k0_pay174 a w s m) (k0_pay175 a w s m) acc vb (ix2 r q)
    = Ideal.exp2 (m (ix2 0 q) - max (m (ix2 0 q)) (Finset.univ.fold max (Ideal.ofBits .f32 0xFF800000#32) fun k : Fin 512 => k0_pay172 a w s (ix2 k q)))
        * acc (ix2 r q)
      + ∑ k : Fin 512, vb (ix3 0 r k) * Ideal.exp2 (k0_pay172 a w s (ix2 k q)
        - max (m (ix2 0 q)) (Finset.univ.fold max (Ideal.ofBits .f32 0xFF800000#32) fun k : Fin 512 => k0_pay172 a w s (ix2 k q))) := by
  pointwise [k0_pay176, k0_pay174, k0_pay175, k0_pay173]
  rfl

theorem out_at (W : Vec Ideal S1x128x128 .bf16) (v : Fin 128) :
    k0_pay1 acc W (ix2 q v) = ∑ d : Fin 128, Ideal.div (acc (ix2 ⟨d.val, by omega⟩ q)) (acc (ix2 128 q)) * W (ix3 0 d v) := by
  pointwise [k0_pay1]

theorem trips_eq (i : grid0.Coords) : (k0_t1_loop i).trips = (i 1).val := by
  revert i; decide +kernel
theorem word_eq (i : grid0.Coords) : word i = BitVec.ofNat 32 (i 1).val := by
  revert i; decide +kernel
theorem off5_eq (i : grid0.Coords) : k0_off5 i = ![(i 1).val, 0, 0] := by
  revert i; decide +kernel
theorem off1_eq (i : grid0.Coords) (j : Fin (k0_t1_loop i).trips) : k0_off1 i j = ![512 * (j.val + 1), 0] := by
  revert i; decide +kernel
theorem off2_eq (i : grid0.Coords) (j : Fin (k0_t1_loop i).trips) : k0_off2 i j = ![j.val, 0, 0] := by
  revert i; decide +kernel
end Cert.Proof.Attn
end
-- ==== Proof.Col.lean ====
module

public import proofs.«01_k».proof.Proof.Pay

@[expose] public section
set_option maxRecDepth 16384

/-! One query of one head: what the kernel's pass over the key blocks leaves. -/

noncomputable section
namespace Cert.Proof.Attn
open Cert.KernelIdeal Cert.KernelIdeal.Gen
open Idealize.ShloMosaic

variable (Q : Vec Ideal S1x2048x512 .bf16) (K : Vec Ideal S8192x256 .bf16) (V : Vec Ideal S16x144x512 .bf16) (i : grid0.Coords)

theorem qblk_at (h : Fin 8) (c : Fin 256) (q : Fin 512) :
    qblk Q ![0, 256 * h.val, 0] (qinb h) (ix3 0 c q) = Q (ix3 0 ⟨256 * h.val + c.val, by omega⟩ q) := by
  pointwise [qblk]
theorem kblk0_at (k : Fin 512) (c : Fin 256) : kblk0 K (ix2 k c) = K (ix2 ⟨k.val, by omega⟩ c) := by
  pointwise [kblk0]

theorem kblk_at (j : Fin (k0_t1_loop i).trips) (k : Fin 512) (c : Fin 256) (hb : 512 * (j.val + 1) + k.val < 8192) :
    kblk K i j (ix2 k c) = K (ix2 ⟨512 * (j.val + 1) + k.val, hb⟩ c) := by
  refine congrArg K (funext fun a => Fin.ext ?_)
  refine (congrArg (fun n : ℕ => n + 1 * _) (congrFun (off1_eq i j) a)).trans ?_
  match a with
  | ⟨0, _⟩ => show 512 * (j.val + 1) + 1 * k.val = _; simp
  | ⟨1, _⟩ => show 0 + 1 * c.val = _; simp
theorem vblk_at (j : Fin (k0_t1_loop i).trips) (hj : j.val < 16) (r : Fin 144) (k : Fin 512) :
    vblk V i j (ix3 0 r k) = V (ix3 ⟨j.val, hj⟩ r k) := by
  refine congrArg V (funext fun a => Fin.ext ?_)
  refine (congrArg (fun n : ℕ => n + 1 * _) (congrFun (off2_eq i j) a)).trans ?_
  match a with
  | ⟨0, _⟩ => show j.val + 1 * 0 = _; simp
  | ⟨1, _⟩ => show 0 + 1 * r.val = _; simp
  | ⟨2, _⟩ => show 0 + 1 * k.val = _; simp
theorem vblkD_at (r : Fin 144) (k : Fin 512) : vblkD V i (ix3 0 r k) = V (ix3 ⟨(i 1).val, (i 1).isLt⟩ r k) := by
  refine congrArg V (funext fun a => Fin.ext ?_)
  refine (congrArg (fun n : ℕ => n + 1 * _) (congrFun (off5_eq i) a)).trans ?_
  match a with
  | ⟨0, _⟩ => show (i 1).val + 1 * 0 = _; simp
  | ⟨1, _⟩ => show 0 + 1 * r.val = _; simp
  | ⟨2, _⟩ => show 0 + 1 * k.val = _; simp

theorem st_zero (h : Fin 8) : st Q K V i 0 h = Head.start (kblk0 K) (qblk Q ![0, 256 * h.val, 0] (qinb h)) := rfl

theorem start_mx (kb : Vec Ideal S512x256 .bf16) (qb : Vec Ideal S1x256x512 .bf16) : (Head.start kb qb).mx = k0_pay123 (k0_pay121 kb qb) := by
  unfold Head.start
  with_reducible rfl
theorem trip_mx (j : Fin (k0_t1_loop i).trips) (x : Fin 8 → Head Ideal) (h : Fin 8) :
    (trip Q K V i j x h).mx = k0_pay8 (k0_pay3 (kblk K i j) (qblk Q ![0, 256 * h.val, 0] (qinb h))) := by
  unfold trip Head.step
  with_reducible rfl

section
variable {Q K V i} {h : Fin 8} {q : Fin 512} {x : ℕ → ℝ} {v : ℕ → Fin 144 → ℝ}
  (hS : ∀ k : Fin 8192, ∑ c : Fin 256, K (ix2 k c) * Q (ix3 0 ⟨256 * h.val + c.val, by omega⟩ q) = (x k.val : EReal))
  (hV : ∀ (j : Fin 16) (r : Fin 144) (k : Fin 512), V (ix3 j r k) = (v (512 * j.val + k.val) r : EReal))
include hS hV

/-- Before trip `n`: the scores of block `n` are in hand, and the sums hold the blocks before it. -/
theorem st_inv (n : ℕ) (hn : n ≤ (i 1).val) :
    (∀ k : Fin 512, (st Q K V i n h).s (ix2 k q) = (x (512 * n + k.val) : EReal))
      ∧ (∃ X : ℝ, (st Q K V i n h).mx (ix2 0 q) = X)
      ∧ Sums.Run ((st Q K V i n h).m (ix2 0 q)) (fun r => (st Q K V i n h).acc (ix2 r q))
          (fun r => ∑ k ∈ Finset.range (512 * n), v k r * (2 : ℝ) ^ x k) := by
  have hi : (i 1).val < 16 := (i 1).isLt
  induction n with
  | zero =>
    have e : ∀ k : Fin 512, ∑ c : Fin 256, kblk0 K (ix2 k c) * qblk Q ![0, 256 * h.val, 0] (qinb h) (ix3 0 c q) = (x (512 * 0 + k.val) : EReal) := fun k => by
      rw [Nat.mul_zero, Nat.zero_add, ← hS ⟨k.val, by omega⟩]
      exact Finset.sum_congr rfl fun c _ => by rw [kblk0_at, qblk_at]
    refine ⟨fun k => (scores_at₀ _ _ k q).trans (e k), ?_, Or.inl ⟨m_at₀ q, fun r => ⟨acc_at₀ q r, by simp⟩⟩⟩
    obtain ⟨X, hX⟩ := Sums.max_real (fun k : Fin 512 => ∑ c : Fin 256, kblk0 K (ix2 k c) * qblk Q ![0, 256 * h.val, 0] (qinb h) (ix3 0 c q))
      (fun k => by rw [e]; exact EReal.coe_ne_top _) 0 (by rw [e]; exact EReal.coe_ne_bot _)
    exact ⟨X, by rw [st_zero, start_mx, top_at₀, hX]⟩
  | succ n ih =>
    obtain ⟨h1, h2, h3⟩ := ih (by omega)
    have hn' : n < (k0_t1_loop i).trips := by rw [trips_eq]; omega
    rw [st_succ Q K V i ⟨n, hn'⟩]
    have e : ∀ k : Fin 512, ∑ c : Fin 256, kblk K i ⟨n, hn'⟩ (ix2 k c) * qblk Q ![0, 256 * h.val, 0] (qinb h) (ix3 0 c q) = (x (512 * (n + 1) + k.val) : EReal) := fun k => by
      rw [← hS ⟨512 * (n + 1) + k.val, by omega⟩]
      exact Finset.sum_congr rfl fun c _ => by rw [kblk_at K i ⟨n, hn'⟩ k c (by simp only; omega), qblk_at]
    refine ⟨fun k => (scores_at _ _ k q).trans (e k), ?_, Or.inr ?_⟩
    · obtain ⟨X, hX⟩ := Sums.max_real (fun k : Fin 512 => ∑ c : Fin 256, kblk K i ⟨n, hn'⟩ (ix2 k c) * qblk Q ![0, 256 * h.val, 0] (qinb h) (ix3 0 c q))
        (fun k => by rw [e]; exact EReal.coe_ne_top _) 0 (by rw [e]; exact EReal.coe_ne_bot _)
      exact ⟨X, by rw [trip_mx, top_at, hX]⟩
    · obtain ⟨M, hM, hA⟩ := h3.step h2 (s := fun k => (st Q K V i n h).s (ix2 k q)) (e := fun k => (2 : ℝ) ^ x (512 * n + k.val))
        (fun k => Or.inr ⟨_, h1 k, rfl⟩) (fun r k => v (512 * n + k.val) r)
      refine ⟨M, (m_at _ _ q).trans hM, fun r => ?_⟩
      refine (acc_at _ _ _ _ _ q r).trans (Eq.trans ?_ ((hA r).trans ?_))
      · congr 1
        refine Finset.sum_congr rfl fun k _ => ?_
        rw [vblk_at V i ⟨n, hn'⟩ (by simp only; omega), hV]
      · dsimp only
        rw [Nat.mul_succ, Finset.sum_range_add, Finset.sum_range (n := 512)]

/-- The weight of key `k` for the query at place `p`. -/
def wgt (x : ℕ → ℝ) (p k : ℕ) : ℝ := if k ≤ p then (2 : ℝ) ^ x k else 0

theorem last_val (hv : ∀ k, v k 128 = 1) (d : Fin 144) :
    Ideal.div (((st Q K V i (k0_t1_loop i).trips h).last (BitVec.ofNat 32 (i 1).val) (word i) (vblkD V i)) (ix2 d q))
        (((st Q K V i (k0_t1_loop i).trips h).last (BitVec.ofNat 32 (i 1).val) (word i) (vblkD V i)) (ix2 128 q))
      = (((∑ k ∈ Finset.range 8192, v k d * wgt x (512 * (i 1).val + q.val) k)
          / ∑ k ∈ Finset.range 8192, wgt x (512 * (i 1).val + q.val) k : ℝ) : EReal) := by
  have hi : (i 1).val < 16 := (i 1).isLt
  rw [trips_eq, word_eq]
  obtain ⟨h1, h2, h3⟩ := st_inv (i := i) hS hV (i 1).val le_rfl
  generalize st Q K V i (i 1).val h = X at h1 h2 h3
  have hmask : ∀ k : Fin 512, k0_pay172 (F := Ideal) (BitVec.ofNat 32 (i 1).val) (BitVec.ofNat 32 (i 1).val) X.s (ix2 k q)
      = if k.val ≤ q.val then (x (512 * (i 1).val + k.val) : EReal) else ⊥ := fun k => by
    exact (mask_at X.s k q ⟨(i 1).val, hi⟩).trans (by rw [h1])
  have hw : ∀ k : Fin 512, Sums.Wt (k0_pay172 (F := Ideal) (BitVec.ofNat 32 (i 1).val) (BitVec.ofNat 32 (i 1).val) X.s (ix2 k q))
      (wgt x (512 * (i 1).val + q.val) (512 * (i 1).val + k.val)) := fun k => by
    rw [hmask, wgt]
    by_cases hk : k.val ≤ q.val
    · rw [if_pos hk, if_pos (by omega)]; exact Or.inr ⟨_, rfl, rfl⟩
    · rw [if_neg hk, if_neg (by omega)]; exact Or.inl ⟨rfl, rfl⟩
  have hmx : ∃ Y : ℝ, (Finset.univ.fold max (Ideal.ofBits .f32 0xFF800000#32) fun k : Fin 512 =>
      k0_pay172 (F := Ideal) (BitVec.ofNat 32 (i 1).val) (BitVec.ofNat 32 (i 1).val) X.s (ix2 k q)) = Y :=
    Sums.max_real _ (fun k => (hw k).ne_top) 0 (by rw [hmask, if_pos (by simp)]; exact EReal.coe_ne_bot _)
  obtain ⟨M, hM, hA⟩ := h3.step hmx hw (fun r k => v (512 * (i 1).val + k.val) r)
  have hall : ∀ r, X.last (BitVec.ofNat 32 (i 1).val) (BitVec.ofNat 32 (i 1).val) (vblkD V i) (ix2 r q)
      = (((2 : ℝ) ^ (-M) * ∑ k ∈ Finset.range 8192, v k r * wgt x (512 * (i 1).val + q.val) k : ℝ) : EReal) := fun r => by
    refine (last_at _ _ _ _ q r _ _).trans (Eq.trans ?_ ((hA r).trans ?_))
    · congr 1
      refine Finset.sum_congr rfl fun k _ => ?_
      rw [vblkD_at, hV]
    · have e1 : ∑ k ∈ Finset.range (512 * (i 1).val), v k r * (2 : ℝ) ^ x k
          = ∑ k ∈ Finset.range (512 * (i 1).val), v k r * wgt x (512 * (i 1).val + q.val) k :=
        Finset.sum_congr rfl fun k hk => by
          have := Finset.mem_range.1 hk
          rw [wgt, if_pos (by omega)]
      rw [e1, ← Finset.sum_range (fun k => v (512 * (i 1).val + k) r * wgt x (512 * (i 1).val + q.val) (512 * (i 1).val + k)),
        ← Finset.sum_range_add (fun k => v k r * wgt x (512 * (i 1).val + q.val) k)]
      congr 2
      refine Finset.sum_subset (Finset.range_subset_range.2 (by omega)) fun k hk hk' => ?_
      have : ¬ k < 512 * (i 1).val + 512 := fun hh => hk' (Finset.mem_range.2 hh)
      rw [wgt, if_neg (by omega), mul_zero]
  have h0 : ∑ k ∈ Finset.range 8192, wgt x (512 * (i 1).val + q.val) k ≠ 0 := by
    refine (Finset.sum_pos' (fun k _ => ?_) ⟨0, by simp, ?_⟩).ne'
    · rw [wgt]; split
      · positivity
      · exact le_rfl
    · rw [wgt, if_pos (Nat.zero_le _)]; positivity
  have := Sums.quot hall d 128 (by simpa [hv] using h0)
  rw [this]
  simp only [hv, one_mul]
end
end Cert.Proof.Attn
end
-- ==== Proof.Val.lean ====
module

public import proofs.«01_k».proof.Proof.HostAt
public import proofs.«01_k».proof.Proof.Col

@[expose] public section
set_option maxRecDepth 16384

/-! What a grid point writes, over the extended reals: its rows of the attention. -/

noncomputable section
namespace Cert.Proof.Attn
open Cert.KernelIdeal Cert.KernelIdeal.Gen
open Idealize.ShloMosaic

theorem wblk_at (W : Vec Ideal S8x128x128 .bf16) (h : Fin 8) (d v : Fin 128) : wblk W ![h.val, 0, 0] (winb h) (ix3 0 d v) = W (ix3 h d v) := by
  refine congrArg W (funext fun a => Fin.ext ?_)
  match a with
  | ⟨0, _⟩ => simp [ix3]
  | ⟨1, _⟩ => simp [ix3]
  | ⟨2, _⟩ => simp [ix3]

variable {A0 : Vec Ideal S8x8192x8x128 .f32} {A1 : Vec Ideal S8x8192x8x64 .f32} {A2 : Vec Ideal S8x8192x128 .f32} {A3 : Vec Ideal S8x8192x64 .f32} {A4 : Vec Ideal S128x8x128 .f32}
  {a0 : Fin 8 → Fin 8192 → Fin 8 → Fin 128 → ℝ} {a1 : Fin 8 → Fin 8192 → Fin 8 → Fin 64 → ℝ}
  {a2 : Fin 8 → Fin 8192 → Fin 128 → ℝ} {a3 : Fin 8 → Fin 8192 → Fin 64 → ℝ}
  (h0 : ∀ b q h c, A0 (ix4 b q h c) = (a0 b q h c : EReal)) (h1 : ∀ b q h c, A1 (ix4 b q h c) = (a1 b q h c : EReal))
  (h2 : ∀ b k c, A2 (ix3 b k c) = (a2 b k c : EReal)) (h3 : ∀ b k c, A3 (ix3 b k c) = (a3 b k c : EReal))
  {Q : Vec Ideal S1x2048x512 .bf16} {K : Vec Ideal S8192x256 .bf16} {V : Vec Ideal S16x144x512 .bf16} {W : Vec Ideal S8x128x128 .bf16}
  {i : grid0.Coords} {b : Fin 8} {j : Fin 16} (hj : (i 1).val = j.val)
  (hQ : ∀ (r : Fin 2048) (q : Fin 512) (g : Fin 128), g.val = b.val * 16 + j.val → Q (ix3 0 r q) = qArr A0 A1 (ix3 g r q))
  (hK : ∀ (k : Fin 8192) (c : Fin 256) (g : Fin 65536), g.val = b.val * 8192 + k.val → K (ix2 k c) = kArr A2 A3 (ix2 g c))
  (hV : ∀ (l : Fin 16) (r : Fin 144) (k : Fin 512) (g : Fin 128), g.val = b.val * 16 + l.val → V (ix3 l r k) = vArr A2 (ix3 g r k))
  (hW : ∀ (h : Fin 8) (d v : Fin 128), W (ix3 h d v) = A4 (ix3 d h v))

theorem ofNat_val (k : Fin 8192) : Fin.ofNat 8192 k.val = k := Fin.ext (Nat.mod_eq_of_lt k.isLt)

include h0 h1 h2 h3 hj hQ hK hV in
/-- The quotient of a head's sums: the mean of the latents. -/
theorem mean_val (h : Fin 8) (q : Fin 512) (d : Fin 128) :
    Ideal.div (((st Q K V i (k0_t1_loop i).trips h).last (BitVec.ofNat 32 (i 1).val) (word i) (vblkD V i)) (ix2 ⟨d.val, by omega⟩ q))
        (((st Q K V i (k0_t1_loop i).trips h).last (BitVec.ofNat 32 (i 1).val) (word i) (vblkD V i)) (ix2 128 q))
      = (Spec.mean a0 a1 a2 a3 b h ⟨512 * j.val + q.val, by omega⟩ d : EReal) := by
  have hS : ∀ k : Fin 8192, ∑ c : Fin 256, K (ix2 k c) * Q (ix3 0 ⟨256 * h.val + c.val, by omega⟩ q)
      = (((fun n => Spec.score a0 a1 a2 a3 b h ⟨512 * j.val + q.val, by omega⟩ (Fin.ofNat 8192 n) / Real.log 2) k.val : ℝ) : EReal) := fun k => by
    simp only [ofNat_val]
    rw [← score_val h0 h1 h2 h3 b j q h k]
    exact Finset.sum_congr rfl fun c _ => by rw [hK k c ⟨b.val * 8192 + k.val, by omega⟩ rfl, hQ _ q ⟨b.val * 16 + j.val, by omega⟩ rfl]
  have hv : ∀ (l : Fin 16) (r : Fin 144) (k : Fin 512), V (ix3 l r k)
      = (((fun n (r : Fin 144) => if hr : r.val < 128 then a2 b (Fin.ofNat 8192 n) ⟨r.val, hr⟩ else 1) (512 * l.val + k.val) r : ℝ) : EReal) := fun l r k => by
    rw [hV l r k ⟨b.val * 16 + l.val, by omega⟩ rfl, vArr_at]
    by_cases hr : r.val < 128
    · simp only [dif_pos hr]
      rw [h2]
      congr 2
      · exact Fin.ext (by simp only; omega)
      · exact Fin.ext (by simp only [Fin.val_ofNat]; omega)
    · simp only [dif_neg hr]
      rfl
  refine (last_val (x := fun n => Spec.score a0 a1 a2 a3 b h ⟨512 * j.val + q.val, by omega⟩ (Fin.ofNat 8192 n) / Real.log 2)
    (v := fun n (r : Fin 144) => if hr : r.val < 128 then a2 b (Fin.ofNat 8192 n) ⟨r.val, hr⟩ else 1) hS hv (fun k => dif_neg (show ¬((128 : Fin 144).val < 128) by decide)) _).trans ?_
  rw [hj, Spec.mean, Finset.sum_range, Finset.sum_range]
  have e : ∀ k : Fin 8192, wgt (fun n => Spec.score a0 a1 a2 a3 b h ⟨512 * j.val + q.val, by omega⟩ (Fin.ofNat 8192 n) / Real.log 2) (512 * j.val + q.val) k.val
      = Spec.weight a0 a1 a2 a3 b h ⟨512 * j.val + q.val, by omega⟩ k := fun k => by
    rw [wgt, Spec.weight]
    simp only [ofNat_val, Sums.two_rpow]
  simp only [e, ofNat_val, Fin.is_lt, dite_true]

include h0 h1 h2 h3 hj hQ hK hV hW in
theorem blk_val (y : S512x1024.Idx) (z0 : Fin 512) (z1 : Fin 1024) (e0 : (y 0).val = z0.val) (e1 : (y 1).val = z1.val) : blkOut Q K V W i y
    = Spec.out a0 a1 a2 a3 (fun d h v => A4 (ix3 d h v)) b ⟨z1.val / 128, by omega⟩ ⟨512 * j.val + z0.val, by omega⟩ ⟨z1.val % 128, by omega⟩ := by
  have e2 : (⟨(y 1).val / 128, by omega⟩ : Fin 8) = ⟨z1.val / 128, by omega⟩ := Fin.ext (by simp only [e1])
  have e3 : (⟨(y 1).val % 128, by omega⟩ : Fin 128) = ⟨z1.val % 128, by omega⟩ := Fin.ext (by simp only [e1])
  have e4 : (⟨(y 0).val, by omega⟩ : Fin 512) = z0 := Fin.ext e0
  unfold blkOut
  rw [e2, e3, e4]
  unfold headOut Spec.out
  refine (out_at _ _ _ _).trans (Finset.sum_congr rfl fun d _ => ?_)
  rw [mean_val h0 h1 h2 h3 hj hQ hK hV, wblk_at, hW, mul_comm]

end Cert.Proof.Attn
end
-- ==== Proof.Run.lean ====
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Frame
public import proofs.«01_k».proof.Proof.Body
public import Idealize.ShloMosaic.Lib.Tactic
public import Idealize.ShloMosaic.Lib.Pipeline.Kit
public import Idealize.ShloMosaic.Lib.LoopRemainder
public import Idealize.ShloMosaic.Lib.Tactic.Stretches

@[expose] public section

noncomputable section

namespace Cert.Proof.Attn

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A whole buffer at some contents, held by its own elements. -/
theorem ex_pt (c : Dev nD) (b : Ref sig .tc) :
    (iprop(∃ f : Buf (Elt F) ((c : Thread nD τ).loc b), ((c : Thread nD τ).loc b) ↦{fullShare} f) : sProp 𝕄)
      = iprop(∃ f, pt (F := F) c (Memref.whole b) f) := by
  have h (f) : pt (F := F) c (Memref.whole b) f = (((c : Thread nD τ).loc b) ↦{fullShare} f : sProp 𝕄) := by
    unfold pt; simp only [Memref.view_whole, View.set_whole]
  simp only [h]

set_option maxRecDepth 4096 in
/-- The region's own buffers, each held whole. -/
theorem scoped_eq (c : Dev nD) :
    (Pipeline.scopedRest (Ix := Unit) (Name := ℕ) (U := UR sig nD τ) (Lvl := ℕ) (Val := Elt F) spec0 c : sProp 𝕄)
      = iprop((∃ f, pt (F := F) c (Memref.whole cc0_scratch0) f) ∗ (∃ f, pt (F := F) c (Memref.whole cc0_scratch1) f) ∗ (∃ f, pt (F := F) c (Memref.whole cc0_scratch2) f) ∗ (∃ f, pt (F := F) c (Memref.whole cc0_scratch3) f) ∗ (∃ f, pt (F := F) c (Memref.whole cc0_scratch4) f) ∗ (∃ f, pt (F := F) c (Memref.whole cc0_scratch5) f) ∗ (∃ f, pt (F := F) c (Memref.whole cc0_scratch6) f) ∗ (∃ f, pt (F := F) c (Memref.whole cc0_scratch7) f) ∗ (∃ f, pt (F := F) c (Memref.whole cc0_scratch8) f) ∗ (∃ f, pt (F := F) c (Memref.whole cc0_scratch9) f) ∗ (∃ f, pt (F := F) c (Memref.whole cc0_scratch10) f) ∗ (∃ f, pt (F := F) c (Memref.whole cc0_scratch11) f) ∗ (∃ f, pt (F := F) c (Memref.whole cc0_scratch12) f) ∗ (∃ f, pt (F := F) c (Memref.whole cc0_scratch13) f) ∗ (∃ f, pt (F := F) c (Memref.whole cc0_scratch14) f) ∗ (∃ f, pt (F := F) c (Memref.whole cc0_scratch15) f) ∗ (∃ f, pt (F := F) c (Memref.whole cc0_scratch16) f) ∗ (∃ f, pt (F := F) c (Memref.whole cc0_scratch17) f) ∗ (∃ f, pt (F := F) c (Memref.whole cc0_scratch18) f) ∗ (∃ f, pt (F := F) c (Memref.whole cc0_scratch19) f) ∗ (∃ f, pt (F := F) c (Memref.whole cc0_scratch20) f) ∗ (∃ f, pt (F := F) c (Memref.whole cc0_scratch21) f) ∗ (∃ f, pt (F := F) c (Memref.whole cc0_scratch22) f) ∗ (∃ f, pt (F := F) c (Memref.whole cc0_scratch23) f) ∗ (∃ f, pt (F := F) c (Memref.whole cc0_scratch24) f) ∗ (∃ f, pt (F := F) c (Memref.whole cc0_scratch25) f) ∗ (∃ f, pt (F := F) c (Memref.whole cc0_scratch26) f) ∗ (∃ f, pt (F := F) c (Memref.whole cc0_scratch27) f) ∗ (∃ f, pt (F := F) c (Memref.whole cc0_scratch28) f) ∗ (∃ f, pt (F := F) c (Memref.whole cc0_scratch29) f) ∗ (∃ f, pt (F := F) c (Memref.whole cc0_scratch30) f) ∗ (∃ f, pt (F := F) c (Memref.whole cc0_scratch31) f)) := by
  rw [scopedRest0_eq]
  repeat' (first | exact ex_pt c _ | refine congrArg₂ BIBase.sep (ex_pt c _) ?_)

/-- What the body leaves in the output's staging memref at point `t`. -/
abbrev outAt (c : Dev nD) (t : Fin cfg0.N) : Vec F S512x1024 .bf16 :=
  blkOut (iblk m c 0 t) (iblk m c 1 t) (iblk m c 2 t) (iblk m c 3 t) (grid0.coords t)

/-- The proof data: the inputs stay at their blocks, the output is at the block computed from them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ _ := Pipeline.ΦA spec0 c
  q _ := fullShare
  owed _ := 0

theorem before0 (c : Dev nD) (t : Fin cfg0.N) (d) : (dats m 0 c).before 0 t d = iblk m c 0 t := before0_0_of m _ rfl (fun _ => by dsimp only [dats]) t d
theorem before1 (c : Dev nD) (t : Fin cfg0.N) (d) : (dats m 0 c).before 1 t d = iblk m c 1 t := before0_1_of m _ rfl (fun _ => by dsimp only [dats]) t d
theorem before2 (c : Dev nD) (t : Fin cfg0.N) (d) : (dats m 0 c).before 2 t d = iblk m c 2 t := before0_2_of m _ rfl (fun _ => by dsimp only [dats]) t d
theorem before3 (c : Dev nD) (t : Fin cfg0.N) (d) : (dats m 0 c).before 3 t d = iblk m c 3 t := before0_3_of m _ rfl (fun _ => by dsimp only [dats]) t d

/-- What the body is called with at point `t`. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))
/-- What the body leaves at point `t`. -/
def bodyPost (c : Dev nD) (t : Fin cfg0.N) : sProp 𝕄 :=
  iprop((dats m 0 c).Φ t.succ ∗ (dats m 0 c).owesAt () t.succ
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (outAt m c t))

/-- A memref held at values is owned at them. -/
theorem owns_of_vl (c : Dev nD) {S : Shape} {e : EltTy} [∀ e, Nonempty (Elt F e)] (M : Memref sig .tc .vmem S e) (x : S.Idx → Elt F e) :
    vl c M x ⊢ owns (c : Thread nD τ) M fullShare x := by
  have h := owns_intro (Ix := Unit) (Name := ℕ) (U := UR sig nD τ) (Lvl := ℕ) (c : Thread nD τ) M fullShare (M.view.rep x)
  rw [View.read_rep] at h
  exact h
/-- A memref owned at values is held at them. -/
theorem vl_of_owns (c : Dev nD) {S : Shape} {e : EltTy} [∀ e, Nonempty (Elt F e)] (M : Memref sig .tc .vmem S e) (x : S.Idx → Elt F e) :
    owns (c : Thread nD τ) M fullShare x ⊢ vl c M x := by
  unfold owns
  iintro ⟨%f, %h, H⟩
  iapply (vl_of_read c M f h) $$ H
/-- A memref owned at values is held at some contents. -/
theorem pt_of_owns (c : Dev nD) {S : Shape} {e : EltTy} (M : Memref sig .tc .vmem S e) (x : S.Idx → Elt F e) :
    owns (c : Thread nD τ) M fullShare x ⊢ iprop(∃ f, pt c M f) := by
  unfold owns
  iintro ⟨%f, %h, H⟩
  iexists f; iexact H

set_option maxHeartbeats 1600000 in
set_option maxRecDepth 8192 in
/-- The body at point `t`. -/
theorem sound_body [∀ e, Nonempty (Elt F e)] (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl]
  unfold Pipeline.ΦA
  rw [scoped_eq]
  iintro ⟨⟨⟨⟨%f0, S0⟩, ⟨%f1, S1⟩, ⟨%f2, S2⟩, ⟨%f3, S3⟩, ⟨%f4, S4⟩, ⟨%f5, S5⟩, ⟨%f6, S6⟩, ⟨%f7, S7⟩, ⟨%f8, S8⟩, ⟨%f9, S9⟩, ⟨%f10, S10⟩, ⟨%f11, S11⟩, ⟨%f12, S12⟩, ⟨%f13, S13⟩, ⟨%f14, S14⟩, ⟨%f15, S15⟩, ⟨%f16, S16⟩, ⟨%f17, S17⟩, ⟨%f18, S18⟩, ⟨%f19, S19⟩, ⟨%f20, S20⟩, ⟨%f21, S21⟩, ⟨%f22, S22⟩, ⟨%f23, S23⟩, ⟨%f24, S24⟩, ⟨%f25, S25⟩, ⟨%f26, S26⟩, ⟨%f27, S27⟩, ⟨%f28, S28⟩, ⟨%f29, S29⟩, ⟨%f30, S30⟩, ⟨%f31, S31⟩⟩, Hg⟩, HW, ⟨%d0, H2⟩, ⟨%d1, H3⟩, ⟨%d2, H4⟩, ⟨%d3, H5⟩, ⟨%d4, H6⟩⟩
  ihave H2 := (vl_of_owns c (st0_0 t) _) $$ H2
  ihave H3 := (vl_of_owns c (st0_1 t) _) $$ H3
  ihave H4 := (vl_of_owns c (st0_2 t) _) $$ H4
  ihave H5 := (vl_of_owns c (st0_3 t) _) $$ H5
  ihave H6 := (pt_of_owns c (st0_4 t) _) $$ H6
  icases H6 with ⟨%fo, H6⟩
  iapply (wp_wand_r _ _ _)
  isplitl [H2 H3 H4 H5 H6 S0 S1 S2 S3 S4 S5 S6 S7 S8 S9 S10 S11 S12 S13 S14 S15 S16 S17 S18 S19 S20 S21 S22 S23 S24 S25 S26 S27 S28 S29 S30 S31]
  · iapply (body_run c (grid0.coords t) (st0_0 t) _ (st0_1 t) _ (st0_2 t) _ (st0_3 t) _ (st0_4 t) _ (iblk m c 0 t) (iblk m c 1 t) (iblk m c 2 t) (iblk m c 3 t) fo _ _ _ _ _ _ _ _ _ _ _ _ _ _ _ _ _ _ _ _ _ _ _ _ _ _ _ _ _ _ _ _)
    isplitl [H2]; · iexact H2
    isplitl [H3]; · iexact H3
    isplitl [H4]; · iexact H4
    isplitl [H5]; · iexact H5
    isplitl [H6]; · iexact H6
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    isplitl [S10]; · iexact S10
    isplitl [S11]; · iexact S11
    isplitl [S12]; · iexact S12
    isplitl [S13]; · iexact S13
    isplitl [S14]; · iexact S14
    isplitl [S15]; · iexact S15
    isplitl [S16]; · iexact S16
    isplitl [S17]; · iexact S17
    isplitl [S18]; · iexact S18
    isplitl [S19]; · iexact S19
    isplitl [S20]; · iexact S20
    isplitl [S21]; · iexact S21
    isplitl [S22]; · iexact S22
    isplitl [S23]; · iexact S23
    isplitl [S24]; · iexact S24
    isplitl [S25]; · iexact S25
    isplitl [S26]; · iexact S26
    isplitl [S27]; · iexact S27
    isplitl [S28]; · iexact S28
    isplitl [S29]; · iexact S29
    isplitl [S30]; · iexact S30
    iexact S31
  iintro %_ ⟨H2, H3, H4, H5, H6, S0, S1, S2, S3, S4, S5, S6, S7, S8, S9, S10, S11, S12, S13, S14, S15, S16, S17, S18, S19, S20, S21, S22, S23, S24, S25, S26, S27, S28, S29, S30, S31⟩
  isplitl [Hg S0 S1 S2 S3 S4 S5 S6 S7 S8 S9 S10 S11 S12 S13 S14 S15 S16 S17 S18 S19 S20 S21 S22 S23 S24 S25 S26 S27 S28 S29 S30 S31]
  · isplitr [Hg]
    ·
      isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      isplitl [S9]; · iexact S9
      isplitl [S10]; · iexact S10
      isplitl [S11]; · iexact S11
      isplitl [S12]; · iexact S12
      isplitl [S13]; · iexact S13
      isplitl [S14]; · iexact S14
      isplitl [S15]; · iexact S15
      isplitl [S16]; · iexact S16
      isplitl [S17]; · iexact S17
      isplitl [S18]; · iexact S18
      isplitl [S19]; · iexact S19
      isplitl [S20]; · iexact S20
      isplitl [S21]; · iexact S21
      isplitl [S22]; · iexact S22
      isplitl [S23]; · iexact S23
      isplitl [S24]; · iexact S24
      isplitl [S25]; · iexact S25
      isplitl [S26]; · iexact S26
      isplitl [S27]; · iexact S27
      isplitl [S28]; · iexact S28
      isplitl [S29]; · iexact S29
      isplitl [S30]; · iexact S30
      iexact S31
    iexact Hg
  isplitl [HW]; · iexact HW
  isplitl [H2]; · iapply (owns_of_vl c (st0_0 t) _) $$ H2
  isplitl [H3]; · iapply (owns_of_vl c (st0_1 t) _) $$ H3
  isplitl [H4]; · iapply (owns_of_vl c (st0_2 t) _) $$ H4
  isplitl [H5]; · iapply (owns_of_vl c (st0_3 t) _) $$ H5
  iapply (owns_of_vl c (st0_4 t) _) $$ H6

/-- The body table's row at the point. -/
theorem defs₀_row (t : Fin cfg0.N) : defs₀ (F := F) .tc cfg0.body (cfg0.bodyArgs t (cfg0.slots t)) = bodyAt0 t := by
  unfold defs₀; rw [Defs.onTc_tc]

/-- The body obligation. -/
theorem body_obligation [∀ e, Nonempty (Elt F e)] (c : Dev nD) :
    BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- From any memory with zero counters, every fair run of @main ends with the output at the blocks computed from the
    windows' arrays, every other buffer as the region found it, and every counter at zero. -/
theorem run_main [∀ e, Nonempty (Elt F e)] :
    θ_run defs (onTc (τ := τ) (main (F := F))) (s₀ m ρ)
      (fun r => Pipeline.FramePost cfgs (dats m) 0 (V m) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := fun _ _ => rfl) (hΦ := fun _ _ => rfl)

end Cert.Proof.Attn

end
-- ==== Proof.Frames.lean ====
module

public import proofs.«01_k».proof.Defs
public import proofs.«01_k».proof.Proof.Run
public import proofs.«01_k».proof.Proof.Gen.Kernel
public import proofs.«01_k».proof.Proof.Gen.Kernel.Frame

@[expose] public section

noncomputable section

namespace Cert.Proof.Attn

open Cert.KernelIdeal Cert.KernelIdeal.Gen
open Idealize.ShloMosaic Idealize.ShloMosaic.TcCoe Idealize.SL.Sem

variable {F : FTy → Type} [FloatOps F]

/-- What a run's end says of the arguments and the counters. -/
theorem args_end (m : (ℓ : Loc nD τ sig) → Buf (Elt F) ℓ) {r : PUnit × MemSt nD τ sig (Elt F)}
    (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c)⟩

/-- Every run leaves its arguments unchanged and its counters at zero, over any float values. -/
theorem frame_any [∀ e, Nonempty (Elt F e)] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run Cert.KernelIdeal.defs _ _).mono (fun _ h => ⟨fun c => args_end m h.1 c, h.2⟩) (run_main m ρ)

/-- Every run of the idealized kernel leaves its arguments unchanged and its counters at zero. -/
theorem frame_ideal : Cert.quiescent_KernelIdeal := fun m ρ _ => frame_any m ρ

/-- The kernel's body table is the idealized kernel's: the same text. -/
theorem defs₀_eq : Cert.Kernel.defs₀ (F := F) = Cert.KernelIdeal.defs₀ (F := F) := by
  unfold Cert.Kernel.defs₀ Cert.KernelIdeal.defs₀
  refine congrArg Defs.onTc (funext fun ℓ => funext fun a => ?_)
  obtain ⟨n, h⟩ := ℓ
  cases n with
  | zero => rfl
  | succ n => exact absurd h (Nat.not_lt.2 (Nat.le_add_left _ _))
theorem defs_eq : Cert.Kernel.defs (F := F) = Cert.KernelIdeal.defs (F := F) := by
  unfold Cert.Kernel.defs Cert.KernelIdeal.defs
  rw [defs₀_eq]
  rfl
theorem main_same : Cert.Kernel.main (F := F) = Cert.KernelIdeal.main (F := F) := by
  unfold Cert.Kernel.main Cert.KernelIdeal.main
  rfl

/-- Every run of the kernel over bits leaves its arguments unchanged and its counters at zero: it is the same text. -/
theorem frame_kernel : Cert.quiescent_Kernel := by
  intro m ρ _
  rw [defs_eq, main_same]
  exact frame_any (F := Bits) m ρ

end Cert.Proof.Attn

end
-- ==== Proof.Arr.lean ====
module

public import proofs.«01_k».proof.Proof.Val
public import proofs.«01_k».proof.Proof.Frames
public import Idealize.ShloMosaic.Lib.Pipeline.ValueKit
public import Idealize.ShloMosaic.Lib.Pipeline.Covers

@[expose] public section
set_option maxRecDepth 16384

/-! The region's result array, over the extended reals: the attention. -/

noncomputable section
namespace Cert.Proof.Attn
open Cert.KernelIdeal Cert.KernelIdeal.Gen
open Idealize.ShloMosaic Idealize.ShloMosaic.TcCoe Idealize.SL.Sem

variable (m : (ℓ : Loc nD τ sig) → Buf (Elt Ideal) ℓ) (c : Dev nD)

theorem idx_facts : ∀ t : Fin cfg0.N, win0_0.index t = ![(grid0.coords t 0).val * 16 + (grid0.coords t 1).val, 0, 0]
    ∧ win0_1.index t = ![(grid0.coords t 0).val, 0] ∧ win0_2.index t = ![(grid0.coords t 0).val, 0, 0]
    ∧ win0_3.index t = ![0, 0, 0] ∧ win0_4.index t = ![(grid0.coords t 0).val * 16 + (grid0.coords t 1).val, 0] := by decide +kernel

theorem blk_q (t : Fin cfg0.N) (r : Fin 2048) (q : Fin 512) (g : Fin 128) (hg : g.val = (grid0.coords t 0).val * 16 + (grid0.coords t 1).val) :
    iblk m c 0 t (ix3 0 r q) = V m c main_v9 (ix3 g r q) := by
  have e := (idx_facts t).1
  rw [← hg] at e
  blk_ext [iblk, e]
theorem blk_k (t : Fin cfg0.N) (k : Fin 8192) (r : Fin 256) (g : Fin 65536) (hg : g.val = (grid0.coords t 0).val * 8192 + k.val) :
    iblk m c 1 t (ix2 k r) = V m c main_v13 (ix2 g r) := by
  have e := (idx_facts t).2.1
  generalize (grid0.coords t 0).val = b at e hg
  blk_ext [iblk, e]
theorem blk_v (t : Fin cfg0.N) (l : Fin 16) (r : Fin 144) (k : Fin 512) (g : Fin 128) (hg : g.val = (grid0.coords t 0).val * 16 + l.val) :
    iblk m c 2 t (ix3 l r k) = V m c main_v18 (ix3 g r k) := by
  have e := (idx_facts t).2.2.1
  generalize (grid0.coords t 0).val = b at e hg
  blk_ext [iblk, e]
theorem blk_w (t : Fin cfg0.N) (h : Fin 8) (d v : Fin 128) : iblk m c 3 t (ix3 h d v) = V m c main_v20 (ix3 h d v) := by
  have e := (idx_facts t).2.2.2.1
  blk_ext [iblk, e]

variable {m c}
variable {a0 : Fin 8 → Fin 8192 → Fin 8 → Fin 128 → ℝ} {a1 : Fin 8 → Fin 8192 → Fin 8 → Fin 64 → ℝ}
  {a2 : Fin 8 → Fin 8192 → Fin 128 → ℝ} {a3 : Fin 8 → Fin 8192 → Fin 64 → ℝ}
  (h0 : ∀ b q h k, m (c, (main_arg0 : DevRef τ sig)) (ix4 b q h k) = (a0 b q h k : EReal))
  (h1 : ∀ b q h k, m (c, (main_arg1 : DevRef τ sig)) (ix4 b q h k) = (a1 b q h k : EReal))
  (h2 : ∀ b k d, m (c, (main_arg2 : DevRef τ sig)) (ix3 b k d) = (a2 b k d : EReal))
  (h3 : ∀ b k d, m (c, (main_arg3 : DevRef τ sig)) (ix3 b k d) = (a3 b k d : EReal))

/-- The attention at a row and a column of the result. -/
def resultAt (a0 : Fin 8 → Fin 8192 → Fin 8 → Fin 128 → ℝ) (a1 : Fin 8 → Fin 8192 → Fin 8 → Fin 64 → ℝ)
    (a2 : Fin 8 → Fin 8192 → Fin 128 → ℝ) (a3 : Fin 8 → Fin 8192 → Fin 64 → ℝ) (A4 : Vec Ideal S128x8x128 .f32) (x : Fin 65536) (y : Fin 1024) : EReal :=
  Spec.out a0 a1 a2 a3 (fun d h v => A4 (ix3 d h v)) ⟨x.val / 8192, by omega⟩ ⟨y.val / 128, by omega⟩
    ⟨x.val % 8192, by omega⟩ ⟨y.val % 128, by omega⟩
/-- The attention, laid out as the result array. -/
def result (a0 : Fin 8 → Fin 8192 → Fin 8 → Fin 128 → ℝ) (a1 : Fin 8 → Fin 8192 → Fin 8 → Fin 64 → ℝ)
    (a2 : Fin 8 → Fin 8192 → Fin 128 → ℝ) (a3 : Fin 8 → Fin 8192 → Fin 64 → ℝ) (A4 : Vec Ideal S128x8x128 .f32) : Vec Ideal S65536x1024 .bf16 :=
  fun y => resultAt a0 a1 a2 a3 A4 ⟨(y 0).val, (y 0).isLt⟩ ⟨(y 1).val, (y 1).isLt⟩

/-- A grid point's block is its rows of the result. -/
theorem point_eq (A4 : Vec Ideal S128x8x128 .f32) (b : Fin 8) (j : Fin 16) (z0 : Fin 512) (z1 : Fin 1024) (i : S65536x1024.Idx)
    (p0 : (i 0).val = (b.val * 16 + j.val) * 512 + z0.val) (p1 : (i 1).val = z1.val) :
    Spec.out a0 a1 a2 a3 (fun d h v => A4 (ix3 d h v)) b ⟨z1.val / 128, by omega⟩ ⟨512 * j.val + z0.val, by omega⟩ ⟨z1.val % 128, by omega⟩
      = result a0 a1 a2 a3 A4 i := by
  have e1 : (⟨(i 1).val, (i 1).isLt⟩ : Fin 1024) = z1 := Fin.ext p1
  have e0 : (⟨(i 0).val, (i 0).isLt⟩ : Fin 65536) = ⟨(b.val * 16 + j.val) * 512 + z0.val, by omega⟩ := Fin.ext p0
  have hb := b.isLt
  have hj := j.isLt
  have hz := z0.isLt
  unfold result resultAt
  rw [e0, e1]
  congr 1
  · exact Fin.ext (by simp only; omega)
  · exact Fin.ext (by simp only; omega)

include h0 h1 h2 h3 in
theorem arr_val : (dats m 0 c).arrAt 4 cfg0.N = result a0 a1 a2 a3 (m (c, (main_arg4 : DevRef τ sig))) := by
  refine (dats m 0 c).arrAt_eq_of_covers 4 _ (by decide +kernel) fun t hf y => ?_
  have e := (idx_facts t).2.2.2.2
  have p0 : (((win0_4.blk t).view.emb y) 0 : ℕ) = ((grid0.coords t 0).val * 16 + (grid0.coords t 1).val) * 512 + (y 0).val := by blk_simp [e]
  have p1 : (((win0_4.blk t).view.emb y) 1 : ℕ) = (y 1).val := by blk_simp [e]
  blk_simp
  refine Eq.trans ?_ (point_eq _ (⟨(grid0.coords t 0).val, (grid0.coords t 0).isLt⟩ : Fin 8) (⟨(grid0.coords t 1).val, (grid0.coords t 1).isLt⟩ : Fin 16)
    ⟨(y 0).val, (y 0).isLt⟩ ⟨(y 1).val, (y 1).isLt⟩ _ p0 p1)
  refine (blk_val (i := grid0.coords t) h0 h1 h2 h3 rfl (fun r q g hg => ?_) (fun k d g hg => ?_) (fun l r k g hg => ?_) (fun h d v => ?_) y _ _ rfl rfl)
  · exact (blk_q m c t r q g hg).trans (congrFun (V_q m c) _)
  · exact (blk_k m c t k d g hg).trans (congrFun (V_k m c) _)
  · exact (blk_v m c t l r k g hg).trans (congrFun (V_v m c) _)
  · exact (blk_w m c t h d v).trans ((congrFun (V_w m c) _).trans (wArr_at _ h d v))

end Cert.Proof.Attn
end
-- ==== Proof.Ref.lean ====
module

public import proofs.«01_k».proof.Defs
public import proofs.«01_k».proof.Proof.Gen.ReferenceIdeal
public import Idealize.ShloMosaic.Lib.StableHlo.Run
public import Idealize.ShloMosaic.Lib.Quiescent

@[expose] public section

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-- The reference's operations, in order. -/
abbrev ops : List (HloOp τ sig (Elt F)) :=
  [ StableHlo.binary main_arg0 main_arg1 main_v0 ((fun a b => concatenate S8x8192x8x192 3 [⟨S8x8192x8x128, a⟩, ⟨S8x8192x8x64, b⟩] concatenates_S8x8192x8x128_S8x8192x8x64_S8x8192x8x192_d3) : (⟨S8x8192x8x128, .f32⟩ : BufTy).Contents (Elt F) → (⟨S8x8192x8x64, .f32⟩ : BufTy).Contents (Elt F) → (⟨S8x8192x8x192, .f32⟩ : BufTy).Contents (Elt F)),
    StableHlo.nullary main_cst (constant S_ .f32 0x43400000#32),
    StableHlo.unary main_cst main_v1 (Host.sqrt : (⟨S_, .f32⟩ : BufTy).Contents (Elt F) → (⟨S_, .f32⟩ : BufTy).Contents (Elt F)),
    StableHlo.unary main_v1 main_v2 (broadcastInDim S8x8192x8x192 ![] bcast_S_S8x8192x8x192 : (⟨S_, .f32⟩ : BufTy).Contents (Elt F) → (⟨S8x8192x8x192, .f32⟩ : BufTy).Contents (Elt F)),
    StableHlo.binary main_v0 main_v2 main_v3 (Host.divf : (⟨S8x8192x8x192, .f32⟩ : BufTy).Contents (Elt F) → (⟨S8x8192x8x192, .f32⟩ : BufTy).Contents (Elt F) → (⟨S8x8192x8x192, .f32⟩ : BufTy).Contents (Elt F)),
    StableHlo.binary main_arg2 main_arg3 main_v4 ((fun a b => concatenate S8x8192x192 2 [⟨S8x8192x128, a⟩, ⟨S8x8192x64, b⟩] concatenates_S8x8192x128_S8x8192x64_S8x8192x192_d2) : (⟨S8x8192x128, .f32⟩ : BufTy).Contents (Elt F) → (⟨S8x8192x64, .f32⟩ : BufTy).Contents (Elt F) → (⟨S8x8192x192, .f32⟩ : BufTy).Contents (Elt F)),
    StableHlo.binary main_v4 main_v3 main_v5 ((fun l r => Host.dotGeneral dot_S8x8192x192_S8x8192x8x192_S8x8192x8192x8_2_3_1_12_0_0 none l r) : (⟨S8x8192x192, .f32⟩ : BufTy).Contents (Elt F) → (⟨S8x8192x8x192, .f32⟩ : BufTy).Contents (Elt F) → (⟨S8x8192x8192x8, .f32⟩ : BufTy).Contents (Elt F)),
    StableHlo.unary main_v5 main_v6 ((transpose S8x8x8192x8192 [0, 3, 2, 1] · transposes_S8x8192x8192x8_S8x8x8192x8192_0_3_2_1) : (⟨S8x8192x8192x8, .f32⟩ : BufTy).Contents (Elt F) → (⟨S8x8x8192x8192, .f32⟩ : BufTy).Contents (Elt F)),
    StableHlo.nullary main_v7 (iotaInDim S8192 32 0),
    StableHlo.unary main_v7 main_v8 (broadcastInDim S1x8192 ![1] bcast_S8192_S1x8192_1 : (⟨S8192, .i32⟩ : BufTy).Contents (Elt F) → (⟨S1x8192, .i32⟩ : BufTy).Contents (Elt F)),
    StableHlo.unary main_v7 main_v9 (broadcastInDim S8192x1 ![0] bcast_S8192_S8192x1_0 : (⟨S8192, .i32⟩ : BufTy).Contents (Elt F) → (⟨S8192x1, .i32⟩ : BufTy).Contents (Elt F)),
    StableHlo.unary main_v8 main_v10 (broadcastInDim S8192x8192 ![0, 1] bcast_S1x8192_S8192x8192_0_1 : (⟨S1x8192, .i32⟩ : BufTy).Contents (Elt F) → (⟨S8192x8192, .i32⟩ : BufTy).Contents (Elt F)),
    StableHlo.unary main_v9 main_v11 (broadcastInDim S8192x8192 ![0, 1] bcast_S8192x1_S8192x8192_0_1 : (⟨S8192x1, .i32⟩ : BufTy).Contents (Elt F) → (⟨S8192x8192, .i32⟩ : BufTy).Contents (Elt F)),
    StableHlo.binary main_v10 main_v11 main_v12 (cmpi .sle : (⟨S8192x8192, .i32⟩ : BufTy).Contents (Elt F) → (⟨S8192x8192, .i32⟩ : BufTy).Contents (Elt F) → (⟨S8192x8192, .i1⟩ : BufTy).Contents (Elt F)),
    StableHlo.nullary main_cst_0 (constant S_ .f32 0xFF800000#32),
    StableHlo.TRef.unary (.of main_cst_0 : StableHlo.TRef sig ⟨S_, .f32⟩) main_call0.v0 id,
    StableHlo.TRef.unary (.of main_v12 : StableHlo.TRef sig ⟨S8192x8192, .i1⟩) main_call0.v1 (broadcastInDim S8x8x8192x8192 ![2, 3] bcast_S8192x8192_S8x8x8192x8192_2_3),
    StableHlo.TRef.unary main_call0.v0 main_call0.v2 (broadcastInDim S8x8x8192x8192 ![] bcast_S_S8x8x8192x8192),
    StableHlo.TRef.ternary main_call0.v1 (.of main_v6 : StableHlo.TRef sig ⟨S8x8x8192x8192, .f32⟩) main_call0.v2 main_call0.v3 select,
    StableHlo.nullary main_cst_1 (constant S_ .f32 0xFF800000#32),
    StableHlo.binary main_v13 main_cst_1 main_v14 ((fun x v => Host.reduce FloatOps.maximumf x v reducesTo_S8x8x8192x8192_S8x8x8192_d3 h_S_) : (⟨S8x8x8192x8192, .f32⟩ : BufTy).Contents (Elt F) → (⟨S_, .f32⟩ : BufTy).Contents (Elt F) → (⟨S8x8x8192, .f32⟩ : BufTy).Contents (Elt F)),
    StableHlo.nullary main_cst_2 (constant S_ .f32 0xFF800000#32),
    StableHlo.unary main_cst_2 main_v15 (broadcastInDim S8x8x8192 ![] bcast_S_S8x8x8192 : (⟨S_, .f32⟩ : BufTy).Contents (Elt F) → (⟨S8x8x8192, .f32⟩ : BufTy).Contents (Elt F)),
    StableHlo.binary main_v15 main_v14 main_v16 (maximumf : (⟨S8x8x8192, .f32⟩ : BufTy).Contents (Elt F) → (⟨S8x8x8192, .f32⟩ : BufTy).Contents (Elt F) → (⟨S8x8x8192, .f32⟩ : BufTy).Contents (Elt F)),
    StableHlo.unary main_v16 main_v17 (broadcastInDim S8x8x8192x1 ![0, 1, 2] bcast_S8x8x8192_S8x8x8192x1_0_1_2 : (⟨S8x8x8192, .f32⟩ : BufTy).Contents (Elt F) → (⟨S8x8x8192x1, .f32⟩ : BufTy).Contents (Elt F)),
    StableHlo.unary main_v17 main_v18 (broadcastInDim S8x8x8192x8192 ![0, 1, 2, 3] bcast_S8x8x8192x1_S8x8x8192x8192_0_1_2_3 : (⟨S8x8x8192x1, .f32⟩ : BufTy).Contents (Elt F) → (⟨S8x8x8192x8192, .f32⟩ : BufTy).Contents (Elt F)),
    StableHlo.binary main_v13 main_v18 main_v19 (subf : (⟨S8x8x8192x8192, .f32⟩ : BufTy).Contents (Elt F) → (⟨S8x8x8192x8192, .f32⟩ : BufTy).Contents (Elt F) → (⟨S8x8x8192x8192, .f32⟩ : BufTy).Contents (Elt F)),
    StableHlo.unary main_v19 main_v20 (Host.exp : (⟨S8x8x8192x8192, .f32⟩ : BufTy).Contents (Elt F) → (⟨S8x8x8192x8192, .f32⟩ : BufTy).Contents (Elt F)),
    StableHlo.nullary main_cst_3 (constant S_ .f32 0x00000000#32),
    StableHlo.binary main_v20 main_cst_3 main_v21 ((fun x v => Host.reduceAdd x v reducesTo_S8x8x8192x8192_S8x8x8192_d3 h_S_) : (⟨S8x8x8192x8192, .f32⟩ : BufTy).Contents (Elt F) → (⟨S_, .f32⟩ : BufTy).Contents (Elt F) → (⟨S8x8x8192, .f32⟩ : BufTy).Contents (Elt F)),
    StableHlo.unary main_v21 main_v22 (broadcastInDim S8x8x8192x1 ![0, 1, 2] bcast_S8x8x8192_S8x8x8192x1_0_1_2 : (⟨S8x8x8192, .f32⟩ : BufTy).Contents (Elt F) → (⟨S8x8x8192x1, .f32⟩ : BufTy).Contents (Elt F)),
    StableHlo.unary main_v22 main_v23 (broadcastInDim S8x8x8192x8192 ![0, 1, 2, 3] bcast_S8x8x8192x1_S8x8x8192x8192_0_1_2_3 : (⟨S8x8x8192x1, .f32⟩ : BufTy).Contents (Elt F) → (⟨S8x8x8192x8192, .f32⟩ : BufTy).Contents (Elt F)),
    StableHlo.binary main_v20 main_v23 main_v24 (Host.divf : (⟨S8x8x8192x8192, .f32⟩ : BufTy).Contents (Elt F) → (⟨S8x8x8192x8192, .f32⟩ : BufTy).Contents (Elt F) → (⟨S8x8x8192x8192, .f32⟩ : BufTy).Contents (Elt F)),
    StableHlo.binary main_arg2 main_v24 main_v25 ((fun l r => Host.dotGeneral dot_S8x8192x128_S8x8x8192x8192_S8x128x8x8192_1_3_2_12_0_0 none l r) : (⟨S8x8192x128, .f32⟩ : BufTy).Contents (Elt F) → (⟨S8x8x8192x8192, .f32⟩ : BufTy).Contents (Elt F) → (⟨S8x128x8x8192, .f32⟩ : BufTy).Contents (Elt F)),
    StableHlo.unary main_v25 main_v26 ((transpose S8x8192x8x128 [0, 3, 2, 1] · transposes_S8x128x8x8192_S8x8192x8x128_0_3_2_1) : (⟨S8x128x8x8192, .f32⟩ : BufTy).Contents (Elt F) → (⟨S8x8192x8x128, .f32⟩ : BufTy).Contents (Elt F)),
    StableHlo.binary main_arg4 main_v26 main_v27 ((fun l r => Host.dotGeneral dot_S128x8x128_S8x8192x8x128_S8x128x8x8192_0_3_2_01_1_2 none l r) : (⟨S128x8x128, .f32⟩ : BufTy).Contents (Elt F) → (⟨S8x8192x8x128, .f32⟩ : BufTy).Contents (Elt F) → (⟨S8x128x8x8192, .f32⟩ : BufTy).Contents (Elt F)),
    StableHlo.unary main_v27 main_v28 ((transpose S8x8192x8x128 [2, 3, 0, 1] · transposes_S8x128x8x8192_S8x8192x8x128_2_3_0_1) : (⟨S8x128x8x8192, .f32⟩ : BufTy).Contents (Elt F) → (⟨S8x8192x8x128, .f32⟩ : BufTy).Contents (Elt F)),
    StableHlo.reshape main_v28 main_v29 (rfl : (.f32 : EltTy) = .f32) shapeCasts_S8x8192x8x128_S65536x1024,
    StableHlo.unary main_v29 main_v30 ((truncf .bf16 · bitsLt_bf16_f32) : (⟨S65536x1024, .f32⟩ : BufTy).Contents (Elt F) → (⟨S65536x1024, .bf16⟩ : BufTy).Contents (Elt F)) ]

/-- The reference is that straight line. -/
theorem main_eq (c : Dev nD) : main (F := F) c = seq ops := by
  simp only [main, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨binary_bufs_sub ..,
    nullary_bufs_sub ..,
    unary_bufs_sub ..,
    unary_bufs_sub ..,
    binary_bufs_sub ..,
    binary_bufs_sub ..,
    binary_bufs_sub ..,
    unary_bufs_sub ..,
    nullary_bufs_sub ..,
    unary_bufs_sub ..,
    unary_bufs_sub ..,
    unary_bufs_sub ..,
    unary_bufs_sub ..,
    binary_bufs_sub ..,
    nullary_bufs_sub ..,
    unary_bufs_sub ..,
    unary_bufs_sub ..,
    unary_bufs_sub ..,
    ternary_bufs_sub ..,
    nullary_bufs_sub ..,
    binary_bufs_sub ..,
    nullary_bufs_sub ..,
    unary_bufs_sub ..,
    binary_bufs_sub ..,
    unary_bufs_sub ..,
    unary_bufs_sub ..,
    binary_bufs_sub ..,
    unary_bufs_sub ..,
    nullary_bufs_sub ..,
    binary_bufs_sub ..,
    unary_bufs_sub ..,
    unary_bufs_sub ..,
    binary_bufs_sub ..,
    binary_bufs_sub ..,
    unary_bufs_sub ..,
    binary_bufs_sub ..,
    unary_bufs_sub ..,
    reshape_bufs_sub ..,
    unary_bufs_sub ..⟩

variable (V : Valuation τ sig (Elt F))

/-- No operation writes an argument. -/
theorem arg_eq (b : Ref sig .tc) (h : b = main_arg0 ∨ b = main_arg1 ∨ b = main_arg2 ∨ b = main_arg3 ∨ b = main_arg4) :
    after ops V (b : DevRef τ sig) = V (b : DevRef τ sig) := by
  rcases h with h | h | h | h | h <;> (subst h; after_results)

/-- Every run of the reference ends with every buffer at its operations' results. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- Every run of the reference leaves its arguments unchanged. -/
theorem frame : Cert.quiescent_ReferenceIdeal := fun m ρ _ =>
  (θ_run Cert.ReferenceIdeal.defs _ _).mono
    (fun r h => ⟨fun c => ⟨(h c main_arg0).trans (arg_eq _ _ (by simp)), (h c main_arg1).trans (arg_eq _ _ (by simp)),
      (h c main_arg2).trans (arg_eq _ _ (by simp)), (h c main_arg3).trans (arg_eq _ _ (by simp)), (h c main_arg4).trans (arg_eq _ _ (by simp))⟩,
      Idealize.ShloMosaic.sem_eq_zero_of_no_sems (by decide) r.2⟩)
    (run_main (F := Ideal) m ρ)

end Cert.Proof.Ref

end
-- ==== Proof.RefAt.lean ====
module

public import proofs.«01_k».proof.Proof.Ref
public import proofs.«01_k».proof.Proof.Sums
public import Idealize.ShloMosaic.Lib.Pointwise
public import Idealize.ShloMosaic.Lib.StableHlo.RunRead

@[expose] public section
set_option maxRecDepth 16384
noncomputable section
namespace Cert.Proof.Ref
open Cert.ReferenceIdeal Cert.ReferenceIdeal.Gen
open Idealize.ShloMosaic Idealize.ShloMosaic.TcCoe Idealize.ShloMosaic.StableHlo Idealize.SL.Sem

variable {F : FTy → Type} [FloatOps F]

variable (A0 : Vec F S8x8192x8x128 .f32) (A1 : Vec F S8x8192x8x64 .f32) (A2 : Vec F S8x8192x128 .f32) (A3 : Vec F S8x8192x64 .f32) (A4 : Vec F S128x8x128 .f32)

/-- The scores. -/
def scores : Vec F S8x8x8192x8192 .f32 :=
  transpose S8x8x8192x8192 [0, 3, 2, 1]
    (Host.dotGeneral dot_S8x8192x192_S8x8192x8x192_S8x8192x8192x8_2_3_1_12_0_0 none
      (concatenate S8x8192x192 2 [⟨S8x8192x128, A2⟩, ⟨S8x8192x64, A3⟩] concatenates_S8x8192x128_S8x8192x64_S8x8192x192_d2 : FVec F S8x8192x192 .f32)
      (Host.divf (concatenate S8x8192x8x192 3 [⟨S8x8192x8x128, A0⟩, ⟨S8x8192x8x64, A1⟩] concatenates_S8x8192x8x128_S8x8192x8x64_S8x8192x8x192_d3 : FVec F S8x8192x8x192 .f32)
        (broadcastInDim S8x8192x8x192 ![] bcast_S_S8x8192x8x192 (Host.sqrt (constant S_ .f32 0x43400000#32 : FVec F S_ .f32)))) : FVec F S8x8192x8192x8 .f32)
    transposes_S8x8192x8192x8_S8x8x8192x8192_0_3_2_1

/-- Which keys a query sees. -/
def seen : IVec S8192x8192 1 :=
  cmpi .sle (broadcastInDim S8192x8192 ![0, 1] bcast_S1x8192_S8192x8192_0_1 (broadcastInDim S1x8192 ![1] bcast_S8192_S1x8192_1 (iotaInDim S8192 32 0)) : IVec S8192x8192 32)
    (broadcastInDim S8192x8192 ![0, 1] bcast_S8192x1_S8192x8192_0_1 (broadcastInDim S8192x1 ![0] bcast_S8192_S8192x1_0 (iotaInDim S8192 32 0)) : IVec S8192x8192 32)

variable (s p : Vec F S8x8x8192x8192 .f32)
/-- The scores with the keys not seen left out. -/
def masked : Vec F S8x8x8192x8192 .f32 :=
  select (broadcastInDim S8x8x8192x8192 ![2, 3] bcast_S8192x8192_S8x8x8192x8192_2_3 seen) s
    (broadcastInDim S8x8x8192x8192 ![] bcast_S_S8x8x8192x8192 (constant S_ .f32 0xFF800000#32 : FVec F S_ .f32))

/-- The greatest score of each query. -/
def top : FVec F S8x8x8192 .f32 :=
  maximumf (broadcastInDim S8x8x8192 ![] bcast_S_S8x8x8192 (constant S_ .f32 0xFF800000#32 : FVec F S_ .f32))
    (Host.reduce FloatOps.maximumf s (constant S_ .f32 0xFF800000#32 : FVec F S_ .f32) reducesTo_S8x8x8192x8192_S8x8x8192_d3 h_S_)

/-- The weights before they are divided by their sum. -/
def wt : FVec F S8x8x8192x8192 .f32 :=
  Host.exp (subf s (broadcastInDim S8x8x8192x8192 ![0, 1, 2, 3] bcast_S8x8x8192x1_S8x8x8192x8192_0_1_2_3
    (broadcastInDim S8x8x8192x1 ![0, 1, 2] bcast_S8x8x8192_S8x8x8192x1_0_1_2 (top s))))

/-- The weights divided by their sum. -/
def prob : FVec F S8x8x8192x8192 .f32 :=
  Host.divf p (broadcastInDim S8x8x8192x8192 ![0, 1, 2, 3] bcast_S8x8x8192x1_S8x8x8192x8192_0_1_2_3
    (broadcastInDim S8x8x8192x1 ![0, 1, 2] bcast_S8x8x8192_S8x8x8192x1_0_1_2
      (Host.reduceAdd p (constant S_ .f32 0x00000000#32 : FVec F S_ .f32) reducesTo_S8x8x8192x8192_S8x8x8192_d3 h_S_)))

/-- The result, from the weights. -/
def res : FVec F S65536x1024 .bf16 :=
  truncf .bf16 (shapeCast S65536x1024 (transpose S8x8192x8x128 [2, 3, 0, 1]
    (Host.dotGeneral dot_S128x8x128_S8x8192x8x128_S8x128x8x8192_0_3_2_01_1_2 none (A4 : FVec F S128x8x128 .f32)
      (transpose S8x8192x8x128 [0, 3, 2, 1] (Host.dotGeneral dot_S8x8192x128_S8x8x8192x8192_S8x128x8x8192_1_3_2_12_0_0 none (A2 : FVec F S8x8192x128 .f32) p : FVec F S8x128x8x8192 .f32)
        transposes_S8x128x8x8192_S8x8192x8x128_0_3_2_1 : FVec F S8x8192x8x128 .f32) : FVec F S8x128x8x8192 .f32)
    transposes_S8x128x8x8192_S8x8192x8x128_2_3_0_1 : FVec F S8x8192x8x128 .f32) shapeCasts_S8x8192x8x128_S65536x1024) bitsLt_bf16_f32

theorem end_eq (V : Valuation τ sig (Elt F)) :
    after ops V (main_v30 : DevRef τ sig) = res (V (main_arg2 : DevRef τ sig)) (V (main_arg4 : DevRef τ sig))
      (prob (wt (masked (scores (V (main_arg0 : DevRef τ sig)) (V (main_arg1 : DevRef τ sig)) (V (main_arg2 : DevRef τ sig)) (V (main_arg3 : DevRef τ sig)))))) := by
  after_results
  rfl
end Cert.Proof.Ref
end
-- ==== Proof.RefVal.lean ====
module

public import proofs.«01_k».proof.Proof.RefAt
public import proofs.«01_k».proof.Proof.Spec

@[expose] public section
set_option maxRecDepth 16384

/-! The reference's result at an index. -/

noncomputable section
namespace Cert.Proof.Ref
open Cert.ReferenceIdeal Cert.ReferenceIdeal.Gen
open Idealize.ShloMosaic Idealize.ShloMosaic.TcCoe Idealize.ShloMosaic.StableHlo Idealize.SL.Sem
variable (A0 : Vec Ideal S8x8192x8x128 .f32) (A1 : Vec Ideal S8x8192x8x64 .f32) (A2 : Vec Ideal S8x8192x128 .f32) (A3 : Vec Ideal S8x8192x64 .f32) (A4 : Vec Ideal S128x8x128 .f32)
  (s p : Vec Ideal S8x8x8192x8192 .f32) (b h : Fin 8) (q k : Fin 8192)
theorem scores_at : scores A0 A1 A2 A3 (ix4 b h q k)
    = ∑ c : Fin 128, A2 (ix3 b k c) * Ideal.div (A0 (ix4 b q h c)) (Ideal.sqrt (Ideal.ofBits .f32 0x43400000#32))
      + ∑ c : Fin 64, A3 (ix3 b k c) * Ideal.div (A1 (ix4 b q h c)) (Ideal.sqrt (Ideal.ofBits .f32 0x43400000#32)) := by
  pointwise [scores]
theorem masked_at : masked s (ix4 b h q k) = if k.val ≤ q.val then s (ix4 b h q k) else ⊥ := by
  rw [← Sums.bits_bot]
  pointwise [masked, seen]
  have hk := k.isLt
  have hq := q.isLt
  have e : ∀ a : Fin 8192, (BitVec.ofNat 32 a.val).toInt = a.val := fun a => by
    have ha := a.isLt
    have : (BitVec.ofNat 32 a.val).toNat = a.val := by simp only [BitVec.toNat_ofNat]; omega
    rw [BitVec.toInt_eq_toNat_of_lt (by omega), this]
  have c : IntOp.cmpi CmpIPredicate.sle (BitVec.ofNat 32 k.val) (BitVec.ofNat 32 q.val) = BitVec.ofBool (decide (k.val ≤ q.val)) := by
    show BitVec.ofBool (BitVec.sle _ _) = _
    rw [BitVec.sle_eq_decide, e, e]
    congr 2
    exact propext ⟨fun h => by omega, fun h => by omega⟩
  rw [c]
  by_cases h : k.val ≤ q.val
  · rw [if_pos h, decide_eq_true h]; rfl
  · rw [if_neg h, decide_eq_false h]; rfl

/-- A greatest element along an axis is a real, when nothing is `⊤` and something of the row is not `⊥`. -/
theorem reduce_real {S T u : Shape} {axes : List (Fin S.rank)} (x : S.Idx → EReal) (init : u.Idx → EReal) (hi : ∀ i, init i = ⊥)
    (hr : S.ReducesTo axes T) (hu : 0 < u.numel) (j : T.Idx) (ht : ∀ i, x i ≠ ⊤) (i : S.Idx) (hd : hr.drop i = j) (hb : x i ≠ ⊥) :
    ∃ X : ℝ, Host.reduce max x init hr hu j = X := by
  rw [Host.reduce_eq_fold, hi]
  obtain ⟨h1, h2⟩ := Sums.fold_max (Finset.univ.filter fun i => hr.drop i = j) x fun k _ => ht k
  refine Sums.real_of h1 fun h => hb ?_
  have := h2 i (Finset.mem_filter.2 ⟨Finset.mem_univ _, hd⟩)
  rw [h] at this
  exact le_bot_iff.1 this

theorem drop_at : reducesTo_S8x8x8192x8192_S8x8x8192_d3.drop (ix4 b h q k) = ix3 b h q := by
  funext a
  match a with
  | ⟨0, _⟩ => rfl
  | ⟨1, _⟩ => rfl
  | ⟨2, _⟩ => rfl

/-- The same of the greatest of that and a `⊥`. -/
theorem max_reduce_real {S T u : Shape} {axes : List (Fin S.rank)} (x : FVec Ideal S .f32) (y : FVec Ideal T .f32) (init : FVec Ideal u .f32)
    (hi : ∀ i, init i = ⊥) (hr : S.ReducesTo axes T) (hu : 0 < u.numel) (j : T.Idx) (hy : y j = ⊥) (ht : ∀ i, x i ≠ ⊤) (i : S.Idx)
    (hd : hr.drop i = j) (hb : x i ≠ ⊥) : ∃ X : ℝ, maximumf y (Host.reduce FloatOps.maximumf x init hr hu) j = X := by
  obtain ⟨X, hX⟩ := reduce_real x init hi hr hu j ht i hd hb
  refine ⟨X, ?_⟩
  show max (y j) (Host.reduce max x init hr hu j) = _
  rw [hX, hy]
  exact max_eq_right bot_le

theorem top_real (ht : ∀ i, s i ≠ ⊤) (hb : s (ix4 b h q k) ≠ ⊥) : ∃ X : ℝ, top s (ix3 b h q) = X := by
  unfold top
  refine max_reduce_real s _ _ (fun _ => Sums.bits_bot) _ _ _ ?_ ht (ix4 b h q k) (drop_at b h q k) hb
  rw [← Sums.bits_bot]
  pointwise []
theorem wt_at : wt s (ix4 b h q k) = Ideal.exp (s (ix4 b h q k) - top s (ix3 b h q)) := by
  pointwise [wt]
theorem prob_at : prob p (ix4 b h q k) = Ideal.div (p (ix4 b h q k)) (∑ j : Fin 8192, p (ix4 b h q j)) := by
  pointwise [prob]
theorem res_at (x : Fin 65536) (y : Fin 1024) : res A2 A4 p (ix2 x y)
    = ∑ d : Fin 128, A4 (ix3 d ⟨y.val / 128, by omega⟩ ⟨y.val % 128, by omega⟩)
      * ∑ k : Fin 8192, A2 (ix3 ⟨x.val / 8192, by omega⟩ k d) * p (ix4 ⟨x.val / 8192, by omega⟩ ⟨y.val / 128, by omega⟩ ⟨x.val % 8192, by omega⟩ k) := by
  pointwise [res]

variable {A0 A1 A2 A3} {a0 : Fin 8 → Fin 8192 → Fin 8 → Fin 128 → ℝ} {a1 : Fin 8 → Fin 8192 → Fin 8 → Fin 64 → ℝ}
  {a2 : Fin 8 → Fin 8192 → Fin 128 → ℝ} {a3 : Fin 8 → Fin 8192 → Fin 64 → ℝ}
  (h0 : ∀ b q h c, A0 (ix4 b q h c) = (a0 b q h c : EReal)) (h1 : ∀ b q h c, A1 (ix4 b q h c) = (a1 b q h c : EReal))
  (h2 : ∀ b k c, A2 (ix3 b k c) = (a2 b k c : EReal)) (h3 : ∀ b k c, A3 (ix3 b k c) = (a3 b k c : EReal))
include h0 h1 h2 h3

theorem scores_val : scores A0 A1 A2 A3 (ix4 b h q k) = (Spec.score a0 a1 a2 a3 b h q k : EReal) := by
  rw [scores_at, Spec.score, EReal.coe_add, Sums.coe_sum, Sums.coe_sum, Spec.sqrt_192]
  congr 1 <;>
  · refine Finset.sum_congr rfl fun c _ => ?_
    first
      | rw [h0, h2, Sums.div_coe _ _ Spec.sqrt_ne, ← EReal.coe_mul]
      | rw [h1, h3, Sums.div_coe _ _ Spec.sqrt_ne, ← EReal.coe_mul]

theorem masked_wt : Sums.We (masked (scores A0 A1 A2 A3) (ix4 b h q k)) (Spec.weight a0 a1 a2 a3 b h q k) := by
  rw [masked_at, scores_val (h0 := h0) (h1 := h1) (h2 := h2) (h3 := h3), Spec.weight]
  by_cases hk : k.val ≤ q.val
  · rw [if_pos hk, if_pos hk]; exact Or.inr ⟨_, rfl, rfl⟩
  · rw [if_neg hk, if_neg hk]; exact Or.inl ⟨rfl, rfl⟩

theorem mean_val (d : Fin 128) : ∑ k : Fin 8192, A2 (ix3 b k d) * prob (wt (masked (scores A0 A1 A2 A3))) (ix4 b h q k)
    = (Spec.mean a0 a1 a2 a3 b h q d : EReal) := by
  have hw := fun k => masked_wt b h q k h0 h1 h2 h3
  have ht : ∀ i, masked (scores A0 A1 A2 A3) i ≠ ⊤ := fun i => by
    rw [eq_ix4 i]
    exact (masked_wt _ _ _ _ h0 h1 h2 h3).ne_top
  obtain ⟨M, hM⟩ := top_real (masked (scores A0 A1 A2 A3)) b h q q ht (by
    rw [masked_at, if_pos le_rfl, scores_val (h0 := h0) (h1 := h1) (h2 := h2) (h3 := h3)]; exact EReal.coe_ne_bot _)
  rw [Spec.mean, ← Sums.softmax hw (fun k => a2 b k d) M (Spec.weight_sum_ne a0 a1 a2 a3 b h q)]
  refine Finset.sum_congr rfl fun k _ => ?_
  rw [prob_at, h2]
  simp only [wt_at, hM]

/-- The reference's result. -/
theorem out_val (x : Fin 65536) (y : Fin 1024) : res A2 A4 (prob (wt (masked (scores A0 A1 A2 A3)))) (ix2 x y)
    = Spec.out a0 a1 a2 a3 (fun d h v => A4 (ix3 d h v)) ⟨x.val / 8192, by omega⟩ ⟨y.val / 128, by omega⟩ ⟨x.val % 8192, by omega⟩ ⟨y.val % 128, by omega⟩ := by
  rw [res_at, Spec.out]
  exact Finset.sum_congr rfl fun d _ => by rw [mean_val (h0 := h0) (h1 := h1) (h2 := h2) (h3 := h3)]
end Cert.Proof.Ref
end
-- ==== Proof.Pre.lean ====
module

public import proofs.«01_k».proof.Pre_finite
public import proofs.«01_k».proof.Proof.Sums
public import Idealize.ShloMosaic.Lib.Pointwise

@[expose] public section
set_option maxRecDepth 16384

/-! What the precondition says of an argument: every entry is a real number. -/

noncomputable section
namespace Cert.Proof.Pre
open Cert.Pre_finite
open Idealize.ShloMosaic

theorem facts : Cert.Pre_finite.Facts where
  bcast_S_S8x8192x8x128 := by decide
  bcast_S_S8x8192x8x64 := by decide
  bcast_S_S8x8192x128 := by decide
  bcast_S_S8x8192x64 := by decide

theorem bits_top : Ideal.ofBits .f32 0x7F800000#32 = ⊤ := by
  simp [Ideal.ofBits, Ideal.ieee]

/-- A number whose magnitude is below infinity is real. -/
theorem real_of_lt (x : EReal) (h : Ideal.cmp .olt (max x (-x)) (Ideal.ofBits .f32 0x7F800000#32) = 1#1) : ∃ r : ℝ, x = r := by
  rw [bits_top] at h
  refine Sums.real_of ?_ ?_ <;> rintro rfl <;> simp [Ideal.cmp] at h

variable [Facts] {A0 : FVec Ideal S8x8192x8x128 .f32} {A1 : FVec Ideal S8x8192x8x64 .f32} {A2 : FVec Ideal S8x8192x128 .f32} {A3 : FVec Ideal S8x8192x64 .f32} {A4 : FVec Ideal S128x8x128 .f32}

theorem real0 (h : (fn A0 A1 A2 A3 A4).1 = fun _ => 1#1) (i) : ∃ r : ℝ, A0 i = r := real_of_lt _ (congrFun h i)
theorem real1 (h : (fn A0 A1 A2 A3 A4).2.1 = fun _ => 1#1) (i) : ∃ r : ℝ, A1 i = r := real_of_lt _ (congrFun h i)
theorem real2 (h : (fn A0 A1 A2 A3 A4).2.2.1 = fun _ => 1#1) (i) : ∃ r : ℝ, A2 i = r := real_of_lt _ (congrFun h i)
theorem real3 (h : (fn A0 A1 A2 A3 A4).2.2.2 = fun _ => 1#1) (i) : ∃ r : ℝ, A3 i = r := real_of_lt _ (congrFun h i)

end Cert.Proof.Pre
end
-- ==== Proof.Alg.lean ====
module

public import proofs.«01_k».proof.Defs
public import proofs.«01_k».proof.Proof.Arr
public import proofs.«01_k».proof.Proof.RefVal
public import proofs.«01_k».proof.Proof.Pre

@[expose] public section
set_option maxRecDepth 16384

/-! The kernel and the reference both end at the attention. -/

noncomputable section
namespace Cert.Proof
open Idealize.ShloMosaic Idealize.ShloMosaic.TcCoe Idealize.SL.Sem

attribute [local instance] Pre.facts

/-- The reference's result array, its arguments real. -/
theorem ref_val (V : Valuation Cert.ReferenceIdeal.τ Cert.ReferenceIdeal.sig (Elt Ideal))
    {a0 : Fin 8 → Fin 8192 → Fin 8 → Fin 128 → ℝ} {a1 : Fin 8 → Fin 8192 → Fin 8 → Fin 64 → ℝ}
    {a2 : Fin 8 → Fin 8192 → Fin 128 → ℝ} {a3 : Fin 8 → Fin 8192 → Fin 64 → ℝ} (A4 : Vec Ideal Cert.KernelIdeal.S128x8x128 .f32)
    (h0 : ∀ b q h k, V (Cert.ReferenceIdeal.main_arg0 : DevRef Cert.ReferenceIdeal.τ Cert.ReferenceIdeal.sig) (ix4 b q h k) = (a0 b q h k : EReal))
    (h1 : ∀ b q h k, V (Cert.ReferenceIdeal.main_arg1 : DevRef Cert.ReferenceIdeal.τ Cert.ReferenceIdeal.sig) (ix4 b q h k) = (a1 b q h k : EReal))
    (h2 : ∀ b k d, V (Cert.ReferenceIdeal.main_arg2 : DevRef Cert.ReferenceIdeal.τ Cert.ReferenceIdeal.sig) (ix3 b k d) = (a2 b k d : EReal))
    (h3 : ∀ b k d, V (Cert.ReferenceIdeal.main_arg3 : DevRef Cert.ReferenceIdeal.τ Cert.ReferenceIdeal.sig) (ix3 b k d) = (a3 b k d : EReal))
    (h4 : V (Cert.ReferenceIdeal.main_arg4 : DevRef Cert.ReferenceIdeal.τ Cert.ReferenceIdeal.sig) = A4) :
    StableHlo.after Ref.ops V (Cert.ReferenceIdeal.main_v30 : DevRef Cert.ReferenceIdeal.τ Cert.ReferenceIdeal.sig) = Attn.result a0 a1 a2 a3 A4 := by
  rw [Ref.end_eq]
  funext i
  obtain ⟨x, y, rfl⟩ : ∃ (x : Fin 65536) (y : Fin 1024), i = ix2 x y := ⟨⟨(i 0).val, (i 0).isLt⟩, ⟨(i 1).val, (i 1).isLt⟩, by
    funext a
    match a with
    | ⟨0, _⟩ => rfl
    | ⟨1, _⟩ => rfl⟩
  rw [h4]
  exact Ref.out_val A4 h0 h1 h2 h3 x y

/-- The kernel's result array, its arguments real. -/
theorem ker_val (m : (ℓ : Loc Cert.KernelIdeal.nD Cert.KernelIdeal.τ Cert.KernelIdeal.sig) → Buf (Elt Ideal) ℓ)
    {r : PUnit × MemSt Cert.KernelIdeal.nD Cert.KernelIdeal.τ Cert.KernelIdeal.sig (Elt Ideal)}
    (h : Pipeline.FramePost Cert.KernelIdeal.cfgs (Attn.dats m) 0 (Cert.KernelIdeal.Gen.V m) r) (c : Dev Cert.KernelIdeal.nD) :
    r.2.mem ((c.tc : Thread Cert.KernelIdeal.nD Cert.KernelIdeal.τ).loc Cert.KernelIdeal.main_v21) = (Attn.dats m 0 c).arrAt 4 Cert.KernelIdeal.cfg0.N :=
  (h c).1 4

theorem algebraic : Cert.algebraic_KernelIdeal_ReferenceIdeal_pre_finite := by
  intro m g m' g' hpre hagree
  choose r0 e0 using fun c => Pre.real0 (hpre c).1
  choose r1 e1 using fun c => Pre.real1 (hpre c).2.1
  choose r2 e2 using fun c => Pre.real2 (hpre c).2.2.1
  choose r3 e3 using fun c => Pre.real3 (hpre c).2.2.2
  refine ⟨fun c => Attn.result (fun b q h k => r0 c (ix4 b q h k)) (fun b q h k => r1 c (ix4 b q h k)) (fun b k d => r2 c (ix3 b k d))
    (fun b k d => r3 c (ix3 b k d)) (m ((c.tc : Thread Cert.KernelIdeal.nD Cert.KernelIdeal.τ).loc Cert.KernelIdeal.main_arg4)), ?_, ?_⟩
  · exact (θ_run Cert.KernelIdeal.defs _ _).mono (fun r h c => ⟨(ker_val m h.1 c).trans (Attn.arr_val (fun _ _ _ _ => e0 c _) (fun _ _ _ _ => e1 c _)
      (fun _ _ _ => e2 c _) (fun _ _ _ => e3 c _)), Attn.args_end m h.1 c⟩) (Attn.run_main m g)
  · refine (θ_run Cert.ReferenceIdeal.defs _ _).mono (fun r h c => ⟨(h c Cert.ReferenceIdeal.main_v30).trans ?_,
      (h c _).trans (Ref.arg_eq _ _ (by simp)), (h c _).trans (Ref.arg_eq _ _ (by simp)), (h c _).trans (Ref.arg_eq _ _ (by simp)),
      (h c _).trans (Ref.arg_eq _ _ (by simp)), (h c _).trans (Ref.arg_eq _ _ (by simp))⟩) (Ref.run_main (F := Ideal) m' g')
    obtain ⟨q0, q1, q2, q3, q4⟩ := hagree c
    exact ref_val _ _ (fun _ _ _ _ => (congrFun q0 _).trans (e0 c _)) (fun _ _ _ _ => (congrFun q1 _).trans (e1 c _))
      (fun _ _ _ => (congrFun q2 _).trans (e2 c _)) (fun _ _ _ => (congrFun q3 _).trans (e3 c _)) q4

end Cert.Proof
end
-- ==== Proof.InNum.lean ====
module

public import proofs.«01_k».proof.Proof.Sums

@[expose] public section

/-! Numbers for the projections: the normalized input is always real, the two halves of a number that is its own
    first half, and the two spellings of the logarithm of the sigmoid. -/

noncomputable section
namespace Cert.Proof.In
open Idealize.ShloMosaic

theorem lit_n : Ideal.ofBits .f32 0x44800000#32 = ((1024 : ℝ) : EReal) := by
  simp [Ideal.ofBits, Ideal.ieee]
  norm_num
  rw [← EReal.coe_mul]
  norm_num
theorem lit_eps : Ideal.ofBits .f32 0x358637BD#32 = ((8796093 / 2 ^ 43 : ℝ) : EReal) := by
  simp [Ideal.ofBits, Ideal.ieee]
  norm_num
  rw [← EReal.coe_mul]
  norm_num
theorem lit_16 : Ideal.ofBits .f32 0x41800000#32 = ((16 : ℝ) : EReal) := by
  simp [Ideal.ofBits, Ideal.ieee]
  norm_num
  rw [← EReal.coe_mul]
  norm_num
theorem lit_16i : Ideal.ofBits .f32 0x3D800000#32 = ((1 / 16 : ℝ) : EReal) := by
  simp [Ideal.ofBits, Ideal.ieee]
  norm_num
  rw [← EReal.coe_mul]
  norm_num

/-- A row of the input, normalized and scaled. -/
def norm (x n : Fin 1024 → EReal) (d : Fin 1024) : EReal :=
  x d * Ideal.rsqrt (Ideal.div (∑ k : Fin 1024, x k * x k) (Ideal.ofBits .f32 0x44800000#32) + Ideal.ofBits .f32 0x358637BD#32) * n d

theorem sq_nonneg (x : EReal) : 0 ≤ x * x := by
  induction x with
  | bot => simp
  | top => simp
  | coe r => exact_mod_cast mul_self_nonneg r

/-- Over one scaled by a real, the normalized row is real, whatever the row holds. -/
theorem norm_real (x n : Fin 1024 → EReal) (hn : ∀ d, ∃ r : ℝ, n d = r) (d : Fin 1024) : ∃ r : ℝ, norm x n d = r := by
  obtain ⟨s, hs⟩ := hn d
  rw [norm, hs, lit_n, lit_eps]
  by_cases h : ∀ k, ∃ r : ℝ, x k = r
  · choose r hr using h
    have e : (∑ k : Fin 1024, x k * x k) = ((∑ k : Fin 1024, r k * r k : ℝ) : EReal) := by
      rw [Sums.coe_sum]
      exact Finset.sum_congr rfl fun k _ => by rw [hr, EReal.coe_mul]
    have h0 : 0 ≤ ∑ k : Fin 1024, r k * r k := Finset.sum_nonneg fun k _ => mul_self_nonneg _
    have h1 : 0 < (∑ k : Fin 1024, r k * r k) / 1024 + 8796093 / 2 ^ 43 := by positivity
    rw [e, Sums.div_coe _ _ (by norm_num), ← EReal.coe_add, hr]
    have e2 : ∀ y : ℝ, 0 < y → Ideal.rsqrt (y : EReal) = (((Real.sqrt y)⁻¹ : ℝ) : EReal) := fun y hy => by
      show (if y < 0 then (⊥ : EReal) else if y = 0 then ⊤ else _) = _
      rw [if_neg (not_lt.mpr hy.le), if_neg hy.ne']
    rw [e2 _ h1]
    exact ⟨_, by rw [← EReal.coe_mul, ← EReal.coe_mul]⟩
  · have ⟨k, hk⟩ := not_forall.mp h
    have hk2 : x k * x k = ⊤ := by
      revert hk
      induction x k with
      | bot => simp
      | top => simp
      | coe r => exact fun hk => absurd ⟨r, rfl⟩ hk
    have e : (∑ k : Fin 1024, x k * x k) = ⊤ := top_le_iff.mp (hk2 ▸ Finset.single_le_sum (f := fun k => x k * x k) (fun k _ => sq_nonneg _) (Finset.mem_univ k))
    have e3 : Ideal.div ⊤ ((1024 : ℝ) : EReal) = ⊤ := by
      rw [Ideal.div, if_neg (by norm_num), ← EReal.coe_inv, EReal.top_mul_coe_of_pos (by norm_num)]
    refine ⟨0, ?_⟩
    rw [e, e3, EReal.top_add_coe]
    show x d * 0 * _ = _
    rw [mul_zero, zero_mul]
    rfl

/-- A product taken in two halves of each factor, over real factors, is the product. -/
theorem halves (a g : Fin 128 → ℝ) (hg : ∀ k : Fin 128, 16 ≤ k.val → g k = 0) :
    (∑ k : Fin 128, (a k : EReal) * (g k : EReal)) + (∑ k : Fin 128, (a k : EReal) * ((g k : EReal) - (g k : EReal)))
        + ∑ k : Fin 128, ((a k : EReal) - (a k : EReal)) * (g k : EReal)
      = ∑ k : Fin 16, (a ⟨k.val, by omega⟩ : EReal) * (g ⟨k.val, by omega⟩ : EReal) := by
  have s : ∀ r : ℝ, (r : EReal) - (r : EReal) = 0 := fun r => by rw [← EReal.coe_sub, sub_self]; rfl
  simp only [s, mul_zero, zero_mul, Finset.sum_const_zero, add_zero]
  rw [Fin.sum_univ_add (a := 16) (b := 112)]
  rw [Finset.sum_eq_zero (s := (Finset.univ : Finset (Fin 112))) fun k _ => by
    rw [hg _ (by simp)]; exact mul_zero _, add_zero]
  rfl

theorem coe_max (a b : ℝ) : ((max a b : ℝ) : EReal) = max (a : EReal) (b : EReal) := EReal.coe_strictMono.monotone.map_max
theorem coe_min (a b : ℝ) : ((min a b : ℝ) : EReal) = min (a : EReal) (b : EReal) := EReal.coe_strictMono.monotone.map_min

/-- The two spellings of the logarithm of the sigmoid, a sixteenth of it. -/
theorem gate_eq (z : EReal) :
    (min z 0 - Ideal.log1p (Ideal.exp (0 - max z (-z)))) * Ideal.ofBits .f32 0x3D800000#32
      = Ideal.div (-(max (-z) 0 + Ideal.log1p (Ideal.exp (-(max (-z) (- -z)))))) (Ideal.ofBits .f32 0x41800000#32) := by
  have l0 : Ideal.log1p 0 = 0 := by
    show Ideal.log (1 + 0) = 0
    rw [add_zero]
    show (if (1 : ℝ) ≤ 0 then (⊥ : EReal) else (Real.log 1 : EReal)) = 0
    rw [if_neg (by norm_num), Real.log_one]; rfl
  have hdiv : ∀ x : EReal, Ideal.div x ((16 : ℝ) : EReal) = x * ((1 / 16 : ℝ) : EReal) := fun x => by
    rw [Ideal.div, if_neg (by norm_num), ← EReal.coe_inv, one_div]
  rw [lit_16, lit_16i, hdiv]
  congr 1
  induction z with
  | bot => simp [Sums.exp_bot, l0]
  | top => simp [Sums.exp_bot, l0]
  | coe r =>
    have hl : ∃ L : ℝ, Ideal.log1p (Ideal.exp (-((max r (-r) : ℝ) : EReal))) = L := by
      rw [← EReal.coe_neg, Sums.exp_coe]
      refine ⟨Real.log (1 + Real.exp (-max r (-r))), ?_⟩
      show Ideal.log (((1 : ℝ) : EReal) + _) = _
      rw [← EReal.coe_add]
      show (if _ ≤ (0 : ℝ) then (⊥ : EReal) else _) = _
      rw [if_neg (not_le.mpr (by positivity))]
    obtain ⟨L, hL⟩ := hl
    have e1 : max (-(r : EReal)) (- -(r : EReal)) = ((max r (-r) : ℝ) : EReal) := by
      rw [neg_neg, max_comm, coe_max, EReal.coe_neg]
    have e2 : max (r : EReal) (-(r : EReal)) = ((max r (-r) : ℝ) : EReal) := by rw [coe_max, EReal.coe_neg]
    rw [e1, e2, zero_sub, hL, ← EReal.coe_zero, ← EReal.coe_neg, ← coe_max, ← coe_min, ← EReal.coe_add, ← EReal.coe_neg, ← EReal.coe_sub]
    congr 1
    rcases le_total r 0 with h | h
    · rw [min_eq_left h, max_eq_left (by linarith)]; ring
    · rw [min_eq_right h, max_eq_right (by linarith)]; ring

end Cert.Proof.In
end
-- ==== Proof.InAt.lean ====
module

public import proofs.«01_k».proof.Proof.Gen.Kernel2Ideal.Frame
public import proofs.«01_k».proof.Proof.InNum
public import Idealize.ShloMosaic.Lib.Pointwise
public import Idealize.ShloMosaic.Lib.StableHlo.RunRead

@[expose] public section
set_option maxRecDepth 16384

/-! What the projections' kernel computes at one index, and the arrays it is launched on. -/

noncomputable section
namespace Cert.Proof.In
open Cert.Kernel2Ideal Cert.Kernel2Ideal.Gen
open Idealize.ShloMosaic Idealize.ShloMosaic.TcCoe Idealize.ShloMosaic.StableHlo

section body
variable (x : Vec Ideal S512x1024 .f32) (n : Vec Ideal S1x1024 .f32) (h : Vec Ideal S512x1024 .bf16) (r : Fin 512) (d : Fin 1024)

theorem norm_at : k0_pay1 x n (ix2 r d) = norm (fun k => x (ix2 r k)) (fun k => n (ix2 0 k)) d := by
  unfold norm
  pointwise [k0_pay1]
theorem q_at (w : Vec Ideal S1024x512 .bf16) (j : Fin 512) :
    k0_pay4 h w (ix2 r j) = (∑ d : Fin 1024, h (ix2 r d) * w (ix2 d j)) * Ideal.ofBits .f32 0x3DB504F3#32 := by
  pointwise [k0_pay4]
theorem k_at (w : Vec Ideal S1024x512 .bf16) (j : Fin 512) :
    k0_pay5 h w (ix2 r j) = ∑ d : Fin 1024, h (ix2 r d) * w (ix2 d j) := by
  pointwise [k0_pay5]
theorem v_at (w : Vec Ideal S1024x1024 .bf16) (j : Fin 1024) :
    k0_pay6 h w (ix2 r j) = ∑ d : Fin 1024, h (ix2 r d) * w (ix2 d j) := by
  pointwise [k0_pay6]
theorem r_at (w : Vec Ideal S1024x1024 .bf16) (j : Fin 1024) :
    k0_pay7 h w (ix2 r j) = ∑ d : Fin 1024, h (ix2 r d) * w (ix2 d j) := by
  pointwise [k0_pay7]
theorem la_at (z : Vec Ideal S512x512 .f32) (j : Fin 512) :
    k0_pay3 (F := Ideal) z (ix2 r j) = (min (z (ix2 r j)) 0 - Ideal.log1p (Ideal.exp (0 - max (z (ix2 r j)) (-z (ix2 r j))))) * Ideal.ofBits .f32 0x3D800000#32 := by
  pointwise [k0_pay3]
  rfl
theorem z_at (wa : Vec Ideal S1024x128 .bf16) (gh gl gh2 : Vec Ideal S128x512 .bf16) (b : Vec Ideal S1x512 .f32) (j : Fin 512) :
    k0_pay2 x n wa gh gl gh2 b (ix2 r j) = (∑ k : Fin 128, (∑ d : Fin 1024, k0_pay1 x n (ix2 r d) * wa (ix2 d k)) * gh (ix2 k j))
      + (∑ k : Fin 128, (∑ d : Fin 1024, k0_pay1 x n (ix2 r d) * wa (ix2 d k)) * gl (ix2 k j))
      + (∑ k : Fin 128, ((∑ d : Fin 1024, k0_pay1 x n (ix2 r d) * wa (ix2 d k)) - (∑ d : Fin 1024, k0_pay1 x n (ix2 r d) * wa (ix2 d k))) * gh2 (ix2 k j))
      + b (ix2 0 j) := by
  generalize hh : k0_pay1 x n = h
  unfold k0_pay2
  rw [hh]
  pointwise
end body

variable (m : (ℓ : Loc nD τ sig) → Buf (Elt Ideal) ℓ) (c : Dev nD)

theorem V_n (d : Fin 1024) : V m c main_v16 (ix2 0 d) = m (c, (main_arg1 : DevRef τ sig)) (ix1 d) := by
  simp only [V, hostOps0, hostOps0_1, hostOps0_2, hostOps0_3, hostOps0_4, List.flatten_cons, List.flatten_nil, List.append_nil, List.cons_append, List.nil_append]
  after_results
  pointwise
theorem V_b (j : Fin 512) : V m c main_v17 (ix2 0 j) = m (c, (main_arg4 : DevRef τ sig)) (ix1 j) := by
  simp only [V, hostOps0, hostOps0_1, hostOps0_2, hostOps0_3, hostOps0_4, List.flatten_cons, List.flatten_nil, List.append_nil, List.cons_append, List.nil_append]
  after_results
  pointwise
theorem V_wq (d : Fin 1024) (j : Fin 512) : V m c main_v1 (ix2 d j) = m (c, (main_arg2 : DevRef τ sig)) (ix2 d ⟨j.val, by omega⟩) := by
  simp only [V, hostOps0, hostOps0_1, hostOps0_2, hostOps0_3, hostOps0_4, List.flatten_cons, List.flatten_nil, List.append_nil, List.cons_append, List.nil_append]
  after_results
  pointwise
theorem V_wk (d : Fin 1024) (j : Fin 512) : V m c main_v3 (ix2 d j) = m (c, (main_arg2 : DevRef τ sig)) (ix2 d ⟨512 + j.val, by omega⟩) := by
  simp only [V, hostOps0, hostOps0_1, hostOps0_2, hostOps0_3, hostOps0_4, List.flatten_cons, List.flatten_nil, List.append_nil, List.cons_append, List.nil_append]
  after_results
  pointwise
theorem V_wv (d : Fin 1024) (j : Fin 1024) : V m c main_v5 (ix2 d j) = m (c, (main_arg2 : DevRef τ sig)) (ix2 d ⟨1024 + j.val, by omega⟩) := by
  simp only [V, hostOps0, hostOps0_1, hostOps0_2, hostOps0_3, hostOps0_4, List.flatten_cons, List.flatten_nil, List.append_nil, List.cons_append, List.nil_append]
  after_results
  pointwise
theorem V_wr (d : Fin 1024) (j : Fin 1024) : V m c main_v10 (ix2 d j) = m (c, (main_arg2 : DevRef τ sig)) (ix2 d ⟨2064 + j.val, by omega⟩) := by
  simp only [V, hostOps0, hostOps0_1, hostOps0_2, hostOps0_3, hostOps0_4, List.flatten_cons, List.flatten_nil, List.append_nil, List.cons_append, List.nil_append]
  after_results
  pointwise
/-- The gate's columns, zeros beside them. -/
def waArr (A2 : Vec Ideal S1024x3088 .f32) : FVec Ideal S1024x128 .bf16 :=
  truncf .bf16 (pad S1024x128 ![0, 0] ![0, 112] ![0, 0] (extractStridedSlice S1024x16 ![0, 2048] A2 slices_S1024x3088_S1024x16_0_2048 : Vec Ideal S1024x16 .f32)
    (sitofp .f32 (constantI S_ 32 0#32) : FVec Ideal S_ .f32) pads_S1024x16_S1024x128_000_01120 h_S_ : FVec Ideal S1024x128 .f32) bitsLt_bf16_f32
/-- The gate's second matrix, zeros below it. -/
def ghArr (A3 : Vec Ideal S16x512 .f32) : FVec Ideal S128x512 .f32 :=
  pad S128x512 ![0, 0] ![112, 0] ![0, 0] A3 (sitofp .f32 (constantI S_ 32 0#32) : FVec Ideal S_ .f32) pads_S16x512_S128x512_01120_000 h_S_
theorem pad0 : FloatOps.sitofp (F := Ideal) .f32 (0#32) = (0 : EReal) := by
  show ((((0#32).toInt : ℤ) : ℝ) : EReal) = 0
  simp
theorem waArr_at (A2 : Vec Ideal S1024x3088 .f32) (d : Fin 1024) (k : Fin 128) :
    waArr A2 (ix2 d k) = if h : k.val < 16 then A2 (ix2 d ⟨2048 + k.val, by omega⟩) else 0 := by
  pointwise [waArr]
  rw [pad0]
theorem ghArr_at (A3 : Vec Ideal S16x512 .f32) (k : Fin 128) (j : Fin 512) :
    ghArr A3 (ix2 k j) = if h : k.val < 16 then A3 (ix2 ⟨k.val, h⟩ j) else 0 := by
  pointwise [ghArr]
  rw [pad0]
theorem V_wa : V m c main_v8 = waArr (m (c, (main_arg2 : DevRef τ sig))) := by
  simp only [V, hostOps0, hostOps0_1, hostOps0_2, hostOps0_3, hostOps0_4, List.flatten_cons, List.flatten_nil, List.append_nil, List.cons_append, List.nil_append]
  after_results
  rfl
theorem V_gh : V m c main_v12 = ghArr (m (c, (main_arg3 : DevRef τ sig))) := by
  simp only [V, hostOps0, hostOps0_1, hostOps0_2, hostOps0_3, hostOps0_4, List.flatten_cons, List.flatten_nil, List.append_nil, List.cons_append, List.nil_append]
  after_results
  rfl
theorem V_gl : V m c main_v15 = fun i => ghArr (m (c, (main_arg3 : DevRef τ sig))) i - ghArr (m (c, (main_arg3 : DevRef τ sig))) i := by
  simp only [V, hostOps0, hostOps0_1, hostOps0_2, hostOps0_3, hostOps0_4, List.flatten_cons, List.flatten_nil, List.append_nil, List.cons_append, List.nil_append]
  after_results
  rfl
end Cert.Proof.In
end
-- ==== Proof.InArr.lean ====
module

public import proofs.«01_k».proof.Proof.InAt
public import Idealize.ShloMosaic.Lib.Pipeline.ValueKit
public import Idealize.ShloMosaic.Lib.Pipeline.Covers

@[expose] public section
set_option maxRecDepth 16384

/-! The projections' result arrays, as functions of the arguments. -/

noncomputable section
namespace Cert.Proof.In
open Cert.Kernel2Ideal Cert.Kernel2Ideal.Gen
open Idealize.ShloMosaic Idealize.ShloMosaic.TcCoe Idealize.SL.Sem

section spec
variable (A0 : Vec Ideal S65536x1024 .f32) (A1 : Vec Ideal S1024 .f32) (A2 : Vec Ideal S1024x3088 .f32) (A3 : Vec Ideal S16x512 .f32) (A4 : Vec Ideal S512 .f32)
/-- One projection of one row. -/
def projAt (t : Fin 65536) (j : Fin 3088) : EReal := ∑ d : Fin 1024, norm (fun k => A0 (ix2 t k)) (fun k => A1 (ix1 k)) d * A2 (ix2 d j)
/-- What the gate's sigmoid is taken of. -/
def scoreAt (t : Fin 65536) (j : Fin 512) : EReal := (∑ k : Fin 16, projAt A0 A1 A2 t ⟨2048 + k.val, by omega⟩ * A3 (ix2 k j)) + A4 (ix1 j)
/-- The logarithm of the sigmoid, divided. -/
def gateAt (z : EReal) : EReal := Ideal.div (-(max (-z) 0 + Ideal.log1p (Ideal.exp (-(max (-z) (- -z)))))) (Ideal.ofBits .f32 0x41800000#32)
def qRes : Vec Ideal S65536x512 .f32 := fun y => projAt A0 A1 A2 ⟨(y 0).val, (y 0).isLt⟩ ⟨(y 1).val, (y 1).isLt.trans (by decide)⟩ * Ideal.ofBits .f32 0x3DB504F3#32
def kRes : Vec Ideal S65536x512 .f32 := fun y => projAt A0 A1 A2 ⟨(y 0).val, (y 0).isLt⟩ ⟨512 + (y 1).val, (Nat.add_lt_add_left (y 1).isLt 512).trans (by decide)⟩
def vRes : Vec Ideal S65536x1024 .bf16 := fun y => projAt A0 A1 A2 ⟨(y 0).val, (y 0).isLt⟩ ⟨1024 + (y 1).val, (Nat.add_lt_add_left (y 1).isLt 1024).trans (by decide)⟩
def rRes : Vec Ideal S65536x1024 .f32 := fun y => projAt A0 A1 A2 ⟨(y 0).val, (y 0).isLt⟩ ⟨2064 + (y 1).val, (Nat.add_lt_add_left (y 1).isLt 2064).trans_le (by decide)⟩
def laRes : Vec Ideal S65536x512 .f32 := fun y => gateAt (scoreAt A0 A1 A2 A3 A4 ⟨(y 0).val, (y 0).isLt⟩ ⟨(y 1).val, (y 1).isLt⟩)
end spec

variable (m : (ℓ : Loc nD τ sig) → Buf (Elt Ideal) ℓ) (c : Dev nD)

theorem idx_facts : ∀ t : Fin cfg0.N, win0_0.index t = ![(grid0.coords t 0).val, 0] ∧ win0_1.index t = ![0, 0] ∧ win0_2.index t = ![0, 0]
    ∧ win0_3.index t = ![0, 0] ∧ win0_4.index t = ![0, 0] ∧ win0_5.index t = ![0, 0] ∧ win0_6.index t = ![0, 0] ∧ win0_7.index t = ![0, 0]
    ∧ win0_8.index t = ![0, 0] ∧ win0_9.index t = ![0, 0] := by decide +kernel
theorem out_facts : ∀ t : Fin cfg0.N, win0_10.index t = ![(grid0.coords t 0).val, 0] ∧ win0_11.index t = ![(grid0.coords t 0).val, 0]
    ∧ win0_12.index t = ![(grid0.coords t 0).val, 0] ∧ win0_13.index t = ![(grid0.coords t 0).val, 0] ∧ win0_14.index t = ![(grid0.coords t 0).val, 0] := by decide +kernel

theorem blk_x (t : Fin cfg0.N) (r : Fin 512) (k : Fin 1024) (g : Fin 65536) (hg : g.val = (grid0.coords t 0).val * 512 + r.val) :
    iblk m c 0 t (ix2 r k) = V m c main_arg0 (ix2 g k) := by
  have e := (idx_facts t).1
  generalize (grid0.coords t 0).val = b at e hg
  blk_ext [iblk, e]
theorem blk_n (t : Fin cfg0.N) (k : Fin 1024) : iblk m c 1 t (ix2 0 k) = V m c main_v16 (ix2 0 k) := by
  have e := (idx_facts t).2.1
  blk_ext [iblk, e]
theorem blk_wq (t : Fin cfg0.N) (d : Fin 1024) (j : Fin 512) : iblk m c 2 t (ix2 d j) = V m c main_v1 (ix2 d j) := by
  have e := (idx_facts t).2.2.1
  blk_ext [iblk, e]
theorem blk_wk (t : Fin cfg0.N) (d : Fin 1024) (j : Fin 512) : iblk m c 3 t (ix2 d j) = V m c main_v3 (ix2 d j) := by
  have e := (idx_facts t).2.2.2.1
  blk_ext [iblk, e]
theorem blk_wv (t : Fin cfg0.N) (d : Fin 1024) (j : Fin 1024) : iblk m c 4 t (ix2 d j) = V m c main_v5 (ix2 d j) := by
  have e := (idx_facts t).2.2.2.2.1
  blk_ext [iblk, e]
theorem blk_wr (t : Fin cfg0.N) (d : Fin 1024) (j : Fin 1024) : iblk m c 5 t (ix2 d j) = V m c main_v10 (ix2 d j) := by
  have e := (idx_facts t).2.2.2.2.2.1
  blk_ext [iblk, e]
theorem blk_wa (t : Fin cfg0.N) (d : Fin 1024) (k : Fin 128) : iblk m c 6 t (ix2 d k) = V m c main_v8 (ix2 d k) := by
  have e := (idx_facts t).2.2.2.2.2.2.1
  blk_ext [iblk, e]
theorem blk_gh (t : Fin cfg0.N) (k : Fin 128) (j : Fin 512) : iblk m c 7 t (ix2 k j) = V m c main_v12 (ix2 k j) := by
  have e := (idx_facts t).2.2.2.2.2.2.2.1
  blk_ext [iblk, e]
theorem blk_gl (t : Fin cfg0.N) (k : Fin 128) (j : Fin 512) : iblk m c 8 t (ix2 k j) = V m c main_v15 (ix2 k j) := by
  have e := (idx_facts t).2.2.2.2.2.2.2.2.1
  blk_ext [iblk, e]
theorem blk_b (t : Fin cfg0.N) (j : Fin 512) : iblk m c 9 t (ix2 0 j) = V m c main_v17 (ix2 0 j) := by
  have e := (idx_facts t).2.2.2.2.2.2.2.2.2
  blk_ext [iblk, e]

/-- The normalized rows of a grid point's block. -/
theorem norm_blk (t : Fin cfg0.N) (r : Fin 512) (d : Fin 1024) (g : Fin 65536) (hg : g.val = (grid0.coords t 0).val * 512 + r.val) :
    k0_pay1 (F := Ideal) (iblk m c 0 t) (iblk m c 1 t) (ix2 r d)
      = norm (fun k => m (c, (main_arg0 : DevRef τ sig)) (ix2 g k)) (fun k => m (c, (main_arg1 : DevRef τ sig)) (ix1 k)) d := by
  rw [norm_at]
  congr 1
  · funext k
    rw [blk_x m c t r k g hg]
    exact congrFun (V_main_arg0 m c) _
  · funext k
    rw [blk_n, V_n]

section out
variable (x0 : Vec Ideal S512x1024 .f32) (x1 : Vec Ideal S1x1024 .f32) (x2 x3 : Vec Ideal S1024x512 .bf16) (x4 x5 : Vec Ideal S1024x1024 .bf16) (x6 : Vec Ideal S1024x128 .bf16) (x7 x8 : Vec Ideal S128x512 .bf16) (x9 : Vec Ideal S1x512 .f32)
theorem zero2 : (![0, 0] : Fin 2 → Nat) = fun _ => 0 := by decide
theorem out_q : out0_10 x0 x1 x2 x3 x4 x5 x6 x7 x8 x9 = k0_pay4 (F := Ideal) (k0_pay1 x0 x1) x2 := by
  unfold out0_10 k0_pay8
  simp only [View.canon_unit_zero (S := S512x512) zero2, View.ld_unit_zero (S := S512x1024) zero2, View.ld_unit_zero (S := S1x1024) zero2, View.ld_unit_zero (S := S1024x512) zero2]
theorem out_k : out0_11 x0 x1 x2 x3 x4 x5 x6 x7 x8 x9 = k0_pay5 (F := Ideal) (k0_pay1 x0 x1) x3 := by
  unfold out0_11 k0_pay8
  simp only [View.canon_unit_zero (S := S512x512) zero2, View.ld_unit_zero (S := S512x1024) zero2, View.ld_unit_zero (S := S1x1024) zero2, View.ld_unit_zero (S := S1024x512) zero2]
theorem out_v : out0_12 x0 x1 x2 x3 x4 x5 x6 x7 x8 x9 = k0_pay6 (F := Ideal) (k0_pay1 x0 x1) x4 := by
  unfold out0_12 k0_pay8
  simp only [View.canon_unit_zero (S := S512x1024) zero2, View.ld_unit_zero (S := S512x1024) zero2, View.ld_unit_zero (S := S1x1024) zero2, View.ld_unit_zero (S := S1024x1024) zero2]
theorem out_r : out0_13 x0 x1 x2 x3 x4 x5 x6 x7 x8 x9 = k0_pay7 (F := Ideal) (k0_pay1 x0 x1) x5 := by
  unfold out0_13 k0_pay8
  simp only [View.canon_unit_zero (S := S512x1024) zero2, View.ld_unit_zero (S := S512x1024) zero2, View.ld_unit_zero (S := S1x1024) zero2, View.ld_unit_zero (S := S1024x1024) zero2]
theorem out_la : out0_14 x0 x1 x2 x3 x4 x5 x6 x7 x8 x9 = k0_pay3 (F := Ideal) (k0_pay2 x0 x1 x6 x7 x8 x7 x9) := by
  unfold out0_14
  simp only [View.canon_unit_zero (S := S512x512) zero2, View.ld_unit_zero (S := S512x1024) zero2, View.ld_unit_zero (S := S1x1024) zero2, View.ld_unit_zero (S := S1024x128) zero2, View.ld_unit_zero (S := S128x512) zero2, View.ld_unit_zero (S := S1x512) zero2]
end out

variable {m c}
theorem q_pt (t : Fin cfg0.N) (r : Fin 512) (j : Fin 512) (i : S65536x512.Idx) (p0 : (i 0).val = (grid0.coords t 0).val * 512 + r.val) (p1 : (i 1).val = j.val) :
    k0_pay4 (F := Ideal) (k0_pay1 (iblk m c 0 t) (iblk m c 1 t)) (iblk m c 2 t) (ix2 r j)
      = qRes (m (c, (main_arg0 : DevRef τ sig))) (m (c, (main_arg1 : DevRef τ sig))) (m (c, (main_arg2 : DevRef τ sig))) i := by
  rw [q_at, qRes, projAt]
  refine congrArg (· * _) (Finset.sum_congr rfl fun d _ => ?_)
  rw [norm_blk m c t r d ⟨(i 0).val, (i 0).isLt⟩ p0, blk_wq, V_wq]
  simp only [p1]
theorem k_pt (t : Fin cfg0.N) (r : Fin 512) (j : Fin 512) (i : S65536x512.Idx) (p0 : (i 0).val = (grid0.coords t 0).val * 512 + r.val) (p1 : (i 1).val = j.val) :
    k0_pay5 (F := Ideal) (k0_pay1 (iblk m c 0 t) (iblk m c 1 t)) (iblk m c 3 t) (ix2 r j)
      = kRes (m (c, (main_arg0 : DevRef τ sig))) (m (c, (main_arg1 : DevRef τ sig))) (m (c, (main_arg2 : DevRef τ sig))) i := by
  rw [k_at, kRes, projAt]
  refine Finset.sum_congr rfl fun d _ => ?_
  rw [norm_blk m c t r d ⟨(i 0).val, (i 0).isLt⟩ p0, blk_wk, V_wk]
  simp only [p1]
theorem v_pt (t : Fin cfg0.N) (r : Fin 512) (j : Fin 1024) (i : S65536x1024.Idx) (p0 : (i 0).val = (grid0.coords t 0).val * 512 + r.val) (p1 : (i 1).val = j.val) :
    k0_pay6 (F := Ideal) (k0_pay1 (iblk m c 0 t) (iblk m c 1 t)) (iblk m c 4 t) (ix2 r j)
      = vRes (m (c, (main_arg0 : DevRef τ sig))) (m (c, (main_arg1 : DevRef τ sig))) (m (c, (main_arg2 : DevRef τ sig))) i := by
  rw [v_at, vRes, projAt]
  refine Finset.sum_congr rfl fun d _ => ?_
  rw [norm_blk m c t r d ⟨(i 0).val, (i 0).isLt⟩ p0, blk_wv, V_wv]
  simp only [p1]
theorem r_pt (t : Fin cfg0.N) (r : Fin 512) (j : Fin 1024) (i : S65536x1024.Idx) (p0 : (i 0).val = (grid0.coords t 0).val * 512 + r.val) (p1 : (i 1).val = j.val) :
    k0_pay7 (F := Ideal) (k0_pay1 (iblk m c 0 t) (iblk m c 1 t)) (iblk m c 5 t) (ix2 r j)
      = rRes (m (c, (main_arg0 : DevRef τ sig))) (m (c, (main_arg1 : DevRef τ sig))) (m (c, (main_arg2 : DevRef τ sig))) i := by
  rw [r_at, rRes, projAt]
  refine Finset.sum_congr rfl fun d _ => ?_
  rw [norm_blk m c t r d ⟨(i 0).val, (i 0).isLt⟩ p0, blk_wr, V_wr]
  simp only [p1]

section gate
variable (h1 : ∀ k : Fin 1024, ∃ r : ℝ, m (c, (main_arg1 : DevRef τ sig)) (ix1 k) = (r : EReal))
  (h2 : ∀ (d : Fin 1024) (k : Fin 16), ∃ r : ℝ, m (c, (main_arg2 : DevRef τ sig)) (ix2 d ⟨2048 + k.val, by omega⟩) = (r : EReal))
  (h3 : ∀ (k : Fin 16) (j : Fin 512), ∃ r : ℝ, m (c, (main_arg3 : DevRef τ sig)) (ix2 k j) = (r : EReal))
include h1 h2 h3
theorem score_pt (t : Fin cfg0.N) (r : Fin 512) (j : Fin 512) (g : Fin 65536) (hg : g.val = (grid0.coords t 0).val * 512 + r.val) :
    k0_pay2 (F := Ideal) (iblk m c 0 t) (iblk m c 1 t) (iblk m c 6 t) (iblk m c 7 t) (iblk m c 8 t) (iblk m c 7 t) (iblk m c 9 t) (ix2 r j)
      = scoreAt (m (c, (main_arg0 : DevRef τ sig))) (m (c, (main_arg1 : DevRef τ sig))) (m (c, (main_arg2 : DevRef τ sig))) (m (c, (main_arg3 : DevRef τ sig)))
          (m (c, (main_arg4 : DevRef τ sig))) g j := by
  have hn := norm_real (fun k => m (c, (main_arg0 : DevRef τ sig)) (ix2 g k)) (fun k => m (c, (main_arg1 : DevRef τ sig)) (ix1 k)) h1
  have hw : ∀ (d : Fin 1024) (k : Fin 128), ∃ w : ℝ, waArr (m (c, (main_arg2 : DevRef τ sig))) (ix2 d k) = (w : EReal) := fun d k => by
    rw [waArr_at]
    by_cases hk : k.val < 16
    · rw [dif_pos hk]; exact h2 d ⟨k.val, hk⟩
    · rw [dif_neg hk]; exact ⟨0, rfl⟩
  have hz : ∀ k : Fin 128, ∃ w : ℝ, ghArr (m (c, (main_arg3 : DevRef τ sig))) (ix2 k j) = (w : EReal) := fun k => by
    rw [ghArr_at]
    by_cases hk : k.val < 16
    · rw [dif_pos hk]; exact h3 ⟨k.val, hk⟩ j
    · rw [dif_neg hk]; exact ⟨0, rfl⟩
  have ea : ∀ k : Fin 128, (∑ d : Fin 1024, k0_pay1 (F := Ideal) (iblk m c 0 t) (iblk m c 1 t) (ix2 r d) * (iblk m c 6 t : Vec Ideal S1024x128 .bf16) (ix2 d k))
      = ∑ d : Fin 1024, norm (fun k => m (c, (main_arg0 : DevRef τ sig)) (ix2 g k)) (fun k => m (c, (main_arg1 : DevRef τ sig)) (ix1 k)) d
          * waArr (m (c, (main_arg2 : DevRef τ sig))) (ix2 d k) := fun k =>
    Finset.sum_congr rfl fun d _ => by rw [norm_blk m c t r d g hg, blk_wa, V_wa]
  choose s hs using hn
  choose w hw using hw
  choose z hz using hz
  have er : ∀ k : Fin 128, (∑ d : Fin 1024, norm (fun k => m (c, (main_arg0 : DevRef τ sig)) (ix2 g k)) (fun k => m (c, (main_arg1 : DevRef τ sig)) (ix1 k)) d
          * waArr (m (c, (main_arg2 : DevRef τ sig))) (ix2 d k)) = ((∑ d : Fin 1024, s d * w d k : ℝ) : EReal) := fun k => by
    rw [Sums.coe_sum]
    exact Finset.sum_congr rfl fun d _ => by rw [hs, hw, EReal.coe_mul]
  have eh : ∀ k : Fin 128, (iblk m c 7 t : Vec Ideal S128x512 .bf16) (ix2 k j) = (z k : EReal) := fun k => by rw [blk_gh, V_gh]; exact hz k
  have el : ∀ k : Fin 128, (iblk m c 8 t : Vec Ideal S128x512 .bf16) (ix2 k j) = (z k : EReal) - (z k : EReal) := fun k => by
    rw [blk_gl, V_gl, ← hz k]
  have eb : (iblk m c 9 t : Vec Ideal S1x512 .f32) (ix2 0 j) = m (c, (main_arg4 : DevRef τ sig)) (ix1 j) := by rw [blk_b, V_b]
  rw [z_at]
  simp only [ea, er, eh, el, eb]
  rw [halves _ z fun k hk => by
    have := hz k
    rw [ghArr_at, dif_neg (by omega)] at this
    exact (EReal.coe_eq_zero.mp this.symm)]
  unfold scoreAt projAt
  refine congrArg (· + _) (Finset.sum_congr rfl fun k _ => ?_)
  rw [← hz, ← er, ghArr_at, dif_pos k.isLt]
  refine congrArg (· * _) (Finset.sum_congr rfl fun d _ => ?_)
  rw [waArr_at, dif_pos k.isLt]
theorem la_pt (t : Fin cfg0.N) (r : Fin 512) (j : Fin 512) (i : S65536x512.Idx) (p0 : (i 0).val = (grid0.coords t 0).val * 512 + r.val) (p1 : (i 1).val = j.val) :
    k0_pay3 (F := Ideal) (k0_pay2 (iblk m c 0 t) (iblk m c 1 t) (iblk m c 6 t) (iblk m c 7 t) (iblk m c 8 t) (iblk m c 7 t) (iblk m c 9 t)) (ix2 r j)
      = laRes (m (c, (main_arg0 : DevRef τ sig))) (m (c, (main_arg1 : DevRef τ sig))) (m (c, (main_arg2 : DevRef τ sig))) (m (c, (main_arg3 : DevRef τ sig)))
          (m (c, (main_arg4 : DevRef τ sig))) i := by
  rw [la_at, gate_eq, score_pt h1 h2 h3 t r j ⟨(i 0).val, (i 0).isLt⟩ p0, laRes, gateAt]
  simp only [p1]
end gate

variable (m c)
theorem ix_eq {n k : ℕ} (y : (⟨2, ![n, k]⟩ : Shape).Idx) : y = ix2 ⟨(y 0).val, (y 0).isLt⟩ ⟨(y 1).val, (y 1).isLt⟩ := by
  funext a
  match a with
  | ⟨0, _⟩ => rfl
  | ⟨1, _⟩ => rfl

theorem arr_q : (dats m 0 c).arrAt 10 cfg0.N = qRes (m (c, (main_arg0 : DevRef τ sig))) (m (c, (main_arg1 : DevRef τ sig))) (m (c, (main_arg2 : DevRef τ sig))) := by
  refine (dats m 0 c).arrAt_eq_of_covers 10 _ (by decide +kernel) fun t hf y => ?_
  have e := (out_facts t).1
  have p0 : (((win0_10.blk t).view.emb y) 0 : ℕ) = (grid0.coords t 0).val * 512 + (y 0).val := by blk_simp [e]
  have p1 : (((win0_10.blk t).view.emb y) 1 : ℕ) = (y 1).val := by blk_simp [e]
  blk_simp
  rw [after0_10, out_q]
  exact (congrArg _ (ix_eq y)).trans (q_pt t ⟨(y 0).val, (y 0).isLt⟩ ⟨(y 1).val, (y 1).isLt⟩ _ p0 p1)
theorem arr_k : (dats m 0 c).arrAt 11 cfg0.N = kRes (m (c, (main_arg0 : DevRef τ sig))) (m (c, (main_arg1 : DevRef τ sig))) (m (c, (main_arg2 : DevRef τ sig))) := by
  refine (dats m 0 c).arrAt_eq_of_covers 11 _ (by decide +kernel) fun t hf y => ?_
  have e := (out_facts t).2.1
  have p0 : (((win0_11.blk t).view.emb y) 0 : ℕ) = (grid0.coords t 0).val * 512 + (y 0).val := by blk_simp [e]
  have p1 : (((win0_11.blk t).view.emb y) 1 : ℕ) = (y 1).val := by blk_simp [e]
  blk_simp
  rw [after0_11, out_k]
  exact (congrArg _ (ix_eq y)).trans (k_pt t ⟨(y 0).val, (y 0).isLt⟩ ⟨(y 1).val, (y 1).isLt⟩ _ p0 p1)
theorem arr_v : (dats m 0 c).arrAt 12 cfg0.N = vRes (m (c, (main_arg0 : DevRef τ sig))) (m (c, (main_arg1 : DevRef τ sig))) (m (c, (main_arg2 : DevRef τ sig))) := by
  refine (dats m 0 c).arrAt_eq_of_covers 12 _ (by decide +kernel) fun t hf y => ?_
  have e := (out_facts t).2.2.1
  have p0 : (((win0_12.blk t).view.emb y) 0 : ℕ) = (grid0.coords t 0).val * 512 + (y 0).val := by blk_simp [e]
  have p1 : (((win0_12.blk t).view.emb y) 1 : ℕ) = (y 1).val := by blk_simp [e]
  blk_simp
  rw [after0_12, out_v]
  exact (congrArg _ (ix_eq y)).trans (v_pt t ⟨(y 0).val, (y 0).isLt⟩ ⟨(y 1).val, (y 1).isLt⟩ _ p0 p1)
theorem arr_r : (dats m 0 c).arrAt 13 cfg0.N = rRes (m (c, (main_arg0 : DevRef τ sig))) (m (c, (main_arg1 : DevRef τ sig))) (m (c, (main_arg2 : DevRef τ sig))) := by
  refine (dats m 0 c).arrAt_eq_of_covers 13 _ (by decide +kernel) fun t hf y => ?_
  have e := (out_facts t).2.2.2.1
  have p0 : (((win0_13.blk t).view.emb y) 0 : ℕ) = (grid0.coords t 0).val * 512 + (y 0).val := by blk_simp [e]
  have p1 : (((win0_13.blk t).view.emb y) 1 : ℕ) = (y 1).val := by blk_simp [e]
  blk_simp
  rw [after0_13, out_r]
  exact (congrArg _ (ix_eq y)).trans (r_pt t ⟨(y 0).val, (y 0).isLt⟩ ⟨(y 1).val, (y 1).isLt⟩ _ p0 p1)
theorem arr_la (h1 : ∀ k : Fin 1024, ∃ r : ℝ, m (c, (main_arg1 : DevRef τ sig)) (ix1 k) = (r : EReal))
    (h2 : ∀ (d : Fin 1024) (k : Fin 16), ∃ r : ℝ, m (c, (main_arg2 : DevRef τ sig)) (ix2 d ⟨2048 + k.val, by omega⟩) = (r : EReal))
    (h3 : ∀ (k : Fin 16) (j : Fin 512), ∃ r : ℝ, m (c, (main_arg3 : DevRef τ sig)) (ix2 k j) = (r : EReal)) :
    (dats m 0 c).arrAt 14 cfg0.N = laRes (m (c, (main_arg0 : DevRef τ sig))) (m (c, (main_arg1 : DevRef τ sig))) (m (c, (main_arg2 : DevRef τ sig)))
    (m (c, (main_arg3 : DevRef τ sig))) (m (c, (main_arg4 : DevRef τ sig))) := by
  refine (dats m 0 c).arrAt_eq_of_covers 14 _ (by decide +kernel) fun t hf y => ?_
  have e := (out_facts t).2.2.2.2
  have p0 : (((win0_14.blk t).view.emb y) 0 : ℕ) = (grid0.coords t 0).val * 512 + (y 0).val := by blk_simp [e]
  have p1 : (((win0_14.blk t).view.emb y) 1 : ℕ) = (y 1).val := by blk_simp [e]
  blk_simp
  rw [after0_14, out_la]
  exact (congrArg _ (ix_eq y)).trans (la_pt h1 h2 h3 t ⟨(y 0).val, (y 0).isLt⟩ ⟨(y 1).val, (y 1).isLt⟩ _ p0 p1)
end Cert.Proof.In
end
-- ==== Proof.InRef.lean ====
module

public import proofs.«01_k».proof.Proof.Gen.Reference2Ideal.Run
public import proofs.«01_k».proof.Proof.InNum
public import Idealize.ShloMosaic.Lib.Pointwise

@[expose] public section
set_option maxRecDepth 16384

/-! What the projections' reference computes at one index. -/

noncomputable section
namespace Cert.Proof.In.Ref
open Cert.Reference2Ideal Cert.Reference2Ideal.Gen
open Idealize.ShloMosaic Idealize.ShloMosaic.TcCoe Idealize.ShloMosaic.StableHlo

variable (A0 : Vec Ideal S65536x1024 .f32) (A1 : Vec Ideal S1024 .f32) (A2 : Vec Ideal S1024x3088 .f32) (A3 : Vec Ideal S16x512 .f32) (A4 : Vec Ideal S512 .f32)

/-- The input, normalized and scaled. -/
def normed : FVec Ideal S65536x1024 .f32 :=
  mulf (mulf A0 (broadcastInDim S65536x1024 ![0, 1] bcast_S65536x1_S65536x1024_0_1 (Host.rsqrt (addf (Host.divf (broadcastInDim S65536x1 ![0] bcast_S65536_S65536x1_0 (Host.reduceAdd (mulf A0 A0) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 A1))
/-- All the projections side by side. -/
def proj (h : FVec Ideal S65536x1024 .f32) : FVec Ideal S65536x3088 .f32 :=
  Host.dotGeneral (φ₁ := .f32) (φ₂ := .f32) dot_S65536x1024_S1024x3088_S65536x3088_1_0_0_1_n_n none h A2
/-- What the gate's sigmoid is taken of. -/
def score (p : FVec Ideal S65536x3088 .f32) : FVec Ideal S65536x512 .f32 :=
  addf (Host.dotGeneral (φ₁ := .f32) (φ₂ := .f32) dot_S65536x16_S16x512_S65536x512_1_0_0_1_n_n none (extractStridedSlice S65536x16 ![0, 2048] p slices_S65536x3088_S65536x16_0_2048) A3) (broadcastInDim S65536x512 ![0, 1] bcast_S1x512_S65536x512_0_1 (broadcastInDim S1x512 ![1] bcast_S512_S1x512_1 A4))
/-- The logarithm of the sigmoid, divided. -/
def gate (z : FVec Ideal S65536x512 .f32) : FVec Ideal S65536x512 .f32 :=
  Host.divf (Host.negf (select (cmpf .une (subf (Host.negf z) (broadcastInDim S65536x512 ![] bcast_S_S65536x512 (constant S_ .f32 0x00000000#32))) (subf (Host.negf z) (broadcastInDim S65536x512 ![] bcast_S_S65536x512 (constant S_ .f32 0x00000000#32)))) (addf (Host.negf z) (broadcastInDim S65536x512 ![] bcast_S_S65536x512 (constant S_ .f32 0x00000000#32))) (addf (maximumf (Host.negf z) (broadcastInDim S65536x512 ![] bcast_S_S65536x512 (constant S_ .f32 0x00000000#32))) (Host.log1p (Host.exp (Host.negf (Host.absf (subf (Host.negf z) (broadcastInDim S65536x512 ![] bcast_S_S65536x512 (constant S_ .f32 0x00000000#32)))))))))) (broadcastInDim S65536x512 ![] bcast_S_S65536x512 (constant S_ .f32 0x41800000#32))

variable (t : Fin 65536)
theorem normed_at (d : Fin 1024) : normed A0 A1 (ix2 t d) = norm (fun k => A0 (ix2 t k)) (fun k => A1 (ix1 k)) d := by
  unfold norm
  pointwise [normed]
variable (h : Vec Ideal S65536x1024 .f32) (p : Vec Ideal S65536x3088 .f32) (z : Vec Ideal S65536x512 .f32)
theorem proj_at (j : Fin 3088) : proj A2 h (ix2 t j) = ∑ d : Fin 1024, h (ix2 t d) * A2 (ix2 d j) := by
  pointwise [proj]
theorem score_at (j : Fin 512) : score A3 A4 p (ix2 t j) = (∑ k : Fin 16, p (ix2 t ⟨2048 + k.val, by omega⟩) * A3 (ix2 k j)) + A4 (ix1 j) := by
  pointwise [score]
theorem gate_at (j : Fin 512) : gate z (ix2 t j)
    = Ideal.div (-(max (-z (ix2 t j)) 0 + Ideal.log1p (Ideal.exp (-(max (-z (ix2 t j)) (- -z (ix2 t j))))))) (Ideal.ofBits .f32 0x41800000#32) := by
  have e : ∀ y : EReal, Ideal.cmp .une y y = 0#1 := fun y => by simp [Ideal.cmp]
  have a : ∀ y : EReal, FloatOps.absf (F := Ideal) (φ := .f32) y = max y (-y) := fun _ => rfl
  pointwise [gate]
  simp [e, a]
theorem q_at (j : Fin 512) : mulf (extractStridedSlice S65536x512 ![0, 0] p slices_S65536x3088_S65536x512_0_0) (broadcastInDim S65536x512 ![] bcast_S_S65536x512 (constant (F := Ideal) S_ .f32 0x3DB504F3#32)) (ix2 t j)
    = p (ix2 t ⟨j.val, by omega⟩) * Ideal.ofBits .f32 0x3DB504F3#32 := by
  pointwise
theorem k_at (j : Fin 512) : extractStridedSlice S65536x512 ![0, 512] p slices_S65536x3088_S65536x512_0_512 (ix2 t j) = p (ix2 t ⟨512 + j.val, by omega⟩) := by
  pointwise
theorem v_at (j : Fin 1024) : truncf (F := Ideal) .bf16 (extractStridedSlice S65536x1024 ![0, 1024] p slices_S65536x3088_S65536x1024_0_1024) bitsLt_bf16_f32 (ix2 t j) = p (ix2 t ⟨1024 + j.val, by omega⟩) := by
  pointwise
theorem r_at (j : Fin 1024) : extractStridedSlice S65536x1024 ![0, 2064] p slices_S65536x3088_S65536x1024_0_2064 (ix2 t j) = p (ix2 t ⟨2064 + j.val, by omega⟩) := by
  pointwise
end Cert.Proof.In.Ref
end
-- ==== Proof.InAlg.lean ====
module

public import proofs.«01_k».proof.Defs
public import proofs.«01_k».proof.Proof.InArr
public import proofs.«01_k».proof.Proof.InRef
public import proofs.«01_k».proof.Proof.Pre
public import proofs.«01_k».proof.Proof.Gen.Kernel2Ideal.Value
public import proofs.«01_k».proof.Proof.Gen.Pre_finite2

@[expose] public section
set_option maxRecDepth 16384

/-! The projections' kernel and reference end at the same arrays. -/

noncomputable section
namespace Cert.Proof.In
open Idealize.ShloMosaic Idealize.ShloMosaic.TcCoe Idealize.SL.Sem

section ref
open Cert.Reference2Ideal Cert.Reference2Ideal.Gen
variable (A0 : Vec Ideal S65536x1024 .f32) (A1 : Vec Ideal S1024 .f32) (A2 : Vec Ideal S1024x3088 .f32) (A3 : Vec Ideal S16x512 .f32) (A4 : Vec Ideal S512 .f32)
theorem proj_eq (t : Fin 65536) (j : Fin 3088) : Ref.proj A2 (Ref.normed A0 A1) (ix2 t j) = projAt A0 A1 A2 t j := by
  rw [Ref.proj_at, projAt]
  exact Finset.sum_congr rfl fun d _ => by rw [Ref.normed_at]
theorem ix_ex {n k : ℕ} (i : (⟨2, ![n, k]⟩ : Shape).Idx) : ∃ (x : Fin n) (y : Fin k), i = ix2 x y := ⟨_, _, ix_eq i⟩
theorem q_ref : mulf (extractStridedSlice S65536x512 ![0, 0] (Ref.proj A2 (Ref.normed A0 A1)) slices_S65536x3088_S65536x512_0_0)
    (broadcastInDim S65536x512 ![] bcast_S_S65536x512 (constant (F := Ideal) S_ .f32 0x3DB504F3#32)) = qRes A0 A1 A2 := by
  funext i
  obtain ⟨x, y, rfl⟩ := ix_ex i
  refine (Ref.q_at _ _ _).trans ?_
  rw [proj_eq]
  rfl
theorem k_ref : extractStridedSlice S65536x512 ![0, 512] (Ref.proj A2 (Ref.normed A0 A1)) slices_S65536x3088_S65536x512_0_512 = kRes A0 A1 A2 := by
  funext i
  obtain ⟨x, y, rfl⟩ := ix_ex i
  refine (Ref.k_at _ _ _).trans ?_
  rw [proj_eq]
  rfl
theorem v_ref : truncf (F := Ideal) .bf16 (extractStridedSlice S65536x1024 ![0, 1024] (Ref.proj A2 (Ref.normed A0 A1)) slices_S65536x3088_S65536x1024_0_1024) bitsLt_bf16_f32
    = vRes A0 A1 A2 := by
  funext i
  obtain ⟨x, y, rfl⟩ := ix_ex i
  refine (Ref.v_at _ _ _).trans ?_
  rw [proj_eq]
  rfl
theorem r_ref : extractStridedSlice S65536x1024 ![0, 2064] (Ref.proj A2 (Ref.normed A0 A1)) slices_S65536x3088_S65536x1024_0_2064 = rRes A0 A1 A2 := by
  funext i
  obtain ⟨x, y, rfl⟩ := ix_ex i
  refine (Ref.r_at _ _ _).trans ?_
  rw [proj_eq]
  rfl
theorem la_ref : Ref.gate (Ref.score A3 A4 (Ref.proj A2 (Ref.normed A0 A1))) = laRes A0 A1 A2 A3 A4 := by
  funext i
  obtain ⟨x, y, rfl⟩ := ix_ex i
  refine (Ref.gate_at _ _ _).trans ?_
  rw [Ref.score_at]
  simp only [proj_eq]
  rfl
end ref

theorem real1 {A0 A1 A2 A3 A4} (h : (Cert.Pre_finite2.fn (F := Ideal) A0 A1 A2 A3 A4).1 = fun _ => 1#1) (k : Fin 1024) : ∃ r : ℝ, A1 (ix1 k) = r :=
  Pre.real_of_lt _ (congrFun h (ix1 k))
theorem real2 {A0 A1 A2 A3 A4} (h : (Cert.Pre_finite2.fn (F := Ideal) A0 A1 A2 A3 A4).2.1 = fun _ => 1#1) (d : Fin 1024) (k : Fin 16) :
    ∃ r : ℝ, A2 (ix2 d ⟨2048 + k.val, by omega⟩) = r := by
  refine Pre.real_of_lt _ (Eq.trans ?_ (congrFun h (ix2 d k)))
  have e : extractStridedSlice Cert.Pre_finite2.S1024x16 ![0, 2048] A2 Cert.Pre_finite2.Gen.slices_S1024x3088_S1024x16_0_2048 (ix2 d k) = A2 (ix2 d ⟨2048 + k.val, by omega⟩) := by
    pointwise
  rw [← e]
  rfl
theorem real3 {A0 A1 A2 A3 A4} (h : (Cert.Pre_finite2.fn (F := Ideal) A0 A1 A2 A3 A4).2.2 = fun _ => 1#1) (k : Fin 16) (j : Fin 512) : ∃ r : ℝ, A3 (ix2 k j) = r :=
  Pre.real_of_lt _ (congrFun h (ix2 k j))

/-- The reference runs and leaves its arguments. -/
theorem frame_ref : Cert.quiescent_Reference2Ideal := fun m g _ =>
  (θ_run Cert.Reference2Ideal.defs _ _).mono (fun r h => ⟨fun c => (h c).2.2.2.2.2, Idealize.ShloMosaic.sem_eq_zero_of_no_sems (by decide) r.2⟩) (Cert.Reference2Ideal.Value.run (F := Ideal) m g)

theorem algebraic : Cert.algebraic_Kernel2Ideal_Reference2Ideal_pre_finite2 := by
  intro m g m' g' hpre hagree
  refine ⟨fun c => qRes (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)),
    fun c => kRes (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)),
    fun c => vRes (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)),
    fun c => rRes (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)),
    fun c => laRes (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)),
    (θ_run Cert.Kernel2Ideal.defs _ _).mono (fun r h c => ?_) (Cert.Kernel2Ideal.Value.run_blocks m g), ?_⟩
  · obtain ⟨e0, e1, e2, e3, e4, ea⟩ := h c
    exact ⟨e0.trans (arr_q m c), e1.trans (arr_k m c), e2.trans (arr_v m c), e3.trans (arr_r m c),
      e4.trans (arr_la m c (real1 (hpre c).1) (real2 (hpre c).2.1) (real3 (hpre c).2.2)), ea⟩
  · refine (θ_run Cert.Reference2Ideal.defs _ _).mono (fun r h c => ?_) (Cert.Reference2Ideal.Value.run m' g')
    obtain ⟨e0, e1, e2, e3, e4, ea⟩ := h c
    obtain ⟨q0, q1, q2, q3, q4⟩ := hagree c
    rw [q0, q1, q2] at e0 e1 e2 e3
    unfold Cert.Reference2Ideal.Value.res_main_v25 at e4
    rw [q0, q1, q2, q3, q4] at e4
    exact ⟨e0.trans (q_ref _ _ _), e1.trans (k_ref _ _ _), e2.trans (v_ref _ _ _), e3.trans (r_ref _ _ _), e4.trans (la_ref _ _ _ _ _), ea⟩

end Cert.Proof.In
end
-- ==== Proof.PostAt.lean ====
module

public import proofs.«01_k».proof.Proof.Gen.Kernel3Ideal.Value
public import proofs.«01_k».proof.Proof.InNum
public import Idealize.ShloMosaic.Lib.Pointwise
public import Idealize.ShloMosaic.Lib.StableHlo.RunRead
public import Idealize.ShloMosaic.Lib.Pipeline.ValueKit
public import Idealize.ShloMosaic.Lib.Pipeline.Covers

@[expose] public section
set_option maxRecDepth 16384

/-! What the output projection's kernel leaves: the residual sum and its norm. -/

noncomputable section
namespace Cert.Proof.Post
open Cert.Kernel3Ideal Cert.Kernel3Ideal.Gen
open Idealize.ShloMosaic Idealize.ShloMosaic.TcCoe Idealize.ShloMosaic.StableHlo Idealize.SL.Sem

section body
variable (x : Vec Ideal S1024x1024 .f32) (a w : Vec Ideal S1024x1024 .bf16) (n : Vec Ideal S1x1024 .f32) (r : Fin 1024) (d : Fin 1024)
theorem sum_at : k0_pay2 x a w (ix2 r d) = x (ix2 r d) + ∑ k : Fin 1024, a (ix2 r k) * w (ix2 k d) := by
  pointwise [k0_pay2]
theorem norm_at : k0_pay3 x a w n (ix2 r d) = In.norm (fun k => k0_pay2 x a w (ix2 r k)) (fun k => n (ix2 0 k)) d := by
  unfold In.norm k0_pay3
  generalize k0_pay2 x a w = s
  pointwise
theorem rows_at (p : Fin 8192) (l : Fin 128) : k0_pay4 x a w n (ix2 p l)
    = k0_pay3 x a w n (ix2 ⟨p.val / 8, by omega⟩ ⟨p.val % 8 * 128 + l.val, by omega⟩) := by
  unfold k0_pay4
  generalize k0_pay3 x a w n = s
  pointwise
end body

theorem zero2 : (![0, 0] : Fin 2 → Nat) = fun _ => 0 := by decide

section out
variable {F : FTy → Type} [FloatOps F]
variable (c : Dev nD) (i : grid0.Coords) (a1 : Memref sig .tc .vmem S1024x1024 .bf16) (h1 : a1.IsWhole) (a2 : Memref sig .tc .vmem S1024x1024 .bf16) (h2 : a2.IsWhole)
  (a3 : Memref sig .tc .vmem S1024x1024 .f32) (h3 : a3.IsWhole) (a4 : Memref sig .tc .vmem S1x1024 .f32) (h4 : a4.IsWhole) (a5 : Memref sig .tc .vmem S128x1024 .bf16) (h5 : a5.IsWhole)
  (a6 : Memref sig .tc .vmem S128x1024 .bf16) (h6 : a6.IsWhole) (a7 : Memref sig .tc .vmem S1024x1024 .f32) (h7 : a7.IsWhole) (a8 : Memref sig .tc .vmem S8192x128 .f32) (h8 : a8.IsWhole)
  (a9 : Memref sig .tc .vmem S4x1024 .i32) (h9 : a9.IsWhole) (a10 : Memref sig .tc .vmem S2x1024 .f32) (h10 : a10.IsWhole) (a11 : Memref sig .tc .vmem S64x128 .i32) (h11 : a11.IsWhole)
  (a12 : Memref sig .tc .vmem S64x128 .f32) (h12 : a12.IsWhole)
  (x0 : Vec F S1024x1024 .bf16) (x1 : Vec F S1024x1024 .bf16) (x2 : Vec F S1024x1024 .f32) (x3 : Vec F S1x1024 .f32) (x4 : Vec F S128x1024 .bf16) (x5 : Vec F S128x1024 .bf16) (s : Vec F S64x128 .f32)
theorem sum_A (hc : cond0_0 i) : out0_A_6 c i a1 h1 a2 h2 a3 h3 a4 h4 a5 h5 a6 h6 a7 h7 a8 h8 a9 h9 a10 h10 a11 h11 a12 h12 hc x0 x1 x2 x3 x4 x5 = k0_pay2 x2 x0 x1 := by
  unfold out0_A_6
  rw [View.read_writes_junk_eq_canon]
  unfold kernelRun0_A
  dsimp only
  sl_unfold_words
  rw [View.canon_cons_unit_zero (S := S1024x1024) zero2]
  simp only [View.readAt_eq_ld, h1.read_unread, h2.read_unread, h3.read_unread, View.ld_unit_zero (S := S1024x1024) zero2]
theorem sum_B (hc : ¬cond0_0 i) : out0_B_6 c i a1 h1 a2 h2 a3 h3 a4 h4 a5 h5 a6 h6 a7 h7 a8 h8 a9 h9 a10 h10 a11 h11 a12 h12 hc x0 x1 x2 x3 x4 x5 s = k0_pay2 x2 x0 x1 := by
  unfold out0_B_6
  rw [View.read_writes_junk_eq_canon]
  unfold kernelRun0_B
  dsimp only
  sl_unfold_words
  rw [View.canon_cons_unit_zero (S := S1024x1024) zero2]
  simp only [View.readAt_eq_ld, h1.read_unread, h2.read_unread, h3.read_unread, View.ld_unit_zero (S := S1024x1024) zero2]
theorem rows_A (hc : cond0_0 i) : out0_A_7 c i a1 h1 a2 h2 a3 h3 a4 h4 a5 h5 a6 h6 a7 h7 a8 h8 a9 h9 a10 h10 a11 h11 a12 h12 hc x0 x1 x2 x3 x4 x5 = k0_pay4 x2 x0 x1 x3 := by
  unfold out0_A_7
  rw [View.read_writes_junk_eq_canon]
  unfold kernelRun0_A
  dsimp only
  sl_unfold_words
  rw [View.canon_cons_unit_zero (S := S8192x128) zero2]
  simp only [View.readAt_eq_ld, h1.read_unread, h2.read_unread, h3.read_unread, h4.read_unread, View.ld_unit_zero (S := S1024x1024) zero2, View.ld_unit_zero (S := S1x1024) zero2]
theorem rows_B (hc : ¬cond0_0 i) : out0_B_7 c i a1 h1 a2 h2 a3 h3 a4 h4 a5 h5 a6 h6 a7 h7 a8 h8 a9 h9 a10 h10 a11 h11 a12 h12 hc x0 x1 x2 x3 x4 x5 s = k0_pay4 x2 x0 x1 x3 := by
  unfold out0_B_7
  rw [View.read_writes_junk_eq_canon]
  unfold kernelRun0_B
  dsimp only
  sl_unfold_words
  rw [View.canon_cons_unit_zero (S := S8192x128) zero2]
  simp only [View.readAt_eq_ld, h1.read_unread, h2.read_unread, h3.read_unread, h4.read_unread, View.ld_unit_zero (S := S1024x1024) zero2, View.ld_unit_zero (S := S1x1024) zero2]
end out

section spec
variable (A0 : Vec Ideal S65536x1024 .bf16) (A1 : Vec Ideal S1024x1024 .f32) (A2 : Vec Ideal S65536x1024 .f32) (A3 : Vec Ideal S1024 .f32)
/-- The residual sum. -/
def sumAt (t : Fin 65536) (d : Fin 1024) : EReal := A2 (ix2 t d) + ∑ k : Fin 1024, A0 (ix2 t k) * A1 (ix2 k d)
def sumRes : Vec Ideal S65536x1024 .f32 := fun y => sumAt A0 A1 A2 ⟨(y 0).val, (y 0).isLt⟩ ⟨(y 1).val, (y 1).isLt⟩
/-- Its norm, eight rows of 128 for each token. -/
def rowAt (p : Fin 524288) (l : Fin 128) : EReal :=
  In.norm (fun k => sumAt A0 A1 A2 ⟨p.val / 8, by omega⟩ k) (fun k => A3 (ix1 k)) ⟨p.val % 8 * 128 + l.val, by omega⟩
def rowRes : Vec Ideal S524288x128 .f32 := fun y => rowAt A0 A1 A2 A3 ⟨(y 0).val, (y 0).isLt⟩ ⟨(y 1).val, (y 1).isLt⟩
end spec

variable (m : (ℓ : Loc nD τ sig) → Buf (Elt Ideal) ℓ) (c : Dev nD)
theorem V_n (d : Fin 1024) : V m c main_v9 (ix2 0 d) = m (c, (main_arg3 : DevRef τ sig)) (ix1 d) := by
  simp only [V, hostOps0, hostOps0_1, hostOps0_2, List.flatten_cons, List.flatten_nil, List.append_nil, List.cons_append, List.nil_append]
  after_results
  pointwise
theorem V_w (k d : Fin 1024) : V m c main_v8 (ix2 k d) = m (c, (main_arg1 : DevRef τ sig)) (ix2 k d) := by
  simp only [V, hostOps0, hostOps0_1, hostOps0_2, List.flatten_cons, List.flatten_nil, List.append_nil, List.cons_append, List.nil_append]
  after_results
  pointwise

theorem idx_facts : ∀ t : Fin cfg0.N, win0_0.index t = ![(grid0.coords t 0).val, 0] ∧ win0_1.index t = ![0, 0] ∧ win0_2.index t = ![(grid0.coords t 0).val, 0]
    ∧ win0_3.index t = ![0, 0] ∧ win0_6.index t = ![(grid0.coords t 0).val, 0] ∧ win0_7.index t = ![(grid0.coords t 0).val, 0] := by decide +kernel
theorem blk_a (t : Fin cfg0.N) (r : Fin 1024) (k : Fin 1024) (g : Fin 65536) (hg : g.val = (grid0.coords t 0).val * 1024 + r.val) :
    iblk m c 0 t (ix2 r k) = m (c, (main_arg0 : DevRef τ sig)) (ix2 g k) := by
  have e := (idx_facts t).1
  generalize (grid0.coords t 0).val = b at e hg
  refine Eq.trans (b := V m c main_arg0 (ix2 g k)) ?_ (congrFun (V_main_arg0 m c) _)
  blk_ext [iblk, e]
theorem blk_x (t : Fin cfg0.N) (r : Fin 1024) (k : Fin 1024) (g : Fin 65536) (hg : g.val = (grid0.coords t 0).val * 1024 + r.val) :
    iblk m c 2 t (ix2 r k) = m (c, (main_arg2 : DevRef τ sig)) (ix2 g k) := by
  have e := (idx_facts t).2.2.1
  generalize (grid0.coords t 0).val = b at e hg
  refine Eq.trans (b := V m c main_arg2 (ix2 g k)) ?_ (congrFun (V_main_arg2 m c) _)
  blk_ext [iblk, e]
theorem blk_w (t : Fin cfg0.N) (k d : Fin 1024) : iblk m c 1 t (ix2 k d) = m (c, (main_arg1 : DevRef τ sig)) (ix2 k d) := by
  have e := (idx_facts t).2.1
  rw [← V_w m c]
  blk_ext [iblk, e]
theorem blk_n (t : Fin cfg0.N) (d : Fin 1024) : iblk m c 3 t (ix2 0 d) = m (c, (main_arg3 : DevRef τ sig)) (ix1 d) := by
  have e := (idx_facts t).2.2.2.1
  rw [← V_n m c]
  blk_ext [iblk, e]

theorem sum_out (t : Fin cfg0.N) : (outsAt0 m c t.val t.isLt).1 = k0_pay2 (iblk m c 2 t) (iblk m c 0 t) (iblk m c 1 t) := by
  by_cases h : t.val % 64 = 0
  · rw [outsAt0_A m c t h]
    dsimp only
    rw [sum_A]
  · rw [outsAt0_B m c t h]
    dsimp only
    rw [sum_B]
theorem rows_out (t : Fin cfg0.N) : (outsAt0 m c t.val t.isLt).2.1 = k0_pay4 (iblk m c 2 t) (iblk m c 0 t) (iblk m c 1 t) (iblk m c 3 t) := by
  by_cases h : t.val % 64 = 0
  · rw [outsAt0_A m c t h]
    dsimp only
    rw [rows_A]
  · rw [outsAt0_B m c t h]
    dsimp only
    rw [rows_B]

theorem sum_pt (t : Fin cfg0.N) (r d : Fin 1024) (g : Fin 65536) (hg : g.val = (grid0.coords t 0).val * 1024 + r.val) :
    k0_pay2 (F := Ideal) (iblk m c 2 t) (iblk m c 0 t) (iblk m c 1 t) (ix2 r d)
      = sumAt (m (c, (main_arg0 : DevRef τ sig))) (m (c, (main_arg1 : DevRef τ sig))) (m (c, (main_arg2 : DevRef τ sig))) g d := by
  rw [sum_at, sumAt, blk_x m c t r d g hg]
  exact congrArg _ (Finset.sum_congr rfl fun k _ => by rw [blk_a m c t r k g hg, blk_w])
theorem row_pt (t : Fin cfg0.N) (p : Fin 8192) (l : Fin 128) (g : Fin 524288) (hg : g.val = (grid0.coords t 0).val * 8192 + p.val) :
    k0_pay4 (F := Ideal) (iblk m c 2 t) (iblk m c 0 t) (iblk m c 1 t) (iblk m c 3 t) (ix2 p l)
      = rowAt (m (c, (main_arg0 : DevRef τ sig))) (m (c, (main_arg1 : DevRef τ sig))) (m (c, (main_arg2 : DevRef τ sig))) (m (c, (main_arg3 : DevRef τ sig))) g l := by
  rw [rows_at, norm_at, rowAt]
  have e : g.val % 8 = p.val % 8 := by omega
  congr 1
  · funext k
    exact sum_pt m c t _ k _ (by show g.val / 8 = _ + p.val / 8; omega)
  · funext k
    exact blk_n m c t k
  · exact Fin.ext (by show p.val % 8 * 128 + l.val = g.val % 8 * 128 + l.val; rw [e])

theorem ix_ex {n k : ℕ} (y : (⟨2, ![n, k]⟩ : Shape).Idx) : ∃ (a : Fin n) (b : Fin k), y = ix2 a b := ⟨⟨(y 0).val, (y 0).isLt⟩, ⟨(y 1).val, (y 1).isLt⟩, by
  funext a
  match a with
  | ⟨0, _⟩ => rfl
  | ⟨1, _⟩ => rfl⟩

theorem arr_sum : (dats m 0 c).arrAt 6 cfg0.N = sumRes (m (c, (main_arg0 : DevRef τ sig))) (m (c, (main_arg1 : DevRef τ sig))) (m (c, (main_arg2 : DevRef τ sig))) := by
  refine (dats m 0 c).arrAt_eq_of_covers 6 _ (by decide +kernel) fun t hf y => ?_
  have e := (idx_facts t).2.2.2.2.1
  have p0 : (((win0_6.blk t).view.emb y) 0 : ℕ) = (grid0.coords t 0).val * 1024 + (y 0).val := by blk_simp [e]
  have p1 : (((win0_6.blk t).view.emb y) 1 : ℕ) = (y 1).val := by blk_simp [e]
  blk_simp
  rw [after0_6, sum_out]
  obtain ⟨a, b, rfl⟩ := ix_ex y
  refine (sum_pt m c t a b ⟨_, ((win0_6.blk t).view.emb (ix2 a b) 0).isLt⟩ p0).trans ?_
  exact congrArg _ (Fin.ext p1.symm)
theorem arr_rows : (dats m 0 c).arrAt 7 cfg0.N = rowRes (m (c, (main_arg0 : DevRef τ sig))) (m (c, (main_arg1 : DevRef τ sig))) (m (c, (main_arg2 : DevRef τ sig))) (m (c, (main_arg3 : DevRef τ sig))) := by
  refine (dats m 0 c).arrAt_eq_of_covers 7 _ (by decide +kernel) fun t hf y => ?_
  have e := (idx_facts t).2.2.2.2.2
  have p0 : (((win0_7.blk t).view.emb y) 0 : ℕ) = (grid0.coords t 0).val * 8192 + (y 0).val := by blk_simp [e]
  have p1 : (((win0_7.blk t).view.emb y) 1 : ℕ) = (y 1).val := by blk_simp [e]
  blk_simp
  rw [after0_7, rows_out]
  obtain ⟨a, b, rfl⟩ := ix_ex y
  refine (row_pt m c t a b ⟨_, ((win0_7.blk t).view.emb (ix2 a b) 0).isLt⟩ p0).trans ?_
  exact congrArg _ (Fin.ext p1.symm)
end Cert.Proof.Post
end
-- ==== Proof.PostAlg.lean ====
module

public import proofs.«01_k».proof.Defs
public import proofs.«01_k».proof.Proof.PostAt
public import proofs.«01_k».proof.Proof.Gen.Reference3Ideal.Run

@[expose] public section
set_option maxRecDepth 16384

/-! The output projection's kernel and reference end at the same arrays. -/

noncomputable section
namespace Cert.Proof.Post
open Idealize.ShloMosaic Idealize.ShloMosaic.TcCoe Idealize.SL.Sem

section ref
open Cert.Reference3Ideal Cert.Reference3Ideal.Gen
variable (A0 : Vec Ideal S65536x1024 .bf16) (A1 : Vec Ideal S1024x1024 .f32) (A2 : Vec Ideal S65536x1024 .f32) (A3 : Vec Ideal S1024 .f32)
/-- The reference's residual sum. -/
def refSum : FVec Ideal S65536x1024 .f32 :=
  addf A2 (Host.dotGeneral (φ₁ := .f32) (φ₂ := .f32) dot_S65536x1024_S1024x1024_S65536x1024_1_0_0_1_n_n none (extf .f32 A0 bitsLt_bf16_f32) A1)
/-- The norm of a sum. -/
def refNorm (s : FVec Ideal S65536x1024 .f32) : FVec Ideal S65536x1024 .f32 :=
  mulf (mulf s (broadcastInDim S65536x1024 ![0, 1] bcast_S65536x1_S65536x1024_0_1 (Host.rsqrt (addf (Host.divf (broadcastInDim S65536x1 ![0] bcast_S65536_S65536x1_0 (Host.reduceAdd (mulf s s) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 A3))
theorem refSum_at (t : Fin 65536) (d : Fin 1024) : refSum A0 A1 A2 (ix2 t d) = sumAt A0 A1 A2 t d := by
  unfold sumAt
  pointwise [refSum]
theorem refNorm_at (s : Vec Ideal S65536x1024 .f32) (t : Fin 65536) (d : Fin 1024) :
    refNorm A3 s (ix2 t d) = In.norm (fun k => s (ix2 t k)) (fun k => A3 (ix1 k)) d := by
  unfold In.norm
  pointwise [refNorm]
theorem refRows_at (h : Vec Ideal S65536x1024 .f32) (p : Fin 524288) (l : Fin 128) :
    shapeCast S524288x128 h shapeCasts_S65536x1024_S524288x128 (ix2 p l) = h (ix2 ⟨p.val / 8, by omega⟩ ⟨p.val % 8 * 128 + l.val, by omega⟩) := by
  pointwise
theorem ref_sum : refSum A0 A1 A2 = sumRes A0 A1 A2 := by
  funext i
  obtain ⟨x, y, rfl⟩ := ix_ex i
  exact refSum_at ..
theorem ref_rows : shapeCast S524288x128 (refNorm A3 (refSum A0 A1 A2)) shapeCasts_S65536x1024_S524288x128 = rowRes A0 A1 A2 A3 := by
  funext i
  obtain ⟨x, y, rfl⟩ := ix_ex i
  refine (refRows_at _ _ _).trans ((refNorm_at _ _ _ _).trans ?_)
  simp only [refSum_at]
  rfl
end ref

/-- The reference runs and leaves its arguments. -/
theorem frame_ref : Cert.quiescent_Reference3Ideal := fun m g _ =>
  (θ_run Cert.Reference3Ideal.defs _ _).mono (fun r h => ⟨fun c => (h c).2.2, Idealize.ShloMosaic.sem_eq_zero_of_no_sems (by decide) r.2⟩) (Cert.Reference3Ideal.Value.run (F := Ideal) m g)

theorem algebraic : Cert.algebraic_Kernel3Ideal_Reference3Ideal := by
  intro m g m' g' _ hagree
  refine ⟨fun c => sumRes (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)),
    fun c => rowRes (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)),
    (θ_run Cert.Kernel3Ideal.defs _ _).mono (fun r h c => ?_) (Cert.Kernel3Ideal.Value.run m g), ?_⟩
  · obtain ⟨e0, e1, _, _, _, ea⟩ := h c
    exact ⟨e0.trans ((Cert.Kernel3Ideal.Value.final6 m c).symm.trans (arr_sum m c)), e1.trans ((Cert.Kernel3Ideal.Value.final7 m c).symm.trans (arr_rows m c)), ea⟩
  · refine (θ_run Cert.Reference3Ideal.defs _ _).mono (fun r h c => ?_) (Cert.Reference3Ideal.Value.run m' g')
    obtain ⟨e0, e1, ea⟩ := h c
    obtain ⟨q0, q1, q2, q3, _⟩ := hagree c
    rw [q0, q1, q2] at e0
    rw [q0, q1, q2, q3] at e1
    exact ⟨e0.trans (ref_sum _ _ _), e1.trans (ref_rows _ _ _ _), ea⟩

end Cert.Proof.Post
end
-- ==== Proof.MlaNum.lean ====
module

public import proofs.«01_k».proof.Proof.InNum

@[expose] public section

/-! Numbers for the attention's own projections: a row normalized and scaled, and the rotary embedding. -/

noncomputable section
namespace Cert.Proof.Mla
open Idealize.ShloMosaic

/-- A row of `n` numbers divided by the root of the mean of its squares, `l` being the divisor of the mean, and scaled. -/
def gnorm {n : ℕ} (l : BitVec 32) (y g : Fin n → EReal) (d : Fin n) : EReal :=
  y d * Ideal.rsqrt (Ideal.div (∑ k : Fin n, y k * y k) (Ideal.ofBits .f32 l) + Ideal.ofBits .f32 0x358637BD#32) * g d

theorem gnorm_congr {n : ℕ} (l : BitVec 32) {y z g w : Fin n → EReal} (d : Fin n) (hy : ∀ k, y k = z k) (hg : ∀ k, g k = w k) :
    gnorm l y g d = gnorm l z w d := by
  rw [funext hy, funext hg]

/-- The rotary embedding of 64 numbers by 32 angles, given by cosines and sines. -/
def rope (y : Fin 64 → EReal) (co si : Fin 32 → EReal) (i : Fin 64) : EReal :=
  if h : i.val < 32 then y i * co ⟨i.val, h⟩ - y ⟨32 + i.val, by omega⟩ * si ⟨i.val, h⟩
  else y i * co ⟨i.val - 32, by omega⟩ + y ⟨i.val - 32, by omega⟩ * si ⟨i.val - 32, by omega⟩

/-- The embedding of 64 numbers with zeros beside them, written over 128 places: each number times its cosine, added to
    the number of the other half times the sine with its sign. -/
theorem rope_pad (y : Fin 64 → EReal) (co si : Fin 32 → EReal) (a b c s : EReal) (i : Fin 128)
    (ha : a = if h : i.val < 64 then y ⟨i.val, h⟩ else 0)
    (hb : b = if h : i.val < 64 then y ⟨(i.val + 32) % 64, Nat.mod_lt _ (by omega)⟩ else 0)
    (hc : c = co ⟨i.val % 32, Nat.mod_lt _ (by omega)⟩)
    (hs : s = if i.val % 64 < 32 then 0 - si ⟨i.val % 32, Nat.mod_lt _ (by omega)⟩ else si ⟨i.val % 32, Nat.mod_lt _ (by omega)⟩) :
    a * c + b * s = if h : i.val < 64 then rope y co si ⟨i.val, h⟩ else 0 := by
  obtain ⟨i, hi⟩ := i
  dsimp only at *
  by_cases h : i < 64
  · rw [dif_pos h] at ha hb ⊢
    subst ha hb hc hs
    unfold rope
    dsimp only
    by_cases h2 : i < 32
    · have e1 : (i + 32) % 64 = 32 + i := by omega
      have e2 : i % 32 = i := by omega
      have e3 : i % 64 < 32 := by omega
      rw [dif_pos h2, if_pos e3]
      simp only [e1, e2, sub_eq_add_neg, zero_add, mul_neg]
    · have e1 : (i + 32) % 64 = i - 32 := by omega
      have e2 : i % 32 = i - 32 := by omega
      have e3 : ¬i % 64 < 32 := by omega
      rw [dif_neg h2, if_neg e3]
      simp only [e1, e2]
  · rw [dif_neg h] at ha hb ⊢
    rw [ha, hb, zero_mul, zero_mul, add_zero]

/-- A product's sum where one factor is zero unless a condition holds. -/
theorem sum_dite {n : ℕ} (p : Prop) [Decidable p] (w h z : Fin n → EReal) (v : p → Fin n → EReal)
    (hw : ∀ d, w d = if e : p then v e d else 0) (hh : ∀ d, h d = z d) :
    ∑ d, w d * h d = if e : p then ∑ d, z d * v e d else 0 := by
  simp only [hw, hh]
  by_cases e : p
  · simp only [dif_pos e, mul_comm]
  · simp only [dif_neg e, zero_mul, Finset.sum_const_zero]

end Cert.Proof.Mla
end
-- ==== Proof.MlaAt.lean ====
module

public import proofs.«01_k».proof.Proof.Gen.Kernel5Ideal.Frame
public import proofs.«01_k».proof.Proof.MlaNum
public import Idealize.ShloMosaic.Lib.Pointwise
public import Idealize.ShloMosaic.Lib.StableHlo.RunRead

@[expose] public section
set_option maxRecDepth 16384

/-! What the kernel of the attention's projections computes at one index. -/

noncomputable section
namespace Cert.Proof.Mla
open Cert.Kernel5Ideal Cert.Kernel5Ideal.Gen
open Idealize.ShloMosaic Idealize.ShloMosaic.TcCoe Idealize.ShloMosaic.StableHlo

section body
variable (x : Vec Ideal S512x1024 .f32) (n : Vec Ideal S1x1024 .f32) (s : Fin 512)
theorem norm_at (d : Fin 1024) : k0_pay2 x n (ix2 s d) = gnorm 0x44800000#32 (fun k => x (ix2 s k)) (fun k => n (ix2 0 k)) d := by
  unfold gnorm
  pointwise [k0_pay2]
theorem qlat_at (w : Vec Ideal S1024x256 .bf16) (g : Vec Ideal S1x256 .f32) (i : Fin 256) :
    k0_pay3 x n w g (ix2 s i) = gnorm 0x43800000#32 (fun i : Fin 256 => ∑ d : Fin 1024, k0_pay2 x n (ix2 s d) * w (ix2 d i)) (fun i => g (ix2 0 i)) i := by
  unfold gnorm k0_pay3
  generalize k0_pay2 x n = h
  pointwise
theorem kv_at (w : Vec Ideal S256x1024 .bf16) (i : Fin 256) :
    k0_pay4 x n w (ix2 i s) = ∑ d : Fin 1024, w (ix2 i d) * k0_pay2 x n (ix2 s d) := by
  unfold k0_pay4
  generalize k0_pay2 x n = h
  pointwise
theorem lat_at (v : Vec Ideal S256x512 .f32) (g : Vec Ideal S128x1 .f32) (i : Fin 128) :
    k0_pay6 v g (ix2 i s) = gnorm 0x43000000#32 (fun i : Fin 128 => v (ix2 ⟨i.val, by omega⟩ s)) (fun i => g (ix2 i 0)) i := by
  unfold gnorm
  pointwise [k0_pay6]
theorem ang_at (w : Vec Ideal S32x1 .f32) (p : Vec Ideal S1x512 .i32) (f : Fin 32) :
    k0_pay7 w p (ix2 f s) = w (ix2 f 0) * (FloatOps.sitofp (F := Ideal) .f32 (p (ix2 0 s) : BitVec 32) : EReal) := by
  pointwise [k0_pay7]
theorem cos_at (w : Vec Ideal S32x1 .f32) (p : Vec Ideal S1x512 .i32) (i : Fin 128) :
    k0_pay8 w p (ix2 i s) = Ideal.cos (k0_pay7 w p (ix2 ⟨i.val % 32, by omega⟩ s)) := by
  unfold k0_pay8
  generalize k0_pay7 w p = a
  pointwise
  by_cases h1 : i.val < 32
  · have e : i.val % 32 = i.val := by omega
    simp only [dif_pos h1, e]
  by_cases h2 : i.val - 32 < 32
  · have e : i.val % 32 = i.val - 32 := by omega
    simp only [dif_neg h1, dif_pos h2, e]
  by_cases h3 : i.val - 32 - 32 < 32
  · have e : i.val % 32 = i.val - 32 - 32 := by omega
    simp only [dif_neg h1, dif_neg h2, dif_pos h3, e]
  · have e : i.val % 32 = i.val - 32 - 32 - 32 := by omega
    simp only [dif_neg h1, dif_neg h2, dif_neg h3, e]
theorem sin_at (w : Vec Ideal S32x1 .f32) (p : Vec Ideal S1x512 .i32) (i : Fin 128) :
    k0_pay9 w p (ix2 i s) = if i.val % 64 < 32 then 0 - Ideal.sin (k0_pay7 w p (ix2 ⟨i.val % 32, by omega⟩ s))
      else Ideal.sin (k0_pay7 w p (ix2 ⟨i.val % 32, by omega⟩ s)) := by
  unfold k0_pay9
  generalize k0_pay7 w p = a
  pointwise
  by_cases h1 : i.val < 32
  · have e : i.val % 32 = i.val := by omega
    have e2 : i.val % 64 < 32 := by omega
    simp only [dif_pos h1, if_pos e2, e]
  by_cases h2 : i.val - 32 < 32
  · have e : i.val % 32 = i.val - 32 := by omega
    have e2 : ¬i.val % 64 < 32 := by omega
    simp only [dif_neg h1, dif_pos h2, if_neg e2, e]
  by_cases h3 : i.val - 32 - 32 < 32
  · have e : i.val % 32 = i.val - 32 - 32 := by omega
    have e2 : i.val % 64 < 32 := by omega
    simp only [dif_neg h1, dif_neg h2, dif_pos h3, if_pos e2, e]
  · have e : i.val % 32 = i.val - 32 - 32 - 32 := by omega
    have e2 : ¬i.val % 64 < 32 := by omega
    simp only [dif_neg h1, dif_neg h2, dif_neg h3, if_neg e2, e]
theorem k_at (h : Vec Ideal S512x1024 .bf16) (v : Vec Ideal S256x512 .f32) (u : Vec Ideal S128x1024 .bf16) (g : Vec Ideal S128x1 .f32) (w : Vec Ideal S32x1 .f32) (p : Vec Ideal S1x512 .i32) (i : Fin 256) :
    k0_pay10 h v u g w p (ix2 s i) = if e : i.val < 128 then k0_pay6 v g (ix2 ⟨i.val, e⟩ s)
      else v (ix2 ⟨128 + (i.val - 128), by omega⟩ s) * k0_pay8 w p (ix2 ⟨i.val - 128, by omega⟩ s)
        + (∑ d : Fin 1024, u (ix2 ⟨i.val - 128, by omega⟩ d) * h (ix2 s d)) * k0_pay9 w p (ix2 ⟨i.val - 128, by omega⟩ s) := by
  unfold k0_pay10
  generalize k0_pay6 v g = l
  generalize k0_pay8 w p = co
  generalize k0_pay9 w p = si
  pointwise
theorem v_at (v : Vec Ideal S256x512 .f32) (g : Vec Ideal S128x1 .f32) (i : Fin 144) :
    k0_pay12 (k0_pay11 v g) (ix3 0 i s) = if e : i.val < 128 then k0_pay6 v g (ix2 ⟨i.val, e⟩ s) else Ideal.ofBits .f32 0x3F800000#32 := by
  unfold k0_pay12 k0_pay11
  generalize k0_pay6 v g = l
  pointwise
variable (q : Vec Ideal S512x256 .bf16) (w : Vec Ideal S1024x256 .bf16)
theorem same_at (u : Vec Ideal S128x1024 .bf16) (i : Fin 128) (d : Fin 1024) : k0_pay5 u (ix2 i d) = u (ix2 i d) := by
  pointwise [k0_pay5]
theorem qn_at (r : Fin 1024) : k0_pay13 q w (ix2 r s) = ∑ c : Fin 256, w (ix2 r c) * q (ix2 s c) := by
  pointwise [k0_pay13]
theorem qr_at (r : Fin 1024) : k0_pay14 q w (ix2 r s) = ∑ c : Fin 256, w (ix2 r c) * q (ix2 s c) := by
  pointwise [k0_pay14]
theorem qs_at (r : Fin 1024) : k0_pay15 q w (ix2 r s) = ∑ c : Fin 256, w (ix2 r c) * q (ix2 s c) := by
  pointwise [k0_pay15]
end body

section heads
variable (Q : FVec Ideal S1024x512 .bf16) (R T : FVec Ideal S1024x512 .f32) (co si : FVec Ideal S128x512 .f32) (w : Vec Ideal S1x128x128 .bf16) (i : Fin 128) (s : Fin 512)
theorem lat0 (q : Vec Ideal S512x256 .bf16) (v : Vec Ideal S1024x256 .bf16) : k0_pay16 q v w (ix3 0 i s)
    = (∑ n : Fin 128, w (ix3 0 i n) * k0_pay13 q v (ix2 ⟨n.val, by omega⟩ s)) * Ideal.ofBits .f32 0x3DD53B95#32 := by
  unfold k0_pay16
  generalize k0_pay13 q v = Q
  pointwise
theorem rope0 (q : Vec Ideal S512x256 .bf16) (v u : Vec Ideal S1024x256 .bf16) : k0_pay17 q co si v u (ix3 0 i s)
    = (k0_pay14 q v (ix2 ⟨i.val, by omega⟩ s) * co (ix2 i s) + k0_pay15 q u (ix2 ⟨i.val, by omega⟩ s) * si (ix2 i s)) * Ideal.ofBits .f32 0x3DD53B95#32 := by
  unfold k0_pay17
  generalize k0_pay14 q v = R
  generalize k0_pay15 q u = T
  pointwise
theorem lat1 : k0_pay18 Q w (ix3 0 i s) = (∑ n : Fin 128, w (ix3 0 i n) * Q (ix2 ⟨128 + n.val, by omega⟩ s)) * Ideal.ofBits .f32 0x3DD53B95#32 := by
  pointwise [k0_pay18]
theorem rope1 : k0_pay19 co si R T (ix3 0 i s) = (R (ix2 ⟨128 + i.val, by omega⟩ s) * co (ix2 i s) + T (ix2 ⟨128 + i.val, by omega⟩ s) * si (ix2 i s)) * Ideal.ofBits .f32 0x3DD53B95#32 := by
  pointwise [k0_pay19]
theorem lat2 : k0_pay21 Q w (ix3 0 i s) = (∑ n : Fin 128, w (ix3 0 i n) * Q (ix2 ⟨256 + n.val, by omega⟩ s)) * Ideal.ofBits .f32 0x3DD53B95#32 := by
  pointwise [k0_pay21]
theorem rope2 : k0_pay22 (k0_pay20 co si R T) (ix3 0 i s) = (R (ix2 ⟨256 + i.val, by omega⟩ s) * co (ix2 i s) + T (ix2 ⟨256 + i.val, by omega⟩ s) * si (ix2 i s)) * Ideal.ofBits .f32 0x3DD53B95#32 := by
  pointwise [k0_pay22, k0_pay20]
theorem lat3 : k0_pay23 Q w (ix3 0 i s) = (∑ n : Fin 128, w (ix3 0 i n) * Q (ix2 ⟨384 + n.val, by omega⟩ s)) * Ideal.ofBits .f32 0x3DD53B95#32 := by
  pointwise [k0_pay23]
theorem rope3 : k0_pay24 co si R T (ix3 0 i s) = (R (ix2 ⟨384 + i.val, by omega⟩ s) * co (ix2 i s) + T (ix2 ⟨384 + i.val, by omega⟩ s) * si (ix2 i s)) * Ideal.ofBits .f32 0x3DD53B95#32 := by
  pointwise [k0_pay24]
theorem lat4 : k0_pay27 (k0_pay25 Q w) (ix3 0 i s) = (∑ n : Fin 128, w (ix3 0 i n) * Q (ix2 ⟨512 + n.val, by omega⟩ s)) * Ideal.ofBits .f32 0x3DD53B95#32 := by
  pointwise [k0_pay27, k0_pay25]
theorem rope4 : k0_pay28 (k0_pay26 co si R T) (Scalar.ofBits .f32 0x3DD53B95#32) (ix3 0 i s) = (R (ix2 ⟨512 + i.val, by omega⟩ s) * co (ix2 i s) + T (ix2 ⟨512 + i.val, by omega⟩ s) * si (ix2 i s)) * Ideal.ofBits .f32 0x3DD53B95#32 := by
  pointwise [k0_pay28, k0_pay26]
theorem lat5 : k0_pay29 Q w (ix3 0 i s) = (∑ n : Fin 128, w (ix3 0 i n) * Q (ix2 ⟨640 + n.val, by omega⟩ s)) * Ideal.ofBits .f32 0x3DD53B95#32 := by
  pointwise [k0_pay29]
theorem rope5 : k0_pay30 co si R T (ix3 0 i s) = (R (ix2 ⟨640 + i.val, by omega⟩ s) * co (ix2 i s) + T (ix2 ⟨640 + i.val, by omega⟩ s) * si (ix2 i s)) * Ideal.ofBits .f32 0x3DD53B95#32 := by
  pointwise [k0_pay30]
theorem lat6 : k0_pay32 (k0_pay31 Q w) (ix3 0 i s) = (∑ n : Fin 128, w (ix3 0 i n) * Q (ix2 ⟨768 + n.val, by omega⟩ s)) * Ideal.ofBits .f32 0x3DD53B95#32 := by
  pointwise [k0_pay32, k0_pay31]
theorem rope6 : k0_pay33 co si R T (ix3 0 i s) = (R (ix2 ⟨768 + i.val, by omega⟩ s) * co (ix2 i s) + T (ix2 ⟨768 + i.val, by omega⟩ s) * si (ix2 i s)) * Ideal.ofBits .f32 0x3DD53B95#32 := by
  pointwise [k0_pay33]
theorem lat7 : k0_pay35 Q w (ix3 0 i s) = (∑ n : Fin 128, w (ix3 0 i n) * Q (ix2 ⟨896 + n.val, by omega⟩ s)) * Ideal.ofBits .f32 0x3DD53B95#32 := by
  pointwise [k0_pay35]
theorem rope7 : k0_pay1 (k0_pay34 co si R T) (ix3 0 i s) = (R (ix2 ⟨896 + i.val, by omega⟩ s) * co (ix2 i s) + T (ix2 ⟨896 + i.val, by omega⟩ s) * si (ix2 i s)) * Ideal.ofBits .f32 0x3DD53B95#32 := by
  pointwise [k0_pay1, k0_pay34]
end heads

/-- The latents' columns of the projection, zeros beside them, turned. -/
def wkvArr (A3 : Vec Ideal S1024x448 .f32) : FVec Ideal S256x1024 .bf16 :=
  truncf .bf16 (transpose S256x1024 [1, 0] (pad S1024x256 ![0, 0] ![0, 64] ![0, 0] (extractStridedSlice S1024x192 ![0, 256] A3 slices_S1024x448_S1024x192_0_256 : Vec Ideal S1024x192 .f32)
    (sitofp .f32 (constantI S_ 32 0#32) : FVec Ideal S_ .f32) pads_S1024x192_S1024x256_000_0640 h_S_ : FVec Ideal S1024x256 .f32) transposes_S1024x256_S256x1024_1_0) bitsLt_bf16_f32
/-- The key's rotary columns, the halves exchanged. -/
def swapArr (A3 : Vec Ideal S1024x448 .f32) : FVec Ideal S1024x64 .f32 :=
  concatenate S1024x64 1 [⟨S1024x32, extractStridedSlice S1024x32 ![0, 32] (extractStridedSlice S1024x64 ![0, 384] A3 slices_S1024x448_S1024x64_0_384 : Vec Ideal S1024x64 .f32) slices_S1024x64_S1024x32_0_32⟩,
    ⟨S1024x32, extractStridedSlice S1024x32 ![0, 0] (extractStridedSlice S1024x64 ![0, 384] A3 slices_S1024x448_S1024x64_0_384 : Vec Ideal S1024x64 .f32) slices_S1024x64_S1024x32_0_0⟩]
    concatenates_S1024x32_S1024x32_S1024x64_d1
/-- The same with zeros beside them, turned. -/
def wksArr (z : FVec Ideal S1024x64 .f32) : FVec Ideal S128x1024 .bf16 :=
  truncf .bf16 (transpose S128x1024 [1, 0] (pad S1024x128 ![0, 0] ![0, 64] ![0, 0] z
    (sitofp .f32 (constantI S_ 32 0#32) : FVec Ideal S_ .f32) pads_S1024x64_S1024x128_000_0640 h_S_ : FVec Ideal S1024x128 .f32) transposes_S1024x128_S128x1024_1_0) bitsLt_bf16_f32
/-- The queries' rotary columns. -/
def rotArr (A5 : Vec Ideal S256x8x192 .f32) : FVec Ideal S256x8x64 .f32 :=
  extractStridedSlice S256x8x64 ![0, 0, 128] A5 slices_S256x8x192_S256x8x64_0_0_128
/-- The queries' rotary columns, the halves exchanged. -/
def rswapArr (z : FVec Ideal S256x8x64 .f32) : FVec Ideal S256x8x64 .f32 :=
  concatenate S256x8x64 2 [⟨S256x8x32, extractStridedSlice S256x8x32 ![0, 0, 32] z slices_S256x8x64_S256x8x32_0_0_32⟩,
    ⟨S256x8x32, extractStridedSlice S256x8x32 ![0, 0, 0] z slices_S256x8x64_S256x8x32_0_0_0⟩]
    concatenates_S256x8x32_S256x8x32_S256x8x64_d2
/-- Columns of every head, zeros beside them. -/
def rpadArr (z : FVec Ideal S256x8x64 .f32) : FVec Ideal S256x8x128 .f32 :=
  pad S256x8x128 ![0, 0, 0] ![0, 0, 64] ![0, 0, 0] z
    (sitofp .f32 (constantI S_ 32 0#32) : FVec Ideal S_ .f32) pads_S256x8x64_S256x8x128_000_000_0640 h_S_
/-- The heads below one another. -/
def flatArr (z : FVec Ideal S256x8x128 .f32) : FVec Ideal S1024x256 .bf16 :=
  truncf .bf16 (transpose S1024x256 [1, 0] (shapeCast S256x1024 z shapeCasts_S256x8x128_S256x1024) transposes_S256x1024_S1024x256_1_0) bitsLt_bf16_f32
/-- The frequencies of the rotary embedding. -/
def freq : FVec Ideal S32 .f32 :=
  Host.divf (broadcastInDim S32 ![] bcast_S_S32 (constant S_ .f32 0x3F800000#32)) (Host.powf (broadcastInDim S32 ![] bcast_S_S32 (constant S_ .f32 0x461C4000#32))
    (Host.divf (addf (broadcastInDim S32 ![] bcast_S_S32 (constant S_ .f32 0x00000000#32)) (mulf (broadcastInDim S32 ![] bcast_S_S32 (constant S_ .f32 0x40000000#32)) (sitofp .f32 (iotaInDim S32 32 0))))
      (broadcastInDim S32 ![] bcast_S_S32 (constant S_ .f32 0x42800000#32))))

theorem pad0 : FloatOps.sitofp (F := Ideal) .f32 (0#32) = (0 : EReal) := by
  show ((((0#32).toInt : ℤ) : ℝ) : EReal) = 0
  simp
theorem wkvArr_at (A3 : Vec Ideal S1024x448 .f32) (i : Fin 256) (d : Fin 1024) :
    wkvArr A3 (ix2 i d) = if h : i.val < 192 then A3 (ix2 d ⟨256 + i.val, by omega⟩) else 0 := by
  pointwise [wkvArr]
  rw [pad0]
theorem swapArr_at (A3 : Vec Ideal S1024x448 .f32) (i : Fin 64) (d : Fin 1024) :
    swapArr A3 (ix2 d i) = A3 (ix2 d ⟨384 + (i.val + 32) % 64, by omega⟩) := by
  pointwise [swapArr]
  by_cases h1 : i.val < 32
  · have e : 384 + (i.val + 32) % 64 = 384 + (32 + i.val) := by omega
    simp only [dif_pos h1, e]
  · have e : 384 + (i.val + 32) % 64 = 384 + (i.val - 32) := by omega
    simp only [dif_neg h1, e]
theorem wksArr_at (z : Vec Ideal S1024x64 .f32) (i : Fin 128) (d : Fin 1024) :
    wksArr z (ix2 i d) = if h : i.val < 64 then z (ix2 d ⟨i.val, h⟩) else 0 := by
  pointwise [wksArr]
  rw [pad0]
theorem rotArr_at (A5 : Vec Ideal S256x8x192 .f32) (k : Fin 256) (h : Fin 8) (i : Fin 64) :
    rotArr A5 (ix3 k h i) = A5 (ix3 k h ⟨128 + i.val, by omega⟩) := by
  pointwise [rotArr]
theorem rswapArr_at (z : Vec Ideal S256x8x64 .f32) (k : Fin 256) (h : Fin 8) (i : Fin 64) :
    rswapArr z (ix3 k h i) = z (ix3 k h ⟨(i.val + 32) % 64, by omega⟩) := by
  pointwise [rswapArr]
  by_cases h1 : i.val < 32
  · have e : (i.val + 32) % 64 = 32 + i.val := by omega
    simp only [dif_pos h1, e]
  · have e : (i.val + 32) % 64 = i.val - 32 := by omega
    simp only [dif_neg h1, e]
theorem rpadArr_at (z : Vec Ideal S256x8x64 .f32) (k : Fin 256) (h : Fin 8) (i : Fin 128) :
    rpadArr z (ix3 k h i) = if e : i.val < 64 then z (ix3 k h ⟨i.val, e⟩) else 0 := by
  pointwise [rpadArr]
  rw [pad0]
theorem flatArr_at (z : Vec Ideal S256x8x128 .f32) (k : Fin 256) (r : Fin 1024) :
    flatArr z (ix2 r k) = z (ix3 k ⟨r.val / 128, by omega⟩ ⟨r.val % 128, by omega⟩) := by
  pointwise [flatArr]

variable (m : (ℓ : Loc nD τ sig) → Buf (Elt Ideal) ℓ) (c : Dev nD)

theorem V_p (t : Fin 65536) : V m c main_v42 (ix2 0 t) = m (c, (main_arg1 : DevRef τ sig)) (ix1 t) := by
  simp only [V, hostOps0, hostOps0_1, hostOps0_2, hostOps0_3, hostOps0_4, hostOps0_5, hostOps0_6, hostOps0_7, hostOps0_8, List.flatten_cons, List.flatten_nil, List.append_nil, List.cons_append, List.nil_append]
  after_results
  pointwise
theorem V_n (d : Fin 1024) : V m c main_v43 (ix2 0 d) = m (c, (main_arg2 : DevRef τ sig)) (ix1 d) := by
  simp only [V, hostOps0, hostOps0_1, hostOps0_2, hostOps0_3, hostOps0_4, hostOps0_5, hostOps0_6, hostOps0_7, hostOps0_8, List.flatten_cons, List.flatten_nil, List.append_nil, List.cons_append, List.nil_append]
  after_results
  pointwise
theorem V_qn (d : Fin 256) : V m c main_v44 (ix2 0 d) = m (c, (main_arg4 : DevRef τ sig)) (ix1 d) := by
  simp only [V, hostOps0, hostOps0_1, hostOps0_2, hostOps0_3, hostOps0_4, hostOps0_5, hostOps0_6, hostOps0_7, hostOps0_8, List.flatten_cons, List.flatten_nil, List.append_nil, List.cons_append, List.nil_append]
  after_results
  pointwise
theorem V_kn (d : Fin 128) : V m c main_v45 (ix2 d 0) = m (c, (main_arg6 : DevRef τ sig)) (ix1 d) := by
  simp only [V, hostOps0, hostOps0_1, hostOps0_2, hostOps0_3, hostOps0_4, hostOps0_5, hostOps0_6, hostOps0_7, hostOps0_8, List.flatten_cons, List.flatten_nil, List.append_nil, List.cons_append, List.nil_append]
  after_results
  pointwise
theorem V_wq (d : Fin 1024) (j : Fin 256) : V m c main_v2 (ix2 d j) = m (c, (main_arg3 : DevRef τ sig)) (ix2 d ⟨j.val, by omega⟩) := by
  simp only [V, hostOps0, hostOps0_1, hostOps0_2, hostOps0_3, hostOps0_4, hostOps0_5, hostOps0_6, hostOps0_7, hostOps0_8, List.flatten_cons, List.flatten_nil, List.append_nil, List.cons_append, List.nil_append]
  after_results
  pointwise
theorem V_uk (h : Fin 8) (i n : Fin 128) : V m c main_v30 (ix3 h i n) = m (c, (main_arg7 : DevRef τ sig)) (ix3 i h n) := by
  simp only [V, hostOps0, hostOps0_1, hostOps0_2, hostOps0_3, hostOps0_4, hostOps0_5, hostOps0_6, hostOps0_7, hostOps0_8, List.flatten_cons, List.flatten_nil, List.append_nil, List.cons_append, List.nil_append]
  after_results
  pointwise
theorem V_wqn (r : Fin 1024) (k : Fin 256) : V m c main_v16 (ix2 r k) = m (c, (main_arg5 : DevRef τ sig)) (ix3 k ⟨r.val / 128, by omega⟩ ⟨r.val % 128, by omega⟩) := by
  simp only [V, hostOps0, hostOps0_1, hostOps0_2, hostOps0_3, hostOps0_4, hostOps0_5, hostOps0_6, hostOps0_7, hostOps0_8, List.flatten_cons, List.flatten_nil, List.append_nil, List.cons_append, List.nil_append]
  after_results
  pointwise
theorem V_kv : V m c main_v6 = wkvArr (m (c, (main_arg3 : DevRef τ sig))) := by
  simp only [V, hostOps0, hostOps0_1, hostOps0_2, hostOps0_3, hostOps0_4, hostOps0_5, hostOps0_6, hostOps0_7, hostOps0_8, List.flatten_cons, List.flatten_nil, List.append_nil, List.cons_append, List.nil_append]
  after_results
  rfl
theorem V_ks : V m c main_v12 = wksArr (swapArr (m (c, (main_arg3 : DevRef τ sig)))) := by
  simp only [V, hostOps0, hostOps0_1, hostOps0_2, hostOps0_3, hostOps0_4, hostOps0_5, hostOps0_6, hostOps0_7, hostOps0_8, List.flatten_cons, List.flatten_nil, List.append_nil, List.cons_append, List.nil_append]
  after_results
  rfl
theorem V_wqr : V m c main_v21 = flatArr (rpadArr (rotArr (m (c, (main_arg5 : DevRef τ sig))))) := by
  simp only [V, hostOps0, hostOps0_1, hostOps0_2, hostOps0_3, hostOps0_4, hostOps0_5, hostOps0_6, hostOps0_7, hostOps0_8, List.flatten_cons, List.flatten_nil, List.append_nil, List.cons_append, List.nil_append]
  after_results
  rfl
theorem V_wqs : V m c main_v28 = flatArr (rpadArr (rswapArr (rotArr (m (c, (main_arg5 : DevRef τ sig)))))) := by
  simp only [V, hostOps0, hostOps0_1, hostOps0_2, hostOps0_3, hostOps0_4, hostOps0_5, hostOps0_6, hostOps0_7, hostOps0_8, List.flatten_cons, List.flatten_nil, List.append_nil, List.cons_append, List.nil_append]
  after_results
  rfl
theorem freqCol_at (f : Fin 32) : (shapeCast S32x1 freq shapeCasts_S32_S32x1 : FVec Ideal S32x1 .f32) (ix2 f 0) = freq (ix1 f) := by
  generalize freq = w
  pointwise
theorem V_f : V m c main_v46 = (shapeCast S32x1 freq shapeCasts_S32_S32x1 : FVec Ideal S32x1 .f32) := by
  simp only [V, hostOps0, hostOps0_1, hostOps0_2, hostOps0_3, hostOps0_4, hostOps0_5, hostOps0_6, hostOps0_7, hostOps0_8, List.flatten_cons, List.flatten_nil, List.append_nil, List.cons_append, List.nil_append]
  after_results
  rfl
end Cert.Proof.Mla
end
-- ==== Proof.MlaArr.lean ====
module

public import proofs.«01_k».proof.Proof.MlaAt
public import Idealize.ShloMosaic.Lib.Pipeline.ValueKit
public import Idealize.ShloMosaic.Lib.Pipeline.Covers

@[expose] public section
set_option maxRecDepth 16384

/-! The result arrays of the attention's projections, as functions of the arguments. -/

noncomputable section
namespace Cert.Proof.Mla
open Cert.Kernel5Ideal Cert.Kernel5Ideal.Gen
open Idealize.ShloMosaic Idealize.ShloMosaic.TcCoe Idealize.SL.Sem

section spec
variable (A0 : Vec Ideal S65536x1024 .f32) (A1 : Vec Ideal S65536 .i32) (A2 : Vec Ideal S1024 .f32) (A3 : Vec Ideal S1024x448 .f32)
  (A4 : Vec Ideal S256 .f32) (A5 : Vec Ideal S256x8x192 .f32) (A6 : Vec Ideal S128 .f32) (A7 : Vec Ideal S128x8x128 .f32) (t : Fin 65536)
/-- One token's normalized input. -/
def nrmAt (d : Fin 1024) : EReal := gnorm 0x44800000#32 (fun k => A0 (ix2 t k)) (fun k => A2 (ix1 k)) d
/-- One projection of one token. -/
def uAt (j : Fin 448) : EReal := ∑ d : Fin 1024, nrmAt A0 A2 t d * A3 (ix2 d j)
/-- The queries' latents of one token. -/
def cqAt (i : Fin 256) : EReal := gnorm 0x43800000#32 (fun k : Fin 256 => uAt A0 A2 A3 t ⟨k.val, by omega⟩) (fun k => A4 (ix1 k)) i
/-- The latents of one token. -/
def latAt (i : Fin 128) : EReal := gnorm 0x43000000#32 (fun k : Fin 128 => uAt A0 A2 A3 t ⟨256 + k.val, by omega⟩) (fun k => A6 (ix1 k)) i
/-- The queries of one token. -/
def queAt (h : Fin 8) (e : Fin 192) : EReal := ∑ k : Fin 256, cqAt A0 A2 A3 A4 t k * A5 (ix3 k h e)
/-- One token's angles. -/
def angAt (f : Fin 32) : EReal := (FloatOps.sitofp (F := Ideal) .f32 (A1 (ix1 t) : BitVec 32) : EReal) * freq (ix1 f)
/-- The rotary embedding at one token's place. -/
def rotAt (y : Fin 64 → EReal) (i : Fin 64) : EReal := rope y (fun f => Ideal.cos (angAt A1 t f)) (fun f => Ideal.sin (angAt A1 t f)) i
/-- One token's key. -/
def keyAt (i : Fin 256) : EReal := if h : i.val < 128 then latAt A0 A2 A3 A6 t ⟨i.val, h⟩
  else if h2 : i.val - 128 < 64 then rotAt A1 t (fun k => uAt A0 A2 A3 t ⟨384 + k.val, by omega⟩) ⟨i.val - 128, h2⟩ else 0
/-- One token's query of one head, against the latents and the key's rotary part. -/
def qryAt (h : Fin 8) (i : Fin 256) : EReal := (if e : i.val < 128 then ∑ n : Fin 128, A7 (ix3 ⟨i.val, e⟩ h n) * queAt A0 A2 A3 A4 A5 t h ⟨n.val, by omega⟩
  else if h2 : i.val - 128 < 64 then rotAt A1 t (fun k => queAt A0 A2 A3 A4 A5 t h ⟨128 + k.val, by omega⟩) ⟨i.val - 128, h2⟩ else 0) * Ideal.ofBits .f32 0x3DD53B95#32
/-- One token's value, with ones below it. -/
def valAt (i : Fin 144) : EReal := if h : i.val < 128 then latAt A0 A2 A3 A6 t ⟨i.val, h⟩ else Ideal.ofBits .f32 0x3F800000#32
def qRes : Vec Ideal S128x2048x512 .bf16 := fun y =>
  qryAt A0 A1 A2 A3 A4 A5 A7 ⟨(y 0).val * 512 + (y 2).val, by have h0 : (y 0).val < 128 := (y 0).isLt; have h2 : (y 2).val < 512 := (y 2).isLt; omega⟩
    ⟨(y 1).val / 256, by have h1 : (y 1).val < 2048 := (y 1).isLt; omega⟩ ⟨(y 1).val % 256, Nat.mod_lt _ (by decide)⟩
def kRes : Vec Ideal S65536x256 .bf16 := fun y => keyAt A0 A1 A2 A3 A6 ⟨(y 0).val, (y 0).isLt⟩ ⟨(y 1).val, (y 1).isLt⟩
def vRes : Vec Ideal S128x144x512 .bf16 := fun y =>
  valAt A0 A2 A3 A6 ⟨(y 0).val * 512 + (y 2).val, by have h0 : (y 0).val < 128 := (y 0).isLt; have h2 : (y 2).val < 512 := (y 2).isLt; omega⟩ ⟨(y 1).val, (y 1).isLt⟩
end spec

variable (m : (ℓ : Loc nD τ sig) → Buf (Elt Ideal) ℓ) (c : Dev nD)

theorem idx_facts : ∀ t : Fin cfg0.N, win0_0.index t = ![(grid0.coords t 0).val, 0] ∧ win0_1.index t = ![0, (grid0.coords t 0).val] ∧ win0_2.index t = ![0, 0]
    ∧ win0_3.index t = ![0, 0] ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![0, 0, 0] ∧ win0_12.index t = ![0, 0] := by decide +kernel
theorem out_facts : ∀ t : Fin cfg0.N, win0_13.index t = ![(grid0.coords t 0).val, 0, 0] ∧ win0_14.index t = ![(grid0.coords t 0).val, 0]
    ∧ win0_15.index t = ![(grid0.coords t 0).val, 0, 0] := by decide +kernel

section blk
variable (t : Fin cfg0.N)
theorem blk_x (r : Fin 512) (k : Fin 1024) (g : Fin 65536) (hg : g.val = (grid0.coords t 0).val * 512 + r.val) :
    iblk m c 0 t (ix2 r k) = V m c main_arg0 (ix2 g k) := by
  have e := (idx_facts t).1
  generalize (grid0.coords t 0).val = b at e hg
  blk_ext [iblk, e]
theorem blk_p (r : Fin 512) (g : Fin 65536) (hg : g.val = (grid0.coords t 0).val * 512 + r.val) :
    iblk m c 1 t (ix2 0 r) = V m c main_v42 (ix2 0 g) := by
  have e := (idx_facts t).2.1
  generalize (grid0.coords t 0).val = b at e hg
  blk_ext [iblk, e]
theorem blk_n (k : Fin 1024) : iblk m c 2 t (ix2 0 k) = V m c main_v43 (ix2 0 k) := by
  have e := (idx_facts t).2.2.1
  blk_ext [iblk, e]
theorem blk_wq (d : Fin 1024) (j : Fin 256) : iblk m c 3 t (ix2 d j) = V m c main_v2 (ix2 d j) := by
  have e := (idx_facts t).2.2.2.1
  blk_ext [iblk, e]
theorem blk_kv (i : Fin 256) (d : Fin 1024) : iblk m c 4 t (ix2 i d) = V m c main_v6 (ix2 i d) := by
  have e := (idx_facts t).2.2.2.2.1
  blk_ext [iblk, e]
theorem blk_ks (i : Fin 128) (d : Fin 1024) : iblk m c 5 t (ix2 i d) = V m c main_v12 (ix2 i d) := by
  have e := (idx_facts t).2.2.2.2.2.1
  blk_ext [iblk, e]
theorem blk_qn (k : Fin 256) : iblk m c 6 t (ix2 0 k) = V m c main_v44 (ix2 0 k) := by
  have e := (idx_facts t).2.2.2.2.2.2.1
  blk_ext [iblk, e]
theorem blk_kn (k : Fin 128) : iblk m c 7 t (ix2 k 0) = V m c main_v45 (ix2 k 0) := by
  have e := (idx_facts t).2.2.2.2.2.2.2.1
  blk_ext [iblk, e]
theorem blk_wqn (r : Fin 1024) (k : Fin 256) : iblk m c 8 t (ix2 r k) = V m c main_v16 (ix2 r k) := by
  have e := (idx_facts t).2.2.2.2.2.2.2.2.1
  blk_ext [iblk, e]
theorem blk_wqr (r : Fin 1024) (k : Fin 256) : iblk m c 9 t (ix2 r k) = V m c main_v21 (ix2 r k) := by
  have e := (idx_facts t).2.2.2.2.2.2.2.2.2.1
  blk_ext [iblk, e]
theorem blk_wqs (r : Fin 1024) (k : Fin 256) : iblk m c 10 t (ix2 r k) = V m c main_v28 (ix2 r k) := by
  have e := (idx_facts t).2.2.2.2.2.2.2.2.2.2.1
  blk_ext [iblk, e]
theorem blk_uk (h : Fin 8) (i n : Fin 128) : iblk m c 11 t (ix3 h i n) = V m c main_v30 (ix3 h i n) := by
  have e := (idx_facts t).2.2.2.2.2.2.2.2.2.2.2.1
  blk_ext [iblk, e]
theorem blk_f (f : Fin 32) : iblk m c 12 t (ix2 f 0) = V m c main_v46 (ix2 f 0) := by
  have e := (idx_facts t).2.2.2.2.2.2.2.2.2.2.2.2
  blk_ext [iblk, e]
end blk

section point
variable (t : Fin cfg0.N)
/-- The normalized rows of a grid point's block. -/
def nB : FVec Ideal S512x1024 .bf16 := k0_pay2 (F := Ideal) (iblk m c 0 t) (iblk m c 2 t)
/-- The queries' latents of a grid point's block. -/
def cqB : FVec Ideal S512x256 .bf16 := k0_pay3 (F := Ideal) (iblk m c 0 t) (iblk m c 2 t) (iblk m c 3 t) (iblk m c 6 t)
/-- The latents of a grid point's block and the key's rotary part, not yet normalized, turned. -/
def kvB : FVec Ideal S256x512 .f32 := k0_pay4 (F := Ideal) (iblk m c 0 t) (iblk m c 2 t) (iblk m c 4 t)
variable (s : Fin 512) (g : Fin 65536) (hg : g.val = (grid0.coords t 0).val * 512 + s.val)
include hg
theorem norm_blk (d : Fin 1024) : nB m c t (ix2 s d) = nrmAt (m (c, (main_arg0 : DevRef τ sig))) (m (c, (main_arg2 : DevRef τ sig))) g d := by
  refine (norm_at _ _ s d).trans (gnorm_congr _ d (fun k => ?_) fun k => ?_)
  · rw [blk_x m c t s k g hg]
    exact congrFun (V_main_arg0 m c) _
  · rw [blk_n, V_n]
theorem cq_blk (i : Fin 256) : cqB m c t (ix2 s i) = cqAt (m (c, (main_arg0 : DevRef τ sig))) (m (c, (main_arg2 : DevRef τ sig))) (m (c, (main_arg3 : DevRef τ sig))) (m (c, (main_arg4 : DevRef τ sig))) g i := by
  refine (qlat_at _ _ s _ _ i).trans (gnorm_congr _ i (fun k => ?_) fun k => ?_)
  · refine Finset.sum_congr rfl fun d _ => ?_
    rw [blk_wq, V_wq]
    exact congrArg (· * _) (norm_blk m c t s g hg d)
  · rw [blk_qn, V_qn]
theorem kv_blk (i : Fin 256) : kvB m c t (ix2 i s) = if h : i.val < 192 then uAt (m (c, (main_arg0 : DevRef τ sig))) (m (c, (main_arg2 : DevRef τ sig))) (m (c, (main_arg3 : DevRef τ sig))) g ⟨256 + i.val, by omega⟩ else 0 := by
  refine (kv_at _ _ s _ i).trans (sum_dite _ _ _ (nrmAt (m (c, (main_arg0 : DevRef τ sig))) (m (c, (main_arg2 : DevRef τ sig))) g) (fun h d => (m (c, (main_arg3 : DevRef τ sig))) (ix2 d ⟨256 + i.val, by omega⟩)) (fun d => ?_) (fun d => norm_blk m c t s g hg d))
  rw [blk_kv, V_kv, wkvArr_at]
theorem lat_blk (i : Fin 128) : k0_pay6 (F := Ideal) (kvB m c t) (iblk m c 7 t) (ix2 i s) = latAt (m (c, (main_arg0 : DevRef τ sig))) (m (c, (main_arg2 : DevRef τ sig))) (m (c, (main_arg3 : DevRef τ sig))) (m (c, (main_arg6 : DevRef τ sig))) g i := by
  refine (lat_at s _ _ i).trans (gnorm_congr _ i (fun k => ?_) fun k => ?_)
  · rw [kv_blk m c t s g hg, dif_pos (show k.val < 192 by omega)]
  · rw [blk_kn, V_kn]
theorem ang_blk (f : Fin 32) : k0_pay7 (F := Ideal) (iblk m c 12 t) (iblk m c 1 t) (ix2 f s) = angAt (m (c, (main_arg1 : DevRef τ sig))) g f := by
  refine (ang_at s _ _ f).trans ?_
  unfold angAt
  rw [blk_f, V_f, freqCol_at, blk_p m c t s g hg, V_p, mul_comm]
theorem cos_blk (i : Fin 128) : k0_pay8 (F := Ideal) (iblk m c 12 t) (iblk m c 1 t) (ix2 i s) = Ideal.cos (angAt (m (c, (main_arg1 : DevRef τ sig))) g ⟨i.val % 32, Nat.mod_lt _ (by omega)⟩) := by
  refine (cos_at s _ _ i).trans ?_
  rw [ang_blk m c t s g hg]
theorem sin_blk (i : Fin 128) : k0_pay9 (F := Ideal) (iblk m c 12 t) (iblk m c 1 t) (ix2 i s)
    = if i.val % 64 < 32 then 0 - Ideal.sin (angAt (m (c, (main_arg1 : DevRef τ sig))) g ⟨i.val % 32, Nat.mod_lt _ (by omega)⟩) else Ideal.sin (angAt (m (c, (main_arg1 : DevRef τ sig))) g ⟨i.val % 32, Nat.mod_lt _ (by omega)⟩) := by
  refine (sin_at s _ _ i).trans ?_
  rw [ang_blk m c t s g hg]
theorem ks_blk (i : Fin 128) : (∑ d : Fin 1024, k0_pay5 (F := Ideal) (iblk m c 5 t) (ix2 i d) * nB m c t (ix2 s d))
    = if h : i.val < 64 then uAt (m (c, (main_arg0 : DevRef τ sig))) (m (c, (main_arg2 : DevRef τ sig))) (m (c, (main_arg3 : DevRef τ sig))) g ⟨384 + (i.val + 32) % 64, by omega⟩ else 0 := by
  refine sum_dite _ _ _ (nrmAt (m (c, (main_arg0 : DevRef τ sig))) (m (c, (main_arg2 : DevRef τ sig))) g) (fun h d => (m (c, (main_arg3 : DevRef τ sig))) (ix2 d ⟨384 + (i.val + 32) % 64, by omega⟩)) (fun d => ?_) (fun d => norm_blk m c t s g hg d)
  refine (same_at _ i d).trans ((blk_ks m c t i d).trans ?_)
  rw [V_ks, wksArr_at]
  simp only [swapArr_at]
/-- The key's block. -/
theorem key_pt (i : Fin 256) : k0_pay10 (F := Ideal) (nB m c t) (kvB m c t) (k0_pay5 (F := Ideal) (iblk m c 5 t)) (iblk m c 7 t) (iblk m c 12 t) (iblk m c 1 t) (ix2 s i)
    = keyAt (m (c, (main_arg0 : DevRef τ sig))) (m (c, (main_arg1 : DevRef τ sig))) (m (c, (main_arg2 : DevRef τ sig))) (m (c, (main_arg3 : DevRef τ sig))) (m (c, (main_arg6 : DevRef τ sig))) g i := by
  refine (k_at s _ _ _ _ _ _ i).trans ?_
  unfold keyAt
  by_cases h : i.val < 128
  · rw [dif_pos h, dif_pos h, lat_blk m c t s g hg]
  · rw [dif_neg h, dif_neg h]
    refine rope_pad (fun k => uAt (m (c, (main_arg0 : DevRef τ sig))) (m (c, (main_arg2 : DevRef τ sig))) (m (c, (main_arg3 : DevRef τ sig))) g ⟨384 + k.val, by omega⟩) _ _ _ _ _ _ (⟨i.val - 128, by omega⟩ : Fin 128) ?_ (ks_blk m c t s g hg _)
      (cos_blk m c t s g hg _) (sin_blk m c t s g hg _)
    rw [kv_blk m c t s g hg]
    by_cases h2 : i.val - 128 < 64
    · have e : 256 + (128 + (i.val - 128)) = 384 + (i.val - 128) := by omega
      rw [dif_pos (show 128 + (i.val - 128) < 192 by omega), dif_pos h2]
      simp only [e]
    · rw [dif_neg (show ¬128 + (i.val - 128) < 192 by omega), dif_neg h2]
/-- The value's block. -/
theorem val_pt (i : Fin 144) : k0_pay12 (F := Ideal) (k0_pay11 (kvB m c t) (iblk m c 7 t)) (ix3 0 i s) = valAt (m (c, (main_arg0 : DevRef τ sig))) (m (c, (main_arg2 : DevRef τ sig))) (m (c, (main_arg3 : DevRef τ sig))) (m (c, (main_arg6 : DevRef τ sig))) g i := by
  refine (v_at s _ _ i).trans ?_
  unfold valAt
  by_cases h : i.val < 128
  · rw [dif_pos h, dif_pos h, lat_blk m c t s g hg]
  · rw [dif_neg h, dif_neg h]
theorem qn_blk (h : Fin 8) (i : Fin 128) (r : Fin 1024) (hr : r.val = 128 * h.val + i.val) :
    k0_pay13 (F := Ideal) (cqB m c t) (iblk m c 8 t) (ix2 r s) = queAt (m (c, (main_arg0 : DevRef τ sig))) (m (c, (main_arg2 : DevRef τ sig))) (m (c, (main_arg3 : DevRef τ sig))) (m (c, (main_arg4 : DevRef τ sig))) (m (c, (main_arg5 : DevRef τ sig))) g h ⟨i.val, by omega⟩ := by
  refine (qn_at s _ _ r).trans ?_
  unfold queAt
  refine Finset.sum_congr rfl fun k _ => ?_
  have e1 : r.val / 128 = h.val := by omega
  have e2 : r.val % 128 = i.val := by omega
  rw [blk_wqn, V_wqn, cq_blk m c t s g hg, mul_comm]
  simp only [e1, e2]
theorem qr_blk (h : Fin 8) (i : Fin 128) (r : Fin 1024) (hr : r.val = 128 * h.val + i.val) :
    k0_pay14 (F := Ideal) (cqB m c t) (iblk m c 9 t) (ix2 r s)
      = if e : i.val < 64 then queAt (m (c, (main_arg0 : DevRef τ sig))) (m (c, (main_arg2 : DevRef τ sig))) (m (c, (main_arg3 : DevRef τ sig))) (m (c, (main_arg4 : DevRef τ sig))) (m (c, (main_arg5 : DevRef τ sig))) g h ⟨128 + i.val, by omega⟩ else 0 := by
  have e1 : r.val / 128 = h.val := by omega
  have e2 : r.val % 128 = i.val := by omega
  refine (qr_at s _ _ r).trans (sum_dite _ _ _ (cqAt (m (c, (main_arg0 : DevRef τ sig))) (m (c, (main_arg2 : DevRef τ sig))) (m (c, (main_arg3 : DevRef τ sig))) (m (c, (main_arg4 : DevRef τ sig))) g) (fun e k => (m (c, (main_arg5 : DevRef τ sig))) (ix3 k h ⟨128 + i.val, by omega⟩)) (fun k => ?_) (fun k => cq_blk m c t s g hg k))
  rw [blk_wqr, V_wqr, flatArr_at, rpadArr_at]
  simp only [rotArr_at, e1, e2]
theorem qs_blk (h : Fin 8) (i : Fin 128) (r : Fin 1024) (hr : r.val = 128 * h.val + i.val) :
    k0_pay15 (F := Ideal) (cqB m c t) (iblk m c 10 t) (ix2 r s)
      = if e : i.val < 64 then queAt (m (c, (main_arg0 : DevRef τ sig))) (m (c, (main_arg2 : DevRef τ sig))) (m (c, (main_arg3 : DevRef τ sig))) (m (c, (main_arg4 : DevRef τ sig))) (m (c, (main_arg5 : DevRef τ sig))) g h ⟨128 + (i.val + 32) % 64, by omega⟩ else 0 := by
  have e1 : r.val / 128 = h.val := by omega
  have e2 : r.val % 128 = i.val := by omega
  refine (qs_at s _ _ r).trans (sum_dite _ _ _ (cqAt (m (c, (main_arg0 : DevRef τ sig))) (m (c, (main_arg2 : DevRef τ sig))) (m (c, (main_arg3 : DevRef τ sig))) (m (c, (main_arg4 : DevRef τ sig))) g) (fun e k => (m (c, (main_arg5 : DevRef τ sig))) (ix3 k h ⟨128 + (i.val + 32) % 64, by omega⟩)) (fun k => ?_) (fun k => cq_blk m c t s g hg k))
  rw [blk_wqs, V_wqs, flatArr_at, rpadArr_at]
  simp only [rswapArr_at, rotArr_at, e1, e2]
end point

section out
/-- A block of queries: by head, first against the latents, then the rotary part. -/
def qBlk (Q : FVec Ideal S1024x512 .bf16) (R T : FVec Ideal S1024x512 .f32) (co si : FVec Ideal S128x512 .f32) (w : Vec Ideal S8x128x128 .bf16) (h : Fin 8) (i : Fin 256) (s : Fin 512) : EReal :=
  (if e : i.val < 128 then ∑ n : Fin 128, w (ix3 h ⟨i.val, e⟩ n) * Q (ix2 ⟨128 * h.val + n.val, by omega⟩ s)
    else R (ix2 ⟨128 * h.val + (i.val - 128), by omega⟩ s) * co (ix2 ⟨i.val - 128, by omega⟩ s)
      + T (ix2 ⟨128 * h.val + (i.val - 128), by omega⟩ s) * si (ix2 ⟨i.val - 128, by omega⟩ s)) * Ideal.ofBits .f32 0x3DD53B95#32
variable (Q : FVec Ideal S1024x512 .bf16) (R T : FVec Ideal S1024x512 .f32) (co si : FVec Ideal S128x512 .f32) (w : Vec Ideal S8x128x128 .bf16)
/-- The same as an array. -/
def qArr : Vec Ideal S1x2048x512 .bf16 := fun y => qBlk Q R T co si w ⟨(y 1).val / 256, by have h1 : (y 1).val < 2048 := (y 1).isLt; omega⟩
  ⟨(y 1).val % 256, Nat.mod_lt _ (by decide)⟩ ⟨(y 2).val, (y 2).isLt⟩
theorem ix_eq3 {n k : ℕ} (y : (⟨3, ![1, n, k]⟩ : Shape).Idx) : y = ix3 0 ⟨(y 1).val, (y 1).isLt⟩ ⟨(y 2).val, (y 2).isLt⟩ := by
  funext a
  match a with
  | ⟨0, _⟩ => exact Fin.ext (by have h : (y 0).val < 1 := (y 0).isLt; show (y 0).val = 0; omega)
  | ⟨1, _⟩ => rfl
  | ⟨2, _⟩ => rfl
theorem qArr_eq (y : S1x2048x512.Idx) (h : Fin 8) (i : Fin 256) (s : Fin 512) (e1 : (y 1).val = 256 * h.val + i.val) (e2 : (y 2).val = s.val) :
    qArr Q R T co si w y = qBlk Q R T co si w h i s := by
  unfold qArr
  congr 1
  · exact Fin.ext (by show (y 1).val / 256 = h.val; omega)
  · exact Fin.ext (by show (y 1).val % 256 = i.val; omega)
  · exact Fin.ext e2
theorem lat_piece (h : Fin 8) (p : Vec Ideal S1x128x512 .bf16) (o : ℕ) (inb : ∀ a, (![0, o, 0] : Fin 3 → Nat) a + S1x128x512.size a ≤ S1x2048x512.size a) (ho : o = 256 * h.val)
    (l : Vec Ideal S1x128x128 .bf16) (hl : ∀ i n : Fin 128, l (ix3 0 i n) = w (ix3 h i n))
    (hp : ∀ (i : Fin 128) (s : Fin 512), p (ix3 0 i s) = (∑ n : Fin 128, l (ix3 0 i n) * Q (ix2 ⟨128 * h.val + n.val, by omega⟩ s)) * Ideal.ofBits .f32 0x3DD53B95#32)
    (x : S1x128x512.Idx) : p x = qArr Q R T co si w ((Rect.unit (s := S1x2048x512) ![0, o, 0] S1x128x512.size inb).emb x) := by
  have h1 : (x 1).val < 128 := (x 1).isLt
  rw [qArr_eq Q R T co si w _ h ⟨(x 1).val, by omega⟩ ⟨(x 2).val, (x 2).isLt⟩ (by show o + 1 * (x 1).val = 256 * h.val + (x 1).val; omega) (by show 0 + 1 * (x 2).val = (x 2).val; omega)]
  refine (congrArg p (ix_eq3 x)).trans ((hp _ _).trans ?_)
  unfold qBlk
  rw [dif_pos h1]
  exact congrArg (· * _) (Finset.sum_congr rfl fun n _ => congrArg (· * _) (hl _ _))
theorem rope_piece (h : Fin 8) (p : Vec Ideal S1x128x512 .bf16) (o : ℕ) (inb : ∀ a, (![0, o, 0] : Fin 3 → Nat) a + S1x128x512.size a ≤ S1x2048x512.size a) (ho : o = 256 * h.val + 128)
    (hp : ∀ (i : Fin 128) (s : Fin 512), p (ix3 0 i s) = (R (ix2 ⟨128 * h.val + i.val, by omega⟩ s) * co (ix2 i s)
      + T (ix2 ⟨128 * h.val + i.val, by omega⟩ s) * si (ix2 i s)) * Ideal.ofBits .f32 0x3DD53B95#32)
    (x : S1x128x512.Idx) : p x = qArr Q R T co si w ((Rect.unit (s := S1x2048x512) ![0, o, 0] S1x128x512.size inb).emb x) := by
  have h1 : (x 1).val < 128 := (x 1).isLt
  rw [qArr_eq Q R T co si w _ h ⟨128 + (x 1).val, by omega⟩ ⟨(x 2).val, (x 2).isLt⟩ (by show o + 1 * (x 1).val = 256 * h.val + (128 + (x 1).val); omega) (by show 0 + 1 * (x 2).val = (x 2).val; omega)]
  refine (congrArg p (ix_eq3 x)).trans ((hp _ _).trans ?_)
  unfold qBlk
  rw [dif_neg (show ¬128 + (x 1).val < 128 by omega)]
  have e : 128 + (x 1).val - 128 = (x 1).val := by omega
  simp only [e]
  rfl
theorem ld_w (h : Fin 8) (inb : ∀ a, (![h.val, 0, 0] : Fin 3 → Nat) a + S1x128x128.size a ≤ S8x128x128.size a) (i n : Fin 128) :
    (View.ld w (Rect.unit (s := S8x128x128) ![h.val, 0, 0] S1x128x128.size inb) : Vec Ideal S1x128x128 .bf16) (ix3 0 i n) = w (ix3 h i n) := by
  refine congrArg w (funext fun a => ?_)
  match a with
  | ⟨0, _⟩ => exact Fin.ext (by show h.val + 1 * 0 = h.val; omega)
  | ⟨1, _⟩ => exact Fin.ext (by show 0 + 1 * i.val = i.val; omega)
  | ⟨2, _⟩ => exact Fin.ext (by show 0 + 1 * n.val = n.val; omega)
theorem lat0' (q : Vec Ideal S512x256 .bf16) (v : Vec Ideal S1024x256 .bf16) (w : Vec Ideal S1x128x128 .bf16) (i : Fin 128) (s : Fin 512) : k0_pay16 q v w (ix3 0 i s)
    = (∑ n : Fin 128, w (ix3 0 i n) * k0_pay13 q v (ix2 ⟨128 * 0 + n.val, by omega⟩ s)) * Ideal.ofBits .f32 0x3DD53B95#32 := by
  have e : ∀ n : ℕ, 128 * 0 + n = n := fun n => by omega
  rw [lat0]
  simp only [e]
theorem rope0' (q : Vec Ideal S512x256 .bf16) (v u : Vec Ideal S1024x256 .bf16) (i : Fin 128) (s : Fin 512) : k0_pay17 q co si v u (ix3 0 i s)
    = (k0_pay14 q v (ix2 ⟨128 * 0 + i.val, by omega⟩ s) * co (ix2 i s) + k0_pay15 q u (ix2 ⟨128 * 0 + i.val, by omega⟩ s) * si (ix2 i s)) * Ideal.ofBits .f32 0x3DD53B95#32 := by
  have e : 128 * 0 + i.val = i.val := by omega
  rw [rope0]
  simp only [e]
theorem zero2 : (![0, 0] : Fin 2 → Nat) = fun _ => 0 := by decide
theorem zero3 : (![0, 0, 0] : Fin 3 → Nat) = fun _ => 0 := by decide
end out

section whole
variable (x0 : Vec Ideal S512x1024 .f32) (x1 : Vec Ideal S1x512 .i32) (x2 : Vec Ideal S1x1024 .f32) (x3 : Vec Ideal S1024x256 .bf16) (x4 : Vec Ideal S256x1024 .bf16)
  (x5 : Vec Ideal S128x1024 .bf16) (x6 : Vec Ideal S1x256 .f32) (x7 : Vec Ideal S128x1 .f32) (x8 x9 x10 : Vec Ideal S1024x256 .bf16) (x11 : Vec Ideal S8x128x128 .bf16) (x12 : Vec Ideal S32x1 .f32)
theorem out_k : out0_14 x0 x1 x2 x3 x4 x5 x6 x7 x8 x9 x10 x11 x12 = k0_pay10 (F := Ideal) (k0_pay2 x0 x2) (k0_pay4 x0 x2 x4) (k0_pay5 x5) x7 x12 x1 := by
  unfold out0_14 k0_pay37
  simp only [View.canon_unit_zero (S := S512x256) zero2, View.ld_unit_zero (S := S512x1024) zero2, View.ld_unit_zero (S := S1x1024) zero2, View.ld_unit_zero (S := S1024x256) zero2, View.ld_unit_zero (S := S256x1024) zero2, View.ld_unit_zero (S := S128x1024) zero2, View.ld_unit_zero (S := S1x256) zero2, View.ld_unit_zero (S := S128x1) zero2, View.ld_unit_zero (S := S32x1) zero2, View.ld_unit_zero (S := S1x512) zero2]
theorem out_v : out0_15 x0 x1 x2 x3 x4 x5 x6 x7 x8 x9 x10 x11 x12 = k0_pay12 (F := Ideal) (k0_pay11 (k0_pay4 x0 x2 x4) x7) := by
  unfold out0_15 k0_pay37
  simp only [View.canon_unit_zero (S := S1x144x512) zero3, View.ld_unit_zero (S := S512x1024) zero2, View.ld_unit_zero (S := S1x1024) zero2, View.ld_unit_zero (S := S1024x256) zero2, View.ld_unit_zero (S := S256x1024) zero2, View.ld_unit_zero (S := S128x1024) zero2, View.ld_unit_zero (S := S1x256) zero2, View.ld_unit_zero (S := S128x1) zero2, View.ld_unit_zero (S := S32x1) zero2, View.ld_unit_zero (S := S1x512) zero2]
theorem out_q : out0_13 x0 x1 x2 x3 x4 x5 x6 x7 x8 x9 x10 x11 x12 = qArr (k0_pay13 (F := Ideal) (k0_pay3 x0 x2 x3 x6) x8) (k0_pay14 (k0_pay3 x0 x2 x3 x6) x9) (k0_pay15 (k0_pay3 x0 x2 x3 x6) x10)
    (k0_pay8 x12 x1) (k0_pay9 x12 x1) x11 := by
  unfold out0_13 k0_pay42 k0_pay41 k0_pay40 k0_pay39 k0_pay38 k0_pay36
  simp only [View.ld_unit_zero (S := S512x1024) zero2, View.ld_unit_zero (S := S1x1024) zero2, View.ld_unit_zero (S := S1024x256) zero2, View.ld_unit_zero (S := S256x1024) zero2, View.ld_unit_zero (S := S128x1024) zero2, View.ld_unit_zero (S := S1x256) zero2, View.ld_unit_zero (S := S128x1) zero2, View.ld_unit_zero (S := S32x1) zero2, View.ld_unit_zero (S := S1x512) zero2]
  generalize hq : k0_pay3 x0 x2 x3 x6 = q
  generalize k0_pay8 x12 x1 = co
  generalize k0_pay9 x12 x1 = si
  funext y
  refine View.canon_apply_of_pieces (qArr (k0_pay13 (F := Ideal) q x8) (k0_pay14 q x9) (k0_pay15 q x10) co si x11) _ (fun pc hpc => ?_) y (cover0_13 _ _ _ _ _ _ _ _ _ _ _ _ _ _ _ _ y)
  rcases List.mem_cons.mp hpc with rfl | hpc
  · exact rope_piece _ _ _ co si x11 7 _ 1920 inb_S1x2048x512_S1x128x512_0_1920_0 rfl fun i s => rope7 _ _ co si i s
  rcases List.mem_cons.mp hpc with rfl | hpc
  · exact lat_piece _ _ _ co si x11 7 _ 1792 inb_S1x2048x512_S1x128x512_0_1792_0 rfl _ (ld_w x11 7 inb_S8x128x128_S1x128x128_7_0_0) fun i s => lat7 _ _ i s
  rcases List.mem_cons.mp hpc with rfl | hpc
  · exact rope_piece _ _ _ co si x11 6 _ 1664 inb_S1x2048x512_S1x128x512_0_1664_0 rfl fun i s => rope6 _ _ co si i s
  rcases List.mem_cons.mp hpc with rfl | hpc
  · exact lat_piece _ _ _ co si x11 6 _ 1536 inb_S1x2048x512_S1x128x512_0_1536_0 rfl _ (ld_w x11 6 inb_S8x128x128_S1x128x128_6_0_0) fun i s => lat6 _ _ i s
  rcases List.mem_cons.mp hpc with rfl | hpc
  · exact rope_piece _ _ _ co si x11 5 _ 1408 inb_S1x2048x512_S1x128x512_0_1408_0 rfl fun i s => rope5 _ _ co si i s
  rcases List.mem_cons.mp hpc with rfl | hpc
  · exact lat_piece _ _ _ co si x11 5 _ 1280 inb_S1x2048x512_S1x128x512_0_1280_0 rfl _ (ld_w x11 5 inb_S8x128x128_S1x128x128_5_0_0) fun i s => lat5 _ _ i s
  rcases List.mem_cons.mp hpc with rfl | hpc
  · exact rope_piece _ _ _ co si x11 4 _ 1152 inb_S1x2048x512_S1x128x512_0_1152_0 rfl fun i s => rope4 _ _ co si i s
  rcases List.mem_cons.mp hpc with rfl | hpc
  · exact lat_piece _ _ _ co si x11 4 _ 1024 inb_S1x2048x512_S1x128x512_0_1024_0 rfl _ (ld_w x11 4 inb_S8x128x128_S1x128x128_4_0_0) fun i s => lat4 _ _ i s
  rcases List.mem_cons.mp hpc with rfl | hpc
  · exact rope_piece _ _ _ co si x11 3 _ 896 inb_S1x2048x512_S1x128x512_0_896_0 rfl fun i s => rope3 _ _ co si i s
  rcases List.mem_cons.mp hpc with rfl | hpc
  · exact lat_piece _ _ _ co si x11 3 _ 768 inb_S1x2048x512_S1x128x512_0_768_0 rfl _ (ld_w x11 3 inb_S8x128x128_S1x128x128_3_0_0) fun i s => lat3 _ _ i s
  rcases List.mem_cons.mp hpc with rfl | hpc
  · exact rope_piece _ _ _ co si x11 2 _ 640 inb_S1x2048x512_S1x128x512_0_640_0 rfl fun i s => rope2 _ _ co si i s
  rcases List.mem_cons.mp hpc with rfl | hpc
  · exact lat_piece _ _ _ co si x11 2 _ 512 inb_S1x2048x512_S1x128x512_0_512_0 rfl _ (ld_w x11 2 inb_S8x128x128_S1x128x128_2_0_0) fun i s => lat2 _ _ i s
  rcases List.mem_cons.mp hpc with rfl | hpc
  · exact rope_piece _ _ _ co si x11 1 _ 384 inb_S1x2048x512_S1x128x512_0_384_0 rfl fun i s => rope1 _ _ co si i s
  rcases List.mem_cons.mp hpc with rfl | hpc
  · exact lat_piece _ _ _ co si x11 1 _ 256 inb_S1x2048x512_S1x128x512_0_256_0 rfl _ (ld_w x11 1 inb_S8x128x128_S1x128x128_1_0_0) fun i s => lat1 _ _ i s
  rcases List.mem_cons.mp hpc with rfl | hpc
  · exact rope_piece _ _ _ co si x11 0 _ 128 inb_S1x2048x512_S1x128x512_0_128_0 rfl fun i s => rope0' co si q x9 x10 i s
  rcases List.mem_singleton.mp hpc with rfl
  · exact lat_piece _ _ _ co si x11 0 _ 0 inb_S1x2048x512_S1x128x512_0_0_0 rfl _ (ld_w x11 0 inb_S8x128x128_S1x128x128_0_0_0) fun i s => lat0' q x8 _ i s
end whole

variable {m c}
theorem qry_pt (t : Fin cfg0.N) (s : Fin 512) (g : Fin 65536) (hg : g.val = (grid0.coords t 0).val * 512 + s.val) (h : Fin 8) (i : Fin 256) :
    qBlk (k0_pay13 (F := Ideal) (cqB m c t) (iblk m c 8 t)) (k0_pay14 (cqB m c t) (iblk m c 9 t)) (k0_pay15 (cqB m c t) (iblk m c 10 t))
      (k0_pay8 (iblk m c 12 t) (iblk m c 1 t)) (k0_pay9 (iblk m c 12 t) (iblk m c 1 t)) (iblk m c 11 t) h i s
    = qryAt (m (c, (main_arg0 : DevRef τ sig))) (m (c, (main_arg1 : DevRef τ sig))) (m (c, (main_arg2 : DevRef τ sig))) (m (c, (main_arg3 : DevRef τ sig))) (m (c, (main_arg4 : DevRef τ sig))) (m (c, (main_arg5 : DevRef τ sig))) (m (c, (main_arg7 : DevRef τ sig))) g h i := by
  unfold qBlk
  refine congrArg (· * _) ?_
  by_cases e : i.val < 128
  · rw [dif_pos e, dif_pos e]
    refine Finset.sum_congr rfl fun n _ => ?_
    rw [qn_blk m c t s g hg h n _ rfl, blk_uk, V_uk]
  · rw [dif_neg e, dif_neg e]
    exact rope_pad (fun k => queAt (m (c, (main_arg0 : DevRef τ sig))) (m (c, (main_arg2 : DevRef τ sig))) (m (c, (main_arg3 : DevRef τ sig))) (m (c, (main_arg4 : DevRef τ sig))) (m (c, (main_arg5 : DevRef τ sig))) g h ⟨128 + k.val, by omega⟩) _ _ _ _ _ _ (⟨i.val - 128, by omega⟩ : Fin 128)
      (qr_blk m c t s g hg h ⟨i.val - 128, by omega⟩ _ rfl) (qs_blk m c t s g hg h ⟨i.val - 128, by omega⟩ _ rfl) (cos_blk m c t s g hg _) (sin_blk m c t s g hg _)

variable (m c)
theorem ix_eq {n k : ℕ} (y : (⟨2, ![n, k]⟩ : Shape).Idx) : y = ix2 ⟨(y 0).val, (y 0).isLt⟩ ⟨(y 1).val, (y 1).isLt⟩ := by
  funext a
  match a with
  | ⟨0, _⟩ => rfl
  | ⟨1, _⟩ => rfl

theorem arr_k : (dats m 0 c).arrAt 14 cfg0.N = kRes (m (c, (main_arg0 : DevRef τ sig))) (m (c, (main_arg1 : DevRef τ sig))) (m (c, (main_arg2 : DevRef τ sig))) (m (c, (main_arg3 : DevRef τ sig))) (m (c, (main_arg6 : DevRef τ sig))) := by
  refine (dats m 0 c).arrAt_eq_of_covers 14 _ (by decide +kernel) fun t hf y => ?_
  have e := (out_facts t).2.1
  have p0 : (((win0_14.blk t).view.emb y) 0 : ℕ) = (grid0.coords t 0).val * 512 + (y 0).val := by blk_simp [e]
  have p1 : (((win0_14.blk t).view.emb y) 1 : ℕ) = (y 1).val := by blk_simp [e]
  blk_simp
  rw [after0_14, out_k]
  refine (congrArg _ (ix_eq y)).trans ((key_pt m c t ⟨(y 0).val, (y 0).isLt⟩ ⟨_, ((win0_14.blk t).view.emb y 0).isLt⟩ p0 ⟨(y 1).val, (y 1).isLt⟩).trans ?_)
  unfold kRes
  exact congrArg _ (Fin.ext p1.symm)
theorem arr_v : (dats m 0 c).arrAt 15 cfg0.N = vRes (m (c, (main_arg0 : DevRef τ sig))) (m (c, (main_arg2 : DevRef τ sig))) (m (c, (main_arg3 : DevRef τ sig))) (m (c, (main_arg6 : DevRef τ sig))) := by
  refine (dats m 0 c).arrAt_eq_of_covers 15 _ (by decide +kernel) fun t hf y => ?_
  have e := (out_facts t).2.2
  have h0 : (y 0).val < 1 := (y 0).isLt
  have p0 : (((win0_15.blk t).view.emb y) 0 : ℕ) = (grid0.coords t 0).val := by blk_simp [e]
  have p1 : (((win0_15.blk t).view.emb y) 1 : ℕ) = (y 1).val := by blk_simp [e]
  have p2 : (((win0_15.blk t).view.emb y) 2 : ℕ) = (y 2).val := by blk_simp [e]
  blk_simp
  rw [after0_15, out_v]
  unfold vRes
  refine (congrArg _ (ix_eq3 y)).trans ((val_pt m c t ⟨(y 2).val, (y 2).isLt⟩ _ ?_ ⟨(y 1).val, (y 1).isLt⟩).trans (congrArg _ (Fin.ext p1.symm)))
  show _ * 512 + _ = _ * 512 + _
  rw [p0, p2]
theorem arr_q : (dats m 0 c).arrAt 13 cfg0.N = qRes (m (c, (main_arg0 : DevRef τ sig))) (m (c, (main_arg1 : DevRef τ sig))) (m (c, (main_arg2 : DevRef τ sig))) (m (c, (main_arg3 : DevRef τ sig))) (m (c, (main_arg4 : DevRef τ sig))) (m (c, (main_arg5 : DevRef τ sig))) (m (c, (main_arg7 : DevRef τ sig))) := by
  refine (dats m 0 c).arrAt_eq_of_covers 13 _ (by decide +kernel) fun t hf y => ?_
  have e := (out_facts t).1
  have h0 : (y 0).val < 1 := (y 0).isLt
  have p0 : (((win0_13.blk t).view.emb y) 0 : ℕ) = (grid0.coords t 0).val := by blk_simp [e]
  have p1 : (((win0_13.blk t).view.emb y) 1 : ℕ) = (y 1).val := by blk_simp [e]
  have p2 : (((win0_13.blk t).view.emb y) 2 : ℕ) = (y 2).val := by blk_simp [e]
  blk_simp
  rw [after0_13, out_q]
  unfold qRes qArr
  refine (qry_pt t ⟨(y 2).val, (y 2).isLt⟩ _ ?_ _ _).trans (congrArg₂ _ (Fin.ext ?_) (Fin.ext ?_))
  · show _ * 512 + _ = _ * 512 + _
    rw [p0, p2]
  · show (y 1).val / 256 = _ / 256
    rw [p1]
  · show (y 1).val % 256 = _ % 256
    rw [p1]
end Cert.Proof.Mla
end
-- ==== Proof.MlaRef.lean ====
module

public import proofs.«01_k».proof.Proof.Gen.Reference5Ideal.Run
public import proofs.«01_k».proof.Proof.MlaNum
public import Idealize.ShloMosaic.Lib.Pointwise

@[expose] public section
set_option maxRecDepth 16384

/-! What the reference of the attention's projections computes at one index. -/

noncomputable section
namespace Cert.Proof.Mla.Ref
open Cert.Reference5Ideal Cert.Reference5Ideal.Gen
open Idealize.ShloMosaic Idealize.ShloMosaic.TcCoe Idealize.ShloMosaic.StableHlo

variable (A0 : Vec Ideal S65536x1024 .f32) (A1 : Vec Ideal S65536 .i32) (A2 : Vec Ideal S1024 .f32) (A3 : Vec Ideal S1024x448 .f32)
  (A4 : Vec Ideal S256 .f32) (A5 : Vec Ideal S256x8x192 .f32) (A6 : Vec Ideal S128 .f32) (A7 : Vec Ideal S128x8x128 .f32)

/-- The frequencies of the rotary embedding. -/
def freq : FVec Ideal S32 .f32 :=
  Host.divf (broadcastInDim S32 ![] bcast_S_S32 (constant S_ .f32 0x3F800000#32)) (Host.powf (broadcastInDim S32 ![] bcast_S_S32 (constant S_ .f32 0x461C4000#32))
    (Host.divf (addf (broadcastInDim S32 ![] bcast_S_S32 (constant S_ .f32 0x00000000#32)) (mulf (broadcastInDim S32 ![] bcast_S_S32 (constant S_ .f32 0x40000000#32)) (sitofp .f32 (iotaInDim S32 32 0))))
      (broadcastInDim S32 ![] bcast_S_S32 (constant S_ .f32 0x42800000#32))))
/-- The angles. -/
def ang : FVec Ideal S65536x32 .f32 :=
  mulf (broadcastInDim S65536x32 ![0, 1] bcast_S65536x1_S65536x32_0_1 (broadcastInDim S65536x1 ![0] bcast_S65536_S65536x1_0 (sitofp .f32 A1 : FVec Ideal S65536 .f32)))
    (broadcastInDim S65536x32 ![0, 1] bcast_S1x32_S65536x32_0_1 (broadcastInDim S1x32 ![1] bcast_S32_S1x32_1 freq))
/-- The input, normalized and scaled. -/
def normed : FVec Ideal S65536x1024 .f32 :=
  mulf (mulf A0 (broadcastInDim S65536x1024 ![0, 1] bcast_S65536x1_S65536x1024_0_1 (Host.rsqrt (addf (Host.divf (broadcastInDim S65536x1 ![0] bcast_S65536_S65536x1_0 (Host.reduceAdd (mulf A0 A0) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 A2))
/-- The three projections side by side. -/
def proj (h : FVec Ideal S65536x1024 .f32) : FVec Ideal S65536x448 .f32 :=
  Host.dotGeneral (φ₁ := .f32) (φ₂ := .f32) dot_S65536x1024_S1024x448_S65536x448_1_0_0_1_n_n none h A3
/-- The latents, normalized and scaled. -/
def lat (y : FVec Ideal S65536x128 .f32) : FVec Ideal S65536x128 .f32 :=
  mulf (mulf y (broadcastInDim S65536x128 ![0, 1] bcast_S65536x1_S65536x128_0_1 (Host.rsqrt (addf (Host.divf (broadcastInDim S65536x1 ![0] bcast_S65536_S65536x1_0 (Host.reduceAdd (mulf y y) (constant S_ .f32 0x00000000#32) reducesTo_S65536x128_S65536_d1 h_S_)) (broadcastInDim S65536x1 ![] bcast_S_S65536x1 (constant S_ .f32 0x43000000#32))) (broadcastInDim S65536x1 ![] bcast_S_S65536x1 (constant S_ .f32 0x358637BD#32)))))) (broadcastInDim S65536x128 ![0, 1] bcast_S1x128_S65536x128_0_1 (broadcastInDim S1x128 ![1] bcast_S128_S1x128_1 A6))
/-- The queries' latents, normalized and scaled. -/
def qlat (y : FVec Ideal S65536x256 .f32) : FVec Ideal S65536x256 .f32 :=
  mulf (mulf y (broadcastInDim S65536x256 ![0, 1] bcast_S65536x1_S65536x256_0_1 (Host.rsqrt (addf (Host.divf (broadcastInDim S65536x1 ![0] bcast_S65536_S65536x1_0 (Host.reduceAdd (mulf y y) (constant S_ .f32 0x00000000#32) reducesTo_S65536x256_S65536_d1 h_S_)) (broadcastInDim S65536x1 ![] bcast_S_S65536x1 (constant S_ .f32 0x43800000#32))) (broadcastInDim S65536x1 ![] bcast_S_S65536x1 (constant S_ .f32 0x358637BD#32)))))) (broadcastInDim S65536x256 ![0, 1] bcast_S1x256_S65536x256_0_1 (broadcastInDim S1x256 ![1] bcast_S256_S1x256_1 A4))
/-- The queries. -/
def que (y : FVec Ideal S65536x256 .f32) : FVec Ideal S65536x8x192 .f32 :=
  Host.dotGeneral (φ₁ := .f32) (φ₂ := .f32) dot_S65536x256_S256x8x192_S65536x8x192_1_0_0_12_n_n none y A5
/-- The queries' rotary part, embedded. -/
def qrope (q : FVec Ideal S65536x8x64 .f32) (co si : FVec Ideal S65536x32 .f32) : FVec Ideal S65536x8x64 .f32 :=
  concatenate S65536x8x64 2 [
    ⟨S65536x8x32, subf (mulf (extractStridedSlice S65536x8x32 ![0, 0, 0] q slices_S65536x8x64_S65536x8x32_0_0_0) (broadcastInDim S65536x8x32 ![0, 1, 2] bcast_S65536x1x32_S65536x8x32_0_1_2 (broadcastInDim S65536x1x32 ![0, 2] bcast_S65536x32_S65536x1x32_0_2 co)))
      (mulf (extractStridedSlice S65536x8x32 ![0, 0, 32] q slices_S65536x8x64_S65536x8x32_0_0_32) (broadcastInDim S65536x8x32 ![0, 1, 2] bcast_S65536x1x32_S65536x8x32_0_1_2 (broadcastInDim S65536x1x32 ![0, 2] bcast_S65536x32_S65536x1x32_0_2 si)))⟩,
    ⟨S65536x8x32, addf (mulf (extractStridedSlice S65536x8x32 ![0, 0, 32] q slices_S65536x8x64_S65536x8x32_0_0_32) (broadcastInDim S65536x8x32 ![0, 1, 2] bcast_S65536x1x32_S65536x8x32_0_1_2 (broadcastInDim S65536x1x32 ![0, 2] bcast_S65536x32_S65536x1x32_0_2 co)))
      (mulf (extractStridedSlice S65536x8x32 ![0, 0, 0] q slices_S65536x8x64_S65536x8x32_0_0_0) (broadcastInDim S65536x8x32 ![0, 1, 2] bcast_S65536x1x32_S65536x8x32_0_1_2 (broadcastInDim S65536x1x32 ![0, 2] bcast_S65536x32_S65536x1x32_0_2 si)))⟩]
    concatenates_S65536x8x32_S65536x8x32_S65536x8x64_d2
/-- The key's rotary part, embedded. -/
def krope (k : FVec Ideal S65536x64 .f32) (co si : FVec Ideal S65536x32 .f32) : FVec Ideal S65536x64 .f32 :=
  concatenate S65536x64 1 [
    ⟨S65536x32, subf (mulf (extractStridedSlice S65536x32 ![0, 0] k slices_S65536x64_S65536x32_0_0) co) (mulf (extractStridedSlice S65536x32 ![0, 32] k slices_S65536x64_S65536x32_0_32) si)⟩,
    ⟨S65536x32, addf (mulf (extractStridedSlice S65536x32 ![0, 32] k slices_S65536x64_S65536x32_0_32) co) (mulf (extractStridedSlice S65536x32 ![0, 0] k slices_S65536x64_S65536x32_0_0) si)⟩]
    concatenates_S65536x32_S65536x32_S65536x64_d1
/-- The queries against the latents. -/
def absorb (q : FVec Ideal S65536x8x192 .f32) : FVec Ideal S65536x8x128 .f32 :=
  transpose S65536x8x128 [2, 0, 1] (Host.dotGeneral (φ₁ := .f32) (φ₂ := .f32) dot_S128x8x128_S65536x8x128_S8x128x65536_2_2_0_0_1_1 none A7
    (extractStridedSlice S65536x8x128 ![0, 0, 0] q slices_S65536x8x192_S65536x8x128_0_0_0)) transposes_S8x128x65536_S65536x8x128_2_0_1
/-- The queries' embedded part, zeros beside it. -/
def qpad (r : FVec Ideal S65536x8x64 .f32) : FVec Ideal S65536x8x128 .f32 :=
  pad S65536x8x128 ![0, 0, 0] ![0, 0, 64] ![0, 0, 0] r (sitofp .f32 (constantI S_ 32 0#32) : FVec Ideal S_ .f32) pads_S65536x8x64_S65536x8x128_000_000_0640 h_S_
/-- The result that holds the queries. -/
def qOut (l p : FVec Ideal S65536x8x128 .f32) : FVec Ideal S128x2048x512 .bf16 :=
  truncf .bf16 (transpose S128x2048x512 [0, 2, 1] (shapeCast S128x512x2048 (mulf (concatenate S65536x8x256 2 [⟨S65536x8x128, l⟩,
      ⟨S65536x8x128, p⟩]
      concatenates_S65536x8x128_S65536x8x128_S65536x8x256_d2) (broadcastInDim S65536x8x256 ![] bcast_S_S65536x8x256 (constant S_ .f32 0x3DD53B95#32)))
    shapeCasts_S65536x8x256_S128x512x2048) transposes_S128x512x2048_S128x2048x512_0_2_1) bitsLt_bf16_f32
/-- The result that holds the keys. -/
def kOut (l : FVec Ideal S65536x128 .f32) (r : FVec Ideal S65536x64 .f32) : FVec Ideal S65536x256 .bf16 :=
  truncf .bf16 (concatenate S65536x256 1 [⟨S65536x128, l⟩,
    ⟨S65536x128, (pad S65536x128 ![0, 0] ![0, 64] ![0, 0] r (sitofp .f32 (constantI S_ 32 0#32) : FVec Ideal S_ .f32) pads_S65536x64_S65536x128_000_0640 h_S_ : FVec Ideal S65536x128 .f32)⟩]
    concatenates_S65536x128_S65536x128_S65536x256_d1) bitsLt_bf16_f32
/-- The result that holds the values. -/
def vOut (l : FVec Ideal S65536x128 .f32) : FVec Ideal S128x144x512 .bf16 :=
  truncf .bf16 (transpose S128x144x512 [0, 2, 1] (shapeCast S128x512x144 (concatenate S65536x144 1 [⟨S65536x128, l⟩,
    ⟨S65536x16, (broadcastInDim S65536x16 ![] bcast_S_S65536x16 (constant S_ .f32 0x3F800000#32) : FVec Ideal S65536x16 .f32)⟩] concatenates_S65536x128_S65536x16_S65536x144_d1)
    shapeCasts_S65536x144_S128x512x144) transposes_S128x512x144_S128x144x512_0_2_1) bitsLt_bf16_f32

variable (t : Fin 65536)
theorem ang_at (f : Fin 32) : ang A1 (ix2 t f) = (FloatOps.sitofp (F := Ideal) .f32 (A1 (ix1 t) : BitVec 32) : EReal) * freq (ix1 f) := by
  unfold ang
  generalize freq = w
  pointwise
theorem normed_at (d : Fin 1024) : normed A0 A2 (ix2 t d) = gnorm 0x44800000#32 (fun k => A0 (ix2 t k)) (fun k => A2 (ix1 k)) d := by
  unfold gnorm
  pointwise [normed]
theorem proj_at (h : Vec Ideal S65536x1024 .f32) (j : Fin 448) : proj A3 h (ix2 t j) = ∑ d : Fin 1024, h (ix2 t d) * A3 (ix2 d j) := by
  pointwise [proj]
theorem lat_at (p : Vec Ideal S65536x448 .f32) (i : Fin 128) : lat A6 (extractStridedSlice S65536x128 ![0, 256] p slices_S65536x448_S65536x128_0_256) (ix2 t i)
    = gnorm 0x43000000#32 (fun k : Fin 128 => p (ix2 t ⟨256 + k.val, by omega⟩)) (fun k => A6 (ix1 k)) i := by
  unfold gnorm
  pointwise [lat]
theorem qlat_at (p : Vec Ideal S65536x448 .f32) (i : Fin 256) : qlat A4 (extractStridedSlice S65536x256 ![0, 0] p slices_S65536x448_S65536x256_0_0) (ix2 t i)
    = gnorm 0x43800000#32 (fun k : Fin 256 => p (ix2 t ⟨k.val, by omega⟩)) (fun k => A4 (ix1 k)) i := by
  unfold gnorm
  pointwise [qlat]
theorem que_at (y : Vec Ideal S65536x256 .f32) (h : Fin 8) (e : Fin 192) : que A5 y (ix3 t h e) = ∑ c : Fin 256, y (ix2 t c) * A5 (ix3 c h e) := by
  pointwise [que]
theorem qrope_at (q : Vec Ideal S65536x8x192 .f32) (co si : Vec Ideal S65536x32 .f32) (h : Fin 8) (i : Fin 64) :
    qrope (extractStridedSlice S65536x8x64 ![0, 0, 128] q slices_S65536x8x192_S65536x8x64_0_0_128) co si (ix3 t h i)
      = rope (fun i => q (ix3 t h ⟨128 + i.val, by omega⟩)) (fun f => co (ix2 t f)) (fun f => si (ix2 t f)) i := by
  unfold rope
  pointwise [qrope]
  have e : ¬i.val < 32 → 128 + (32 + (i.val - 32)) = 128 + i.val := fun h => by omega
  split_ifs with h1
  all_goals first | rfl | simp only [e h1]
theorem krope_at (p : Vec Ideal S65536x448 .f32) (co si : Vec Ideal S65536x32 .f32) (i : Fin 64) :
    krope (extractStridedSlice S65536x64 ![0, 384] p slices_S65536x448_S65536x64_0_384) co si (ix2 t i)
      = rope (fun i => p (ix2 t ⟨384 + i.val, by omega⟩)) (fun f => co (ix2 t f)) (fun f => si (ix2 t f)) i := by
  unfold rope
  pointwise [krope]
  have e : ¬i.val < 32 → 384 + (32 + (i.val - 32)) = 384 + i.val := fun h => by omega
  split_ifs with h1
  all_goals first | rfl | simp only [e h1]
theorem absorb_at (q : Vec Ideal S65536x8x192 .f32) (h : Fin 8) (i : Fin 128) :
    absorb A7 q (ix3 t h i) = ∑ n : Fin 128, A7 (ix3 i h n) * q (ix3 t h ⟨n.val, by omega⟩) := by
  pointwise [absorb]
theorem pad0 : FloatOps.sitofp (F := Ideal) .f32 (0#32) = (0 : EReal) := by
  show ((((0#32).toInt : ℤ) : ℝ) : EReal) = 0
  simp
theorem kOut_at (l : Vec Ideal S65536x128 .f32) (r : Vec Ideal S65536x64 .f32) (i : Fin 256) :
    kOut l r (ix2 t i) = if h : i.val < 128 then l (ix2 t ⟨i.val, h⟩) else if h2 : i.val - 128 < 64 then r (ix2 t ⟨i.val - 128, h2⟩) else 0 := by
  pointwise [kOut]
  rw [pad0]
theorem vOut_at (l : Vec Ideal S65536x128 .f32) (b : Fin 128) (i : Fin 144) (s : Fin 512) :
    vOut l (ix3 b i s) = if h : i.val < 128 then l (ix2 ⟨b.val * 512 + s.val, by omega⟩ ⟨i.val, h⟩) else Ideal.ofBits .f32 0x3F800000#32 := by
  pointwise [vOut]
theorem qpad_at (r : Vec Ideal S65536x8x64 .f32) (h : Fin 8) (i : Fin 128) :
    qpad r (ix3 t h i) = if e : i.val < 64 then r (ix3 t h ⟨i.val, e⟩) else 0 := by
  pointwise [qpad]
  rw [pad0]
theorem qOut_at (l p : Vec Ideal S65536x8x128 .f32) (b : Fin 128) (i : Fin 2048) (s : Fin 512) :
    qOut l p (ix3 b i s) = (if h : i.val % 256 < 128 then l (ix3 ⟨b.val * 512 + s.val, by omega⟩ ⟨i.val / 256, by omega⟩ ⟨i.val % 256, h⟩)
      else p (ix3 ⟨b.val * 512 + s.val, by omega⟩ ⟨i.val / 256, by omega⟩ ⟨i.val % 256 - 128, by omega⟩)) * Ideal.ofBits .f32 0x3DD53B95#32 := by
  pointwise [qOut]
end Cert.Proof.Mla.Ref
end
-- ==== Proof.MlaAlg.lean ====
module

public import proofs.«01_k».proof.Defs
public import proofs.«01_k».proof.Proof.MlaArr
public import proofs.«01_k».proof.Proof.MlaRef
public import proofs.«01_k».proof.Proof.Gen.Kernel5Ideal.Value

@[expose] public section
set_option maxRecDepth 16384

/-! The kernel and the reference of the attention's projections end at the same arrays. -/

noncomputable section
namespace Cert.Proof.Mla
open Idealize.ShloMosaic Idealize.ShloMosaic.TcCoe Idealize.SL.Sem

section ref
open Cert.Reference5Ideal Cert.Reference5Ideal.Gen
variable (A0 : Vec Ideal S65536x1024 .f32) (A1 : Vec Ideal S65536 .i32) (A2 : Vec Ideal S1024 .f32) (A3 : Vec Ideal S1024x448 .f32)
  (A4 : Vec Ideal S256 .f32) (A5 : Vec Ideal S256x8x192 .f32) (A6 : Vec Ideal S128 .f32) (A7 : Vec Ideal S128x8x128 .f32)
/-- The reference's projections. -/
def refU : FVec Ideal S65536x448 .f32 := Ref.proj A3 (Ref.normed A0 A2)
/-- The reference's latents. -/
def refLat : FVec Ideal S65536x128 .f32 := Ref.lat A6 (extractStridedSlice S65536x128 ![0, 256] (refU A0 A2 A3) slices_S65536x448_S65536x128_0_256)
/-- The reference's queries. -/
def refQue : FVec Ideal S65536x8x192 .f32 :=
  Ref.que A5 (Ref.qlat A4 (extractStridedSlice S65536x256 ![0, 0] (refU A0 A2 A3) slices_S65536x448_S65536x256_0_0))
/-- The reference's three results. -/
def refQ : FVec Ideal S128x2048x512 .bf16 := Ref.qOut (Ref.absorb A7 (refQue A0 A2 A3 A4 A5))
  (Ref.qpad (Ref.qrope (extractStridedSlice S65536x8x64 ![0, 0, 128] (refQue A0 A2 A3 A4 A5) slices_S65536x8x192_S65536x8x64_0_0_128) (Host.cos (Ref.ang A1)) (Host.sin (Ref.ang A1))))
def refK : FVec Ideal S65536x256 .bf16 := Ref.kOut (refLat A0 A2 A3 A6)
  (Ref.krope (extractStridedSlice S65536x64 ![0, 384] (refU A0 A2 A3) slices_S65536x448_S65536x64_0_384) (Host.cos (Ref.ang A1)) (Host.sin (Ref.ang A1)))
def refV : FVec Ideal S128x144x512 .bf16 := Ref.vOut (refLat A0 A2 A3 A6)

variable (t : Fin 65536)
theorem u_eq (j : Fin 448) : refU A0 A2 A3 (ix2 t j) = uAt A0 A2 A3 t j := by
  refine (Ref.proj_at A3 t _ j).trans ?_
  exact Finset.sum_congr rfl fun d _ => congrArg (· * _) (Ref.normed_at A0 A2 t d)
theorem lat_eq (i : Fin 128) : refLat A0 A2 A3 A6 (ix2 t i) = latAt A0 A2 A3 A6 t i :=
  (Ref.lat_at A6 t _ i).trans (gnorm_congr _ i (fun k => u_eq A0 A2 A3 t _) fun _ => rfl)
theorem que_eq (h : Fin 8) (e : Fin 192) : refQue A0 A2 A3 A4 A5 (ix3 t h e) = queAt A0 A2 A3 A4 A5 t h e :=
  (Ref.que_at A5 t _ h e).trans (Finset.sum_congr rfl fun k _ => congrArg (· * _) ((Ref.qlat_at A4 t _ k).trans
    (gnorm_congr _ k (fun k => u_eq A0 A2 A3 t _) fun _ => rfl)))
theorem freq_eq : Ref.freq = freq := rfl
theorem cos_eq (f : Fin 32) : (Host.cos (Ref.ang A1) : FVec Ideal S65536x32 .f32) (ix2 t f) = Ideal.cos (angAt A1 t f) :=
  congrArg Ideal.cos ((Ref.ang_at A1 t f).trans (congrArg (fun w : Vec Ideal S32 .f32 => _ * w (ix1 f)) freq_eq))
theorem sin_eq (f : Fin 32) : (Host.sin (Ref.ang A1) : FVec Ideal S65536x32 .f32) (ix2 t f) = Ideal.sin (angAt A1 t f) :=
  congrArg Ideal.sin ((Ref.ang_at A1 t f).trans (congrArg (fun w : Vec Ideal S32 .f32 => _ * w (ix1 f)) freq_eq))
theorem key_eq (i : Fin 256) : refK A0 A1 A2 A3 A6 (ix2 t i) = keyAt A0 A1 A2 A3 A6 t i := by
  refine (Ref.kOut_at t _ _ i).trans ?_
  unfold keyAt
  by_cases h : i.val < 128
  · rw [dif_pos h, dif_pos h]
    exact lat_eq A0 A2 A3 A6 t _
  · rw [dif_neg h, dif_neg h]
    by_cases h2 : i.val - 128 < 64
    · rw [dif_pos h2, dif_pos h2, Ref.krope_at]
      simp only [u_eq, cos_eq, sin_eq]
      rfl
    · rw [dif_neg h2, dif_neg h2]
theorem qry_eq (b : Fin 128) (r : Fin 2048) (s : Fin 512) : refQ A0 A1 A2 A3 A4 A5 A7 (ix3 b r s)
    = qryAt A0 A1 A2 A3 A4 A5 A7 ⟨b.val * 512 + s.val, by omega⟩ ⟨r.val / 256, by omega⟩ ⟨r.val % 256, Nat.mod_lt _ (by decide)⟩ := by
  refine (Ref.qOut_at _ _ b r s).trans (congrArg (· * _) ?_)
  by_cases h : r.val % 256 < 128
  · rw [dif_pos h, dif_pos h, Ref.absorb_at]
    simp only [que_eq]
  · rw [dif_neg h, dif_neg h, Ref.qpad_at]
    by_cases h2 : r.val % 256 - 128 < 64
    · rw [dif_pos h2, dif_pos h2, Ref.qrope_at]
      simp only [que_eq, cos_eq, sin_eq]
      rfl
    · rw [dif_neg h2, dif_neg h2]
theorem val_eq (b : Fin 128) (i : Fin 144) (s : Fin 512) : refV A0 A2 A3 A6 (ix3 b i s) = valAt A0 A2 A3 A6 ⟨b.val * 512 + s.val, by omega⟩ i := by
  refine (Ref.vOut_at _ b i s).trans ?_
  simp only [lat_eq]
  rfl
theorem ix_ex {n k : ℕ} (i : (⟨2, ![n, k]⟩ : Shape).Idx) : ∃ (x : Fin n) (y : Fin k), i = ix2 x y := ⟨_, _, ix_eq i⟩
theorem ix_ex3 {a b k : ℕ} (i : (⟨3, ![a, b, k]⟩ : Shape).Idx) : ∃ (x : Fin a) (y : Fin b) (z : Fin k), i = ix3 x y z :=
  ⟨⟨(i 0).val, (i 0).isLt⟩, ⟨(i 1).val, (i 1).isLt⟩, ⟨(i 2).val, (i 2).isLt⟩, by
    funext a
    match a with
    | ⟨0, _⟩ => rfl
    | ⟨1, _⟩ => rfl
    | ⟨2, _⟩ => rfl⟩
theorem q_ref : refQ A0 A1 A2 A3 A4 A5 A7 = qRes A0 A1 A2 A3 A4 A5 A7 := by
  funext i
  obtain ⟨x, y, z, rfl⟩ := ix_ex3 i
  exact qry_eq A0 A1 A2 A3 A4 A5 A7 x y z
theorem k_ref : refK A0 A1 A2 A3 A6 = kRes A0 A1 A2 A3 A6 := by
  funext i
  obtain ⟨x, y, rfl⟩ := ix_ex i
  exact key_eq A0 A1 A2 A3 A6 x y
theorem v_ref : refV A0 A2 A3 A6 = vRes A0 A2 A3 A6 := by
  funext i
  obtain ⟨x, y, z, rfl⟩ := ix_ex3 i
  exact val_eq A0 A2 A3 A6 x y z
end ref

/-- The reference runs and leaves its arguments. -/
theorem frame_ref : Cert.quiescent_Reference5Ideal := fun m g _ =>
  (θ_run Cert.Reference5Ideal.defs _ _).mono (fun r h => ⟨fun c => (h c).2.2.2, Idealize.ShloMosaic.sem_eq_zero_of_no_sems (by decide) r.2⟩) (Cert.Reference5Ideal.Value.run (F := Ideal) m g)

theorem algebraic : Cert.algebraic_Kernel5Ideal_Reference5Ideal := by
  intro m g m' g' _ hagree
  refine ⟨fun c => qRes (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg7)),
    fun c => kRes (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg6)),
    fun c => vRes (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg6)),
    (θ_run Cert.Kernel5Ideal.defs _ _).mono (fun r h c => ?_) (Cert.Kernel5Ideal.Value.run_blocks m g), ?_⟩
  · obtain ⟨e0, e1, e2, ea⟩ := h c
    exact ⟨e0.trans (arr_q m c), e1.trans (arr_k m c), e2.trans (arr_v m c), ea⟩
  · refine (θ_run Cert.Reference5Ideal.defs _ _).mono (fun r h c => ?_) (Cert.Reference5Ideal.Value.run m' g')
    obtain ⟨e0, e1, e2, ea⟩ := h c
    obtain ⟨q0, q1, q2, q3, q4, q5, q6, q7⟩ := hagree c
    unfold Cert.Reference5Ideal.Value.res_main_v103 at e0
    unfold Cert.Reference5Ideal.Value.res_main_v104 at e1
    rw [q0, q1, q2, q3, q4, q5, q7] at e0
    rw [q0, q1, q2, q3, q6] at e1
    rw [q0, q2, q3, q6] at e2
    exact ⟨e0.trans (q_ref _ _ _ _ _ _ _), e1.trans (k_ref _ _ _ _ _), e2.trans (v_ref _ _ _ _), ea⟩

end Cert.Proof.Mla
end
-- ==== Proof.lean ====
module

public import proofs.«01_k».proof.Defs
public import proofs.«01_k».proof.Proof.Alg
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal
public import proofs.«01_k».proof.Proof.InAlg
public import proofs.«01_k».proof.Proof.PostAlg
public import proofs.«01_k».proof.Proof.MlaAlg
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Pre_finite2

@[expose] public section

noncomputable section

namespace Cert.Proof

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel5.Gen.facts, Cert.Kernel5Ideal.Gen.facts, Cert.Reference5Ideal.Gen.facts,
    Pre.facts, Cert.Pre_finite2.Gen.facts,
    Attn.frame_kernel, Attn.frame_ideal, fun m g _ => Attn.frame_ideal m g trivial, Ref.frame, fun m g _ => Ref.frame m g trivial,
    fun m g _ => Cert.Kernel2.Gen.frame m g, fun m g _ => Cert.Kernel2Ideal.Gen.frame m g, fun m g _ => Cert.Kernel2Ideal.Gen.frame m g,
    In.frame_ref, fun m g _ => In.frame_ref m g trivial,
    fun m g _ => Cert.Kernel3.Gen.frame m g, fun m g _ => Cert.Kernel3Ideal.Gen.frame m g, Post.frame_ref,
    fun m g _ => Cert.Kernel5.Gen.frame m g, fun m g _ => Cert.Kernel5Ideal.Gen.frame m g, Mla.frame_ref,
    trivial, algebraic, trivial, In.algebraic, trivial, Post.algebraic, trivial, Mla.algebraic⟩

end Cert.Proof

end
